-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x1024 : Shape := ⟨2, ![1024, 1024]⟩
abbrev S256x1024 : Shape := ⟨2, ![256, 1024]⟩
abbrev S64x1024 : Shape := ⟨2, ![64, 1024]⟩
abbrev S2x7x2x256x256 : Shape := ⟨5, ![2, 7, 2, 256, 256]⟩
abbrev S2x4x64x512 : Shape := ⟨4, ![2, 4, 64, 512]⟩
abbrev S6 : Shape := ⟨1, ![6]⟩
abbrev S2x7x2 : Shape := ⟨3, ![2, 7, 2]⟩
abbrev S2x4 : Shape := ⟨2, ![2, 4]⟩
abbrev S2x7x4 : Shape := ⟨3, ![2, 7, 4]⟩
abbrev S1 : Shape := ⟨1, ![1]⟩
abbrev S_ : Shape := ⟨0, ![]⟩
abbrev S1x1x1x256x256 : Shape := ⟨5, ![1, 1, 1, 256, 256]⟩
abbrev S256x256 : Shape := ⟨2, ![256, 256]⟩
abbrev S1x1x1 : Shape := ⟨3, ![1, 1, 1]⟩
abbrev S1x1 : Shape := ⟨2, ![1, 1]⟩
abbrev S1x1x64x512 : Shape := ⟨4, ![1, 1, 64, 512]⟩
abbrev S64x512 : Shape := ⟨2, ![64, 512]⟩
abbrev S1024x512 : Shape := ⟨2, ![1024, 512]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .local _ .vmem, ⟨0, _⟩ => ⟨S2048x1024, .f32⟩
  | .local _ .vmem, ⟨1, _⟩ => ⟨S256x1024, .f32⟩
  | .local _ .vmem, ⟨2, _⟩ => ⟨S64x1024, .f32⟩
  | .local _ .vmem, ⟨3, _⟩ => ⟨S2x7x2x256x256, .f32⟩
  | .local _ .vmem, ⟨4, _⟩ => ⟨S2x7x2x256x256, .f32⟩
  | .local _ .vmem, ⟨5, _⟩ => ⟨S2x4x64x512, .f32⟩
  | .local _ .vmem, ⟨6, _⟩ => ⟨S2048x1024, .f32⟩
  | .local _ .vmem, ⟨7, _⟩ => ⟨S1024x1024, .f32⟩
  | _, _ => ⟨S2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 207 → Bool
  | ⟨i, _⟩ => dmaSemScopedAt i

abbrev sig : RefSig :=
  (ofTc nBuf bufTy 1 207 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c0_i32_101 : BitVec 32 := 0#32
  let v177 : BitVec 32 := Scalar.subi v75 c0_i32_101
  let c8_i32_102 : BitVec 32 := 8#32
  let c0_i32_103 : BitVec 32 := 0#32
  let v178 : BitVec 1 := Scalar.cmpi .eq c8_i32_102 c0_i32_103
  let c1_i32_104 : BitVec 32 := 1#32
  let v179 : BitVec 32 := Scalar.select v178 c1_i32_104 c8_i32_102
  let v180 : BitVec 32 := Scalar.remsi v177 v179
  let c0_i32_106 : BitVec 32 := 0#32
  let v182 : BitVec 1 := Scalar.cmpi .slt v180 c0_i32_106
  let c0_i32_107 : BitVec 32 := 0#32
  let v183 : BitVec 1 := Scalar.cmpi .slt v179 c0_i32_107
  let v184 : BitVec 1 := Scalar.xori v182 v183
  let c0_i32_105 : BitVec 32 := 0#32
  let v181 : BitVec 1 := Scalar.cmpi .ne v180 c0_i32_105
  let v185 : BitVec 1 := Scalar.andi v184 v181
  let v186 : BitVec 32 := Scalar.addi v180 v179
  let v187 : BitVec 32 := Scalar.select v185 v186 v180
  let c256_i32_108 : BitVec 32 := 256#32
  let v188 : BitVec 32 := Scalar.muli v187 c256_i32_108
  let c0_i32_115 : BitVec 32 := 0#32
  ![v188.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c0_i32_116 : BitVec 32 := 0#32
  let v194 : BitVec 32 := Scalar.subi v75 c0_i32_116
  let c8_i32_117 : BitVec 32 := 8#32
  let c0_i32_118 : BitVec 32 := 0#32
  let v195 : BitVec 1 := Scalar.cmpi .eq c8_i32_117 c0_i32_118
  let c1_i32_119 : BitVec 32 := 1#32
  let v196 : BitVec 32 := Scalar.select v195 c1_i32_119 c8_i32_117
  let v197 : BitVec 32 := Scalar.remsi v194 v196
  let c0_i32_121 : BitVec 32 := 0#32
  let v199 : BitVec 1 := Scalar.cmpi .slt v197 c0_i32_121
  let c0_i32_122 : BitVec 32 := 0#32
  let v200 : BitVec 1 := Scalar.cmpi .slt v196 c0_i32_122
  let v201 : BitVec 1 := Scalar.xori v199 v200
  let c0_i32_120 : BitVec 32 := 0#32
  let v198 : BitVec 1 := Scalar.cmpi .ne v197 c0_i32_120
  let v202 : BitVec 1 := Scalar.andi v201 v198
  let v203 : BitVec 32 := Scalar.addi v197 v196
  let v204 : BitVec 32 := Scalar.select v202 v203 v197
  let c256_i32_123 : BitVec 32 := 256#32
  let v205 : BitVec 32 := Scalar.muli v204 c256_i32_123
  let c256_i32_130 : BitVec 32 := 256#32
  ![v205.toNat, 256]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c0_i32_131 : BitVec 32 := 0#32
  let v211 : BitVec 32 := Scalar.addi v75 c0_i32_131
  let c2_i32_132 : BitVec 32 := 2#32
  let v212 : BitVec 32 := Scalar.addi v211 c2_i32_132
  let c8_i32_133 : BitVec 32 := 8#32
  let c0_i32_134 : BitVec 32 := 0#32
  let v213 : BitVec 1 := Scalar.cmpi .eq c8_i32_133 c0_i32_134
  let c1_i32_135 : BitVec 32 := 1#32
  let v214 : BitVec 32 := Scalar.select v213 c1_i32_135 c8_i32_133
  let v215 : BitVec 32 := Scalar.remsi v212 v214
  let c0_i32_137 : BitVec 32 := 0#32
  let v217 : BitVec 1 := Scalar.cmpi .slt v215 c0_i32_137
  let c0_i32_138 : BitVec 32 := 0#32
  let v218 : BitVec 1 := Scalar.cmpi .slt v214 c0_i32_138
  let v219 : BitVec 1 := Scalar.xori v217 v218
  let c0_i32_136 : BitVec 32 := 0#32
  let v216 : BitVec 1 := Scalar.cmpi .ne v215 c0_i32_136
  let v220 : BitVec 1 := Scalar.andi v219 v216
  let v221 : BitVec 32 := Scalar.addi v215 v214
  let v222 : BitVec 32 := Scalar.select v220 v221 v215
  let c256_i32_139 : BitVec 32 := 256#32
  let v223 : BitVec 32 := Scalar.muli v222 c256_i32_139
  let c512_i32 : BitVec 32 := 512#32
  ![v223.toNat, 512]
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c0_i32_146 : BitVec 32 := 0#32
  let v229 : BitVec 32 := Scalar.addi v75 c0_i32_146
  let c2_i32_147 : BitVec 32 := 2#32
  let v230 : BitVec 32 := Scalar.addi v229 c2_i32_147
  let c8_i32_148 : BitVec 32 := 8#32
  let c0_i32_149 : BitVec 32 := 0#32
  let v231 : BitVec 1 := Scalar.cmpi .eq c8_i32_148 c0_i32_149
  let c1_i32_150 : BitVec 32 := 1#32
  let v232 : BitVec 32 := Scalar.select v231 c1_i32_150 c8_i32_148
  let v233 : BitVec 32 := Scalar.remsi v230 v232
  let c0_i32_152 : BitVec 32 := 0#32
  let v235 : BitVec 1 := Scalar.cmpi .slt v233 c0_i32_152
  let c0_i32_153 : BitVec 32 := 0#32
  let v236 : BitVec 1 := Scalar.cmpi .slt v232 c0_i32_153
  let v237 : BitVec 1 := Scalar.xori v235 v236
  let c0_i32_151 : BitVec 32 := 0#32
  let v234 : BitVec 1 := Scalar.cmpi .ne v233 c0_i32_151
  let v238 : BitVec 1 := Scalar.andi v237 v234
  let v239 : BitVec 32 := Scalar.addi v233 v232
  let v240 : BitVec 32 := Scalar.select v238 v239 v233
  let c256_i32_154 : BitVec 32 := 256#32
  let v241 : BitVec 32 := Scalar.muli v240 c256_i32_154
  let c768_i32 : BitVec 32 := 768#32
  ![v241.toNat, 768]
def k0_dev1 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_214 : BitVec 32 := 1#32
  let v311 : BitVec 32 := Scalar.muli v151 c1_i32_214
  let v312 : BitVec 32 := Scalar.addi c0_i32_215 v311
  v312.toNat
def k0_dev2 (d0 : Dev nD) : Nat :=
  let c0_i32_218 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_217 : BitVec 32 := 1#32
  let v313 : BitVec 32 := Scalar.muli v113 c1_i32_217
  let v314 : BitVec 32 := Scalar.addi c0_i32_218 v313
  v314.toNat
def k0_dev3 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_189 : BitVec 32 := 1#32
  let v272 : BitVec 32 := Scalar.addi v19 c1_i32_189
  let c4_i32_190 : BitVec 32 := 4#32
  let c0_i32_191 : BitVec 32 := 0#32
  let v273 : BitVec 1 := Scalar.cmpi .eq c4_i32_190 c0_i32_191
  let c1_i32_192 : BitVec 32 := 1#32
  let v274 : BitVec 32 := Scalar.select v273 c1_i32_192 c4_i32_190
  let v275 : BitVec 32 := Scalar.remsi v272 v274
  let c0_i32_194 : BitVec 32 := 0#32
  let v277 : BitVec 1 := Scalar.cmpi .slt v275 c0_i32_194
  let c0_i32_195 : BitVec 32 := 0#32
  let v278 : BitVec 1 := Scalar.cmpi .slt v274 c0_i32_195
  let v279 : BitVec 1 := Scalar.xori v277 v278
  let c0_i32_193 : BitVec 32 := 0#32
  let v276 : BitVec 1 := Scalar.cmpi .ne v275 c0_i32_193
  let v280 : BitVec 1 := Scalar.andi v279 v276
  let v281 : BitVec 32 := Scalar.addi v275 v274
  let v282 : BitVec 32 := Scalar.select v280 v281 v275
  let c8_i32_196 : BitVec 32 := 8#32
  let v283 : BitVec 32 := Scalar.muli v282 c8_i32_196
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v284 : BitVec 32 := Scalar.addi v283 v29
  let c1_i32_220 : BitVec 32 := 1#32
  let v315 : BitVec 32 := Scalar.muli v284 c1_i32_220
  let v316 : BitVec 32 := Scalar.addi c0_i32_221 v315
  v316.toNat
def k0_dev4 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_197 : BitVec 32 := 2#32
  let v285 : BitVec 32 := Scalar.addi v19 c2_i32_197
  let c4_i32_198 : BitVec 32 := 4#32
  let c0_i32_199 : BitVec 32 := 0#32
  let v286 : BitVec 1 := Scalar.cmpi .eq c4_i32_198 c0_i32_199
  let c1_i32_200 : BitVec 32 := 1#32
  let v287 : BitVec 32 := Scalar.select v286 c1_i32_200 c4_i32_198
  let v288 : BitVec 32 := Scalar.remsi v285 v287
  let c0_i32_202 : BitVec 32 := 0#32
  let v290 : BitVec 1 := Scalar.cmpi .slt v288 c0_i32_202
  let c0_i32_203 : BitVec 32 := 0#32
  let v291 : BitVec 1 := Scalar.cmpi .slt v287 c0_i32_203
  let v292 : BitVec 1 := Scalar.xori v290 v291
  let c0_i32_201 : BitVec 32 := 0#32
  let v289 : BitVec 1 := Scalar.cmpi .ne v288 c0_i32_201
  let v293 : BitVec 1 := Scalar.andi v292 v289
  let v294 : BitVec 32 := Scalar.addi v288 v287
  let v295 : BitVec 32 := Scalar.select v293 v294 v288
  let c8_i32_204 : BitVec 32 := 8#32
  let v296 : BitVec 32 := Scalar.muli v295 c8_i32_204
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v297 : BitVec 32 := Scalar.addi v296 v29
  let c1_i32_223 : BitVec 32 := 1#32
  let v317 : BitVec 32 := Scalar.muli v297 c1_i32_223
  let v318 : BitVec 32 := Scalar.addi c0_i32_224 v317
  v318.toNat
def k0_dev5 (d0 : Dev nD) : Nat :=
  let c0_i32_227 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_205 : BitVec 32 := 3#32
  let v298 : BitVec 32 := Scalar.addi v19 c3_i32_205
  let c4_i32_206 : BitVec 32 := 4#32
  let c0_i32_207 : BitVec 32 := 0#32
  let v299 : BitVec 1 := Scalar.cmpi .eq c4_i32_206 c0_i32_207
  let c1_i32_208 : BitVec 32 := 1#32
  let v300 : BitVec 32 := Scalar.select v299 c1_i32_208 c4_i32_206
  let v301 : BitVec 32 := Scalar.remsi v298 v300
  let c0_i32_210 : BitVec 32 := 0#32
  let v303 : BitVec 1 := Scalar.cmpi .slt v301 c0_i32_210
  let c0_i32_211 : BitVec 32 := 0#32
  let v304 : BitVec 1 := Scalar.cmpi .slt v300 c0_i32_211
  let v305 : BitVec 1 := Scalar.xori v303 v304
  let c0_i32_209 : BitVec 32 := 0#32
  let v302 : BitVec 1 := Scalar.cmpi .ne v301 c0_i32_209
  let v306 : BitVec 1 := Scalar.andi v305 v302
  let v307 : BitVec 32 := Scalar.addi v301 v300
  let v308 : BitVec 32 := Scalar.select v306 v307 v301
  let c8_i32_212 : BitVec 32 := 8#32
  let v309 : BitVec 32 := Scalar.muli v308 c8_i32_212
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v310 : BitVec 32 := Scalar.addi v309 v29
  let c1_i32_226 : BitVec 32 := 1#32
  let v319 : BitVec 32 := Scalar.muli v310 c1_i32_226
  let v320 : BitVec 32 := Scalar.addi c0_i32_227 v319
  v320.toNat
def k0_dev6 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_241 : BitVec 32 := 1#32
  let v321 : BitVec 32 := Scalar.muli v113 c1_i32_241
  let v322 : BitVec 32 := Scalar.addi c0_i32_242 v321
  v322.toNat
def k0_dev7 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_259 : BitVec 32 := 1#32
  let v331 : BitVec 32 := Scalar.muli v113 c1_i32_259
  let v332 : BitVec 32 := Scalar.addi c0_i32_260 v331
  v332.toNat
def k0_dev8 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_277 : BitVec 32 := 1#32
  let v341 : BitVec 32 := Scalar.muli v151 c1_i32_277
  let v342 : BitVec 32 := Scalar.addi c0_i32_278 v341
  v342.toNat
def k0_dev9 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_295 : BitVec 32 := 1#32
  let v351 : BitVec 32 := Scalar.muli v151 c1_i32_295
  let v352 : BitVec 32 := Scalar.addi c0_i32_296 v351
  v352.toNat
def k0_off5 (d0 : Dev nD) (c1_i32_324 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let v373 : BitVec 32 := Scalar.subi v75 c1_i32_324
  let c8_i32_325 : BitVec 32 := 8#32
  let c0_i32_326 : BitVec 32 := 0#32
  let v374 : BitVec 1 := Scalar.cmpi .eq c8_i32_325 c0_i32_326
  let c1_i32_327 : BitVec 32 := 1#32
  let v375 : BitVec 32 := Scalar.select v374 c1_i32_327 c8_i32_325
  let v376 : BitVec 32 := Scalar.remsi v373 v375
  let c0_i32_329 : BitVec 32 := 0#32
  let v378 : BitVec 1 := Scalar.cmpi .slt v376 c0_i32_329
  let c0_i32_330 : BitVec 32 := 0#32
  let v379 : BitVec 1 := Scalar.cmpi .slt v375 c0_i32_330
  let v380 : BitVec 1 := Scalar.xori v378 v379
  let c0_i32_328 : BitVec 32 := 0#32
  let v377 : BitVec 1 := Scalar.cmpi .ne v376 c0_i32_328
  let v381 : BitVec 1 := Scalar.andi v380 v377
  let v382 : BitVec 32 := Scalar.addi v376 v375
  let v383 : BitVec 32 := Scalar.select v381 v382 v376
  let c256_i32_331 : BitVec 32 := 256#32
  let v384 : BitVec 32 := Scalar.muli v383 c256_i32_331
  let v385 : Index := Scalar.indexCast v384
  let c0_332 : Index := 0#32
  ![v385.toNat, 0]
def k0_dev10 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_349 : BitVec 32 := 1#32
  let v391 : BitVec 32 := Scalar.muli v113 c1_i32_349
  let v392 : BitVec 32 := Scalar.addi c0_i32_350 v391
  v392.toNat
def k0_off6 (d0 : Dev nD) (c1_i32_378 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let v411 : BitVec 32 := Scalar.addi v75 c1_i32_378
  let c2_i32_379 : BitVec 32 := 2#32
  let v412 : BitVec 32 := Scalar.addi v411 c2_i32_379
  let c8_i32_380 : BitVec 32 := 8#32
  let c0_i32_381 : BitVec 32 := 0#32
  let v413 : BitVec 1 := Scalar.cmpi .eq c8_i32_380 c0_i32_381
  let c1_i32_382 : BitVec 32 := 1#32
  let v414 : BitVec 32 := Scalar.select v413 c1_i32_382 c8_i32_380
  let v415 : BitVec 32 := Scalar.remsi v412 v414
  let c0_i32_384 : BitVec 32 := 0#32
  let v417 : BitVec 1 := Scalar.cmpi .slt v415 c0_i32_384
  let c0_i32_385 : BitVec 32 := 0#32
  let v418 : BitVec 1 := Scalar.cmpi .slt v414 c0_i32_385
  let v419 : BitVec 1 := Scalar.xori v417 v418
  let c0_i32_383 : BitVec 32 := 0#32
  let v416 : BitVec 1 := Scalar.cmpi .ne v415 c0_i32_383
  let v420 : BitVec 1 := Scalar.andi v419 v416
  let v421 : BitVec 32 := Scalar.addi v415 v414
  let v422 : BitVec 32 := Scalar.select v420 v421 v415
  let c256_i32_386 : BitVec 32 := 256#32
  let v423 : BitVec 32 := Scalar.muli v422 c256_i32_386
  let v424 : Index := Scalar.indexCast v423
  let c512 : Index := 512#32
  ![v424.toNat, 512]
def k0_dev11 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_404 : BitVec 32 := 1#32
  let v430 : BitVec 32 := Scalar.muli v151 c1_i32_404
  let v431 : BitVec 32 := Scalar.addi c0_i32_405 v430
  v431.toNat
def k0_off7 (d0 : Dev nD) (c1_i32_433 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let v450 : BitVec 32 := Scalar.subi v75 c1_i32_433
  let c8_i32_434 : BitVec 32 := 8#32
  let c0_i32_435 : BitVec 32 := 0#32
  let v451 : BitVec 1 := Scalar.cmpi .eq c8_i32_434 c0_i32_435
  let c1_i32_436 : BitVec 32 := 1#32
  let v452 : BitVec 32 := Scalar.select v451 c1_i32_436 c8_i32_434
  let v453 : BitVec 32 := Scalar.remsi v450 v452
  let c0_i32_438 : BitVec 32 := 0#32
  let v455 : BitVec 1 := Scalar.cmpi .slt v453 c0_i32_438
  let c0_i32_439 : BitVec 32 := 0#32
  let v456 : BitVec 1 := Scalar.cmpi .slt v452 c0_i32_439
  let v457 : BitVec 1 := Scalar.xori v455 v456
  let c0_i32_437 : BitVec 32 := 0#32
  let v454 : BitVec 1 := Scalar.cmpi .ne v453 c0_i32_437
  let v458 : BitVec 1 := Scalar.andi v457 v454
  let v459 : BitVec 32 := Scalar.addi v453 v452
  let v460 : BitVec 32 := Scalar.select v458 v459 v453
  let c256_i32_440 : BitVec 32 := 256#32
  let v461 : BitVec 32 := Scalar.muli v460 c256_i32_440
  let v462 : Index := Scalar.indexCast v461
  let c256 : Index := 256#32
  ![v462.toNat, 256]
def k0_dev12 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_458 : BitVec 32 := 1#32
  let v468 : BitVec 32 := Scalar.muli v113 c1_i32_458
  let v469 : BitVec 32 := Scalar.addi c0_i32_459 v468
  v469.toNat
def k0_off8 (d0 : Dev nD) (c1_i32_487 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let v488 : BitVec 32 := Scalar.addi v75 c1_i32_487
  let c2_i32_488 : BitVec 32 := 2#32
  let v489 : BitVec 32 := Scalar.addi v488 c2_i32_488
  let c8_i32_489 : BitVec 32 := 8#32
  let c0_i32_490 : BitVec 32 := 0#32
  let v490 : BitVec 1 := Scalar.cmpi .eq c8_i32_489 c0_i32_490
  let c1_i32_491 : BitVec 32 := 1#32
  let v491 : BitVec 32 := Scalar.select v490 c1_i32_491 c8_i32_489
  let v492 : BitVec 32 := Scalar.remsi v489 v491
  let c0_i32_493 : BitVec 32 := 0#32
  let v494 : BitVec 1 := Scalar.cmpi .slt v492 c0_i32_493
  let c0_i32_494 : BitVec 32 := 0#32
  let v495 : BitVec 1 := Scalar.cmpi .slt v491 c0_i32_494
  let v496 : BitVec 1 := Scalar.xori v494 v495
  let c0_i32_492 : BitVec 32 := 0#32
  let v493 : BitVec 1 := Scalar.cmpi .ne v492 c0_i32_492
  let v497 : BitVec 1 := Scalar.andi v496 v493
  let v498 : BitVec 32 := Scalar.addi v492 v491
  let v499 : BitVec 32 := Scalar.select v497 v498 v492
  let c256_i32_495 : BitVec 32 := 256#32
  let v500 : BitVec 32 := Scalar.muli v499 c256_i32_495
  let v501 : Index := Scalar.indexCast v500
  let c768 : Index := 768#32
  ![v501.toNat, 768]
def k0_dev13 (d0 : Dev nD) : Nat :=
  let c0_i32_514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_513 : BitVec 32 := 1#32
  let v507 : BitVec 32 := Scalar.muli v151 c1_i32_513
  let v508 : BitVec 32 := Scalar.addi c0_i32_514 v507
  v508.toNat
def k0_dev14 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_567 : BitVec 32 := 1#32
  let v545 : BitVec 32 := Scalar.muli v113 c1_i32_567
  let v546 : BitVec 32 := Scalar.addi c0_i32_568 v545
  v546.toNat
def k0_dev15 (d0 : Dev nD) : Nat :=
  let c0_i32_624 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_623 : BitVec 32 := 1#32
  let v584 : BitVec 32 := Scalar.muli v151 c1_i32_623
  let v585 : BitVec 32 := Scalar.addi c0_i32_624 v584
  v585.toNat
def k0_dev16 (d0 : Dev nD) : Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_678 : BitVec 32 := 1#32
  let v622 : BitVec 32 := Scalar.muli v113 c1_i32_678
  let v623 : BitVec 32 := Scalar.addi c0_i32_679 v622
  v623.toNat
def k0_dev17 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_734 : BitVec 32 := 1#32
  let v661 : BitVec 32 := Scalar.muli v151 c1_i32_734
  let v662 : BitVec 32 := Scalar.addi c0_i32_735 v661
  v662.toNat
def k0_dev18 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_788 : BitVec 32 := 1#32
  let v699 : BitVec 32 := Scalar.muli v113 c1_i32_788
  let v700 : BitVec 32 := Scalar.addi c0_i32_789 v699
  v700.toNat
def k0_dev19 (d0 : Dev nD) : Nat :=
  let c0_i32_845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_844 : BitVec 32 := 1#32
  let v738 : BitVec 32 := Scalar.muli v151 c1_i32_844
  let v739 : BitVec 32 := Scalar.addi c0_i32_845 v738
  v739.toNat
def k0_dev20 (d0 : Dev nD) : Nat :=
  let c0_i32_900 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_899 : BitVec 32 := 1#32
  let v776 : BitVec 32 := Scalar.muli v113 c1_i32_899
  let v777 : BitVec 32 := Scalar.addi c0_i32_900 v776
  v777.toNat
def k0_dev21 (d0 : Dev nD) : Nat :=
  let c0_i32_956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_955 : BitVec 32 := 1#32
  let v815 : BitVec 32 := Scalar.muli v151 c1_i32_955
  let v816 : BitVec 32 := Scalar.addi c0_i32_956 v815
  v816.toNat
def k0_dev22 (d0 : Dev nD) : Nat :=
  let c0_i32_1010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_1009 : BitVec 32 := 1#32
  let v853 : BitVec 32 := Scalar.muli v113 c1_i32_1009
  let v854 : BitVec 32 := Scalar.addi c0_i32_1010 v853
  v854.toNat
def k0_dev23 (d0 : Dev nD) : Nat :=
  let c0_i32_1066 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_1065 : BitVec 32 := 1#32
  let v892 : BitVec 32 := Scalar.muli v151 c1_i32_1065
  let v893 : BitVec 32 := Scalar.addi c0_i32_1066 v892
  v893.toNat
def k0_dev24 (d0 : Dev nD) : Nat :=
  let c0_i32_1121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_1120 : BitVec 32 := 1#32
  let v930 : BitVec 32 := Scalar.muli v113 c1_i32_1120
  let v931 : BitVec 32 := Scalar.addi c0_i32_1121 v930
  v931.toNat
def k0_dev25 (d0 : Dev nD) : Nat :=
  let c0_i32_1177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_1176 : BitVec 32 := 1#32
  let v969 : BitVec 32 := Scalar.muli v151 c1_i32_1176
  let v970 : BitVec 32 := Scalar.addi c0_i32_1177 v969
  v970.toNat
def k0_dev26 (d0 : Dev nD) : Nat :=
  let c0_i32_1231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_1230 : BitVec 32 := 1#32
  let v1007 : BitVec 32 := Scalar.muli v113 c1_i32_1230
  let v1008 : BitVec 32 := Scalar.addi c0_i32_1231 v1007
  v1008.toNat
def k0_dev27 (d0 : Dev nD) : Nat :=
  let c0_i32_1287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_1286 : BitVec 32 := 1#32
  let v1046 : BitVec 32 := Scalar.muli v151 c1_i32_1286
  let v1047 : BitVec 32 := Scalar.addi c0_i32_1287 v1046
  v1047.toNat
def k0_dev28 (d0 : Dev nD) : Nat :=
  let c0_i32_1342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_1341 : BitVec 32 := 1#32
  let v1084 : BitVec 32 := Scalar.muli v113 c1_i32_1341
  let v1085 : BitVec 32 := Scalar.addi c0_i32_1342 v1084
  v1085.toNat
def k0_dev29 (d0 : Dev nD) : Nat :=
  let c0_i32_1398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_1397 : BitVec 32 := 1#32
  let v1123 : BitVec 32 := Scalar.muli v151 c1_i32_1397
  let v1124 : BitVec 32 := Scalar.addi c0_i32_1398 v1123
  v1124.toNat
def k0_dev30 (d0 : Dev nD) : Nat :=
  let c0_i32_1451 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_1450 : BitVec 32 := 1#32
  let v1161 : BitVec 32 := Scalar.muli v113 c1_i32_1450
  let v1162 : BitVec 32 := Scalar.addi c0_i32_1451 v1161
  v1162.toNat
def k0_dev31 (d0 : Dev nD) : Nat :=
  let c0_i32_1507 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_1506 : BitVec 32 := 1#32
  let v1200 : BitVec 32 := Scalar.muli v151 c1_i32_1506
  let v1201 : BitVec 32 := Scalar.addi c0_i32_1507 v1200
  v1201.toNat
def k0_dev32 (d0 : Dev nD) : Nat :=
  let c0_i32_1562 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_1561 : BitVec 32 := 1#32
  let v1238 : BitVec 32 := Scalar.muli v113 c1_i32_1561
  let v1239 : BitVec 32 := Scalar.addi c0_i32_1562 v1238
  v1239.toNat
def k0_dev33 (d0 : Dev nD) : Nat :=
  let c0_i32_1618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_1617 : BitVec 32 := 1#32
  let v1277 : BitVec 32 := Scalar.muli v151 c1_i32_1617
  let v1278 : BitVec 32 := Scalar.addi c0_i32_1618 v1277
  v1278.toNat
def k0_off9 (d0 : Dev nD) (c1_i32_1760 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1401 : BitVec 32 := Scalar.addi v19 c1_i32_1760
  let c1_i32_1761 : BitVec 32 := 1#32
  let v1402 : BitVec 32 := Scalar.addi v1401 c1_i32_1761
  let c4_i32_1762 : BitVec 32 := 4#32
  let c0_i32_1763 : BitVec 32 := 0#32
  let v1403 : BitVec 1 := Scalar.cmpi .eq c4_i32_1762 c0_i32_1763
  let c1_i32_1764 : BitVec 32 := 1#32
  let v1404 : BitVec 32 := Scalar.select v1403 c1_i32_1764 c4_i32_1762
  let v1405 : BitVec 32 := Scalar.remsi v1402 v1404
  let c0_i32_1766 : BitVec 32 := 0#32
  let v1407 : BitVec 1 := Scalar.cmpi .slt v1405 c0_i32_1766
  let c0_i32_1767 : BitVec 32 := 0#32
  let v1408 : BitVec 1 := Scalar.cmpi .slt v1404 c0_i32_1767
  let v1409 : BitVec 1 := Scalar.xori v1407 v1408
  let c0_i32_1765 : BitVec 32 := 0#32
  let v1406 : BitVec 1 := Scalar.cmpi .ne v1405 c0_i32_1765
  let v1410 : BitVec 1 := Scalar.andi v1409 v1406
  let v1411 : BitVec 32 := Scalar.addi v1405 v1404
  let v1412 : BitVec 32 := Scalar.select v1410 v1411 v1405
  let c64_i32_1768 : BitVec 32 := 64#32
  let v1413 : BitVec 32 := Scalar.muli v1412 c64_i32_1768
  let c0_i32_1787 : BitVec 32 := 0#32
  ![v1413.toNat, 0]
def k0_dev34 (d0 : Dev nD) : Nat :=
  let c0_i32_1784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1769 : BitVec 32 := 1#32
  let v1414 : BitVec 32 := Scalar.addi v19 c1_i32_1769
  let c4_i32_1770 : BitVec 32 := 4#32
  let c0_i32_1771 : BitVec 32 := 0#32
  let v1415 : BitVec 1 := Scalar.cmpi .eq c4_i32_1770 c0_i32_1771
  let c1_i32_1772 : BitVec 32 := 1#32
  let v1416 : BitVec 32 := Scalar.select v1415 c1_i32_1772 c4_i32_1770
  let v1417 : BitVec 32 := Scalar.remsi v1414 v1416
  let c0_i32_1774 : BitVec 32 := 0#32
  let v1419 : BitVec 1 := Scalar.cmpi .slt v1417 c0_i32_1774
  let c0_i32_1775 : BitVec 32 := 0#32
  let v1420 : BitVec 1 := Scalar.cmpi .slt v1416 c0_i32_1775
  let v1421 : BitVec 1 := Scalar.xori v1419 v1420
  let c0_i32_1773 : BitVec 32 := 0#32
  let v1418 : BitVec 1 := Scalar.cmpi .ne v1417 c0_i32_1773
  let v1422 : BitVec 1 := Scalar.andi v1421 v1418
  let v1423 : BitVec 32 := Scalar.addi v1417 v1416
  let v1424 : BitVec 32 := Scalar.select v1422 v1423 v1417
  let c8_i32_1776 : BitVec 32 := 8#32
  let v1425 : BitVec 32 := Scalar.muli v1424 c8_i32_1776
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1426 : BitVec 32 := Scalar.addi v1425 v29
  let c1_i32_1783 : BitVec 32 := 1#32
  let v1427 : BitVec 32 := Scalar.muli v1426 c1_i32_1783
  let v1428 : BitVec 32 := Scalar.addi c0_i32_1784 v1427
  v1428.toNat
def k0_off10 (d0 : Dev nD) (c1_i32_1788 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v1436 : BitVec 32 := Scalar.addi v19 c1_i32_1788
  let c1_i32_1789 : BitVec 32 := 1#32
  let v1437 : BitVec 32 := Scalar.addi v1436 c1_i32_1789
  let c4_i32_1790 : BitVec 32 := 4#32
  let c0_i32_1791 : BitVec 32 := 0#32
  let v1438 : BitVec 1 := Scalar.cmpi .eq c4_i32_1790 c0_i32_1791
  let c1_i32_1792 : BitVec 32 := 1#32
  let v1439 : BitVec 32 := Scalar.select v1438 c1_i32_1792 c4_i32_1790
  let v1440 : BitVec 32 := Scalar.remsi v1437 v1439
  let c0_i32_1794 : BitVec 32 := 0#32
  let v1442 : BitVec 1 := Scalar.cmpi .slt v1440 c0_i32_1794
  let c0_i32_1795 : BitVec 32 := 0#32
  let v1443 : BitVec 1 := Scalar.cmpi .slt v1439 c0_i32_1795
  let v1444 : BitVec 1 := Scalar.xori v1442 v1443
  let c0_i32_1793 : BitVec 32 := 0#32
  let v1441 : BitVec 1 := Scalar.cmpi .ne v1440 c0_i32_1793
  let v1445 : BitVec 1 := Scalar.andi v1444 v1441
  let v1446 : BitVec 32 := Scalar.addi v1440 v1439
  let v1447 : BitVec 32 := Scalar.select v1445 v1446 v1440
  let c64_i32_1796 : BitVec 32 := 64#32
  let v1448 : BitVec 32 := Scalar.muli v1447 c64_i32_1796
  let c512_i32_1815 : BitVec 32 := 512#32
  ![v1448.toNat, 512]
def k0_dev35 (d0 : Dev nD) : Nat :=
  let c0_i32_1812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_1797 : BitVec 32 := 1#32
  let v1449 : BitVec 32 := Scalar.addi v19 c1_i32_1797
  let c4_i32_1798 : BitVec 32 := 4#32
  let c0_i32_1799 : BitVec 32 := 0#32
  let v1450 : BitVec 1 := Scalar.cmpi .eq c4_i32_1798 c0_i32_1799
  let c1_i32_1800 : BitVec 32 := 1#32
  let v1451 : BitVec 32 := Scalar.select v1450 c1_i32_1800 c4_i32_1798
  let v1452 : BitVec 32 := Scalar.remsi v1449 v1451
  let c0_i32_1802 : BitVec 32 := 0#32
  let v1454 : BitVec 1 := Scalar.cmpi .slt v1452 c0_i32_1802
  let c0_i32_1803 : BitVec 32 := 0#32
  let v1455 : BitVec 1 := Scalar.cmpi .slt v1451 c0_i32_1803
  let v1456 : BitVec 1 := Scalar.xori v1454 v1455
  let c0_i32_1801 : BitVec 32 := 0#32
  let v1453 : BitVec 1 := Scalar.cmpi .ne v1452 c0_i32_1801
  let v1457 : BitVec 1 := Scalar.andi v1456 v1453
  let v1458 : BitVec 32 := Scalar.addi v1452 v1451
  let v1459 : BitVec 32 := Scalar.select v1457 v1458 v1452
  let c8_i32_1804 : BitVec 32 := 8#32
  let v1460 : BitVec 32 := Scalar.muli v1459 c8_i32_1804
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1461 : BitVec 32 := Scalar.addi v1460 v29
  let c1_i32_1811 : BitVec 32 := 1#32
  let v1462 : BitVec 32 := Scalar.muli v1461 c1_i32_1811
  let v1463 : BitVec 32 := Scalar.addi c0_i32_1812 v1462
  v1463.toNat
def k0_dev36 (d0 : Dev nD) : Nat :=
  let c0_i32_1840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1825 : BitVec 32 := 2#32
  let v1484 : BitVec 32 := Scalar.addi v19 c2_i32_1825
  let c4_i32_1826 : BitVec 32 := 4#32
  let c0_i32_1827 : BitVec 32 := 0#32
  let v1485 : BitVec 1 := Scalar.cmpi .eq c4_i32_1826 c0_i32_1827
  let c1_i32_1828 : BitVec 32 := 1#32
  let v1486 : BitVec 32 := Scalar.select v1485 c1_i32_1828 c4_i32_1826
  let v1487 : BitVec 32 := Scalar.remsi v1484 v1486
  let c0_i32_1830 : BitVec 32 := 0#32
  let v1489 : BitVec 1 := Scalar.cmpi .slt v1487 c0_i32_1830
  let c0_i32_1831 : BitVec 32 := 0#32
  let v1490 : BitVec 1 := Scalar.cmpi .slt v1486 c0_i32_1831
  let v1491 : BitVec 1 := Scalar.xori v1489 v1490
  let c0_i32_1829 : BitVec 32 := 0#32
  let v1488 : BitVec 1 := Scalar.cmpi .ne v1487 c0_i32_1829
  let v1492 : BitVec 1 := Scalar.andi v1491 v1488
  let v1493 : BitVec 32 := Scalar.addi v1487 v1486
  let v1494 : BitVec 32 := Scalar.select v1492 v1493 v1487
  let c8_i32_1832 : BitVec 32 := 8#32
  let v1495 : BitVec 32 := Scalar.muli v1494 c8_i32_1832
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1496 : BitVec 32 := Scalar.addi v1495 v29
  let c1_i32_1839 : BitVec 32 := 1#32
  let v1497 : BitVec 32 := Scalar.muli v1496 c1_i32_1839
  let v1498 : BitVec 32 := Scalar.addi c0_i32_1840 v1497
  v1498.toNat
def k0_dev37 (d0 : Dev nD) : Nat :=
  let c0_i32_1868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_1853 : BitVec 32 := 2#32
  let v1519 : BitVec 32 := Scalar.addi v19 c2_i32_1853
  let c4_i32_1854 : BitVec 32 := 4#32
  let c0_i32_1855 : BitVec 32 := 0#32
  let v1520 : BitVec 1 := Scalar.cmpi .eq c4_i32_1854 c0_i32_1855
  let c1_i32_1856 : BitVec 32 := 1#32
  let v1521 : BitVec 32 := Scalar.select v1520 c1_i32_1856 c4_i32_1854
  let v1522 : BitVec 32 := Scalar.remsi v1519 v1521
  let c0_i32_1858 : BitVec 32 := 0#32
  let v1524 : BitVec 1 := Scalar.cmpi .slt v1522 c0_i32_1858
  let c0_i32_1859 : BitVec 32 := 0#32
  let v1525 : BitVec 1 := Scalar.cmpi .slt v1521 c0_i32_1859
  let v1526 : BitVec 1 := Scalar.xori v1524 v1525
  let c0_i32_1857 : BitVec 32 := 0#32
  let v1523 : BitVec 1 := Scalar.cmpi .ne v1522 c0_i32_1857
  let v1527 : BitVec 1 := Scalar.andi v1526 v1523
  let v1528 : BitVec 32 := Scalar.addi v1522 v1521
  let v1529 : BitVec 32 := Scalar.select v1527 v1528 v1522
  let c8_i32_1860 : BitVec 32 := 8#32
  let v1530 : BitVec 32 := Scalar.muli v1529 c8_i32_1860
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1531 : BitVec 32 := Scalar.addi v1530 v29
  let c1_i32_1867 : BitVec 32 := 1#32
  let v1532 : BitVec 32 := Scalar.muli v1531 c1_i32_1867
  let v1533 : BitVec 32 := Scalar.addi c0_i32_1868 v1532
  v1533.toNat
def k0_dev38 (d0 : Dev nD) : Nat :=
  let c0_i32_1896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1881 : BitVec 32 := 3#32
  let v1554 : BitVec 32 := Scalar.addi v19 c3_i32_1881
  let c4_i32_1882 : BitVec 32 := 4#32
  let c0_i32_1883 : BitVec 32 := 0#32
  let v1555 : BitVec 1 := Scalar.cmpi .eq c4_i32_1882 c0_i32_1883
  let c1_i32_1884 : BitVec 32 := 1#32
  let v1556 : BitVec 32 := Scalar.select v1555 c1_i32_1884 c4_i32_1882
  let v1557 : BitVec 32 := Scalar.remsi v1554 v1556
  let c0_i32_1886 : BitVec 32 := 0#32
  let v1559 : BitVec 1 := Scalar.cmpi .slt v1557 c0_i32_1886
  let c0_i32_1887 : BitVec 32 := 0#32
  let v1560 : BitVec 1 := Scalar.cmpi .slt v1556 c0_i32_1887
  let v1561 : BitVec 1 := Scalar.xori v1559 v1560
  let c0_i32_1885 : BitVec 32 := 0#32
  let v1558 : BitVec 1 := Scalar.cmpi .ne v1557 c0_i32_1885
  let v1562 : BitVec 1 := Scalar.andi v1561 v1558
  let v1563 : BitVec 32 := Scalar.addi v1557 v1556
  let v1564 : BitVec 32 := Scalar.select v1562 v1563 v1557
  let c8_i32_1888 : BitVec 32 := 8#32
  let v1565 : BitVec 32 := Scalar.muli v1564 c8_i32_1888
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1566 : BitVec 32 := Scalar.addi v1565 v29
  let c1_i32_1895 : BitVec 32 := 1#32
  let v1567 : BitVec 32 := Scalar.muli v1566 c1_i32_1895
  let v1568 : BitVec 32 := Scalar.addi c0_i32_1896 v1567
  v1568.toNat
def k0_dev39 (d0 : Dev nD) : Nat :=
  let c0_i32_1924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_1909 : BitVec 32 := 3#32
  let v1589 : BitVec 32 := Scalar.addi v19 c3_i32_1909
  let c4_i32_1910 : BitVec 32 := 4#32
  let c0_i32_1911 : BitVec 32 := 0#32
  let v1590 : BitVec 1 := Scalar.cmpi .eq c4_i32_1910 c0_i32_1911
  let c1_i32_1912 : BitVec 32 := 1#32
  let v1591 : BitVec 32 := Scalar.select v1590 c1_i32_1912 c4_i32_1910
  let v1592 : BitVec 32 := Scalar.remsi v1589 v1591
  let c0_i32_1914 : BitVec 32 := 0#32
  let v1594 : BitVec 1 := Scalar.cmpi .slt v1592 c0_i32_1914
  let c0_i32_1915 : BitVec 32 := 0#32
  let v1595 : BitVec 1 := Scalar.cmpi .slt v1591 c0_i32_1915
  let v1596 : BitVec 1 := Scalar.xori v1594 v1595
  let c0_i32_1913 : BitVec 32 := 0#32
  let v1593 : BitVec 1 := Scalar.cmpi .ne v1592 c0_i32_1913
  let v1597 : BitVec 1 := Scalar.andi v1596 v1593
  let v1598 : BitVec 32 := Scalar.addi v1592 v1591
  let v1599 : BitVec 32 := Scalar.select v1597 v1598 v1592
  let c8_i32_1916 : BitVec 32 := 8#32
  let v1600 : BitVec 32 := Scalar.muli v1599 c8_i32_1916
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1601 : BitVec 32 := Scalar.addi v1600 v29
  let c1_i32_1923 : BitVec 32 := 1#32
  let v1602 : BitVec 32 := Scalar.muli v1601 c1_i32_1923
  let v1603 : BitVec 32 := Scalar.addi c0_i32_1924 v1602
  v1603.toNat
def k0_off11 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v163 : BitVec 32 := Scalar.addi v19 c1_i32_94
  let c4_i32_95 : BitVec 32 := 4#32
  let c0_i32_96 : BitVec 32 := 0#32
  let v164 : BitVec 1 := Scalar.cmpi .eq c4_i32_95 c0_i32_96
  let c1_i32_97 : BitVec 32 := 1#32
  let v165 : BitVec 32 := Scalar.select v164 c1_i32_97 c4_i32_95
  let v166 : BitVec 32 := Scalar.remsi v163 v165
  let c0_i32_99 : BitVec 32 := 0#32
  let v168 : BitVec 1 := Scalar.cmpi .slt v166 c0_i32_99
  let c0_i32_100 : BitVec 32 := 0#32
  let v169 : BitVec 1 := Scalar.cmpi .slt v165 c0_i32_100
  let v170 : BitVec 1 := Scalar.xori v168 v169
  let c0_i32_98 : BitVec 32 := 0#32
  let v167 : BitVec 1 := Scalar.cmpi .ne v166 c0_i32_98
  let v171 : BitVec 1 := Scalar.andi v170 v167
  let v172 : BitVec 32 := Scalar.addi v166 v165
  let v173 : BitVec 32 := Scalar.select v171 v172 v166
  let c64_i32_2470 : BitVec 32 := 64#32
  let v1842 : BitVec 32 := Scalar.muli v173 c64_i32_2470
  let v1843 : Index := Scalar.indexCast v1842
  let c0_2471 : Index := 0#32
  ![v1843.toNat, 0]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v163 : BitVec 32 := Scalar.addi v19 c1_i32_94
  let c4_i32_95 : BitVec 32 := 4#32
  let c0_i32_96 : BitVec 32 := 0#32
  let v164 : BitVec 1 := Scalar.cmpi .eq c4_i32_95 c0_i32_96
  let c1_i32_97 : BitVec 32 := 1#32
  let v165 : BitVec 32 := Scalar.select v164 c1_i32_97 c4_i32_95
  let v166 : BitVec 32 := Scalar.remsi v163 v165
  let c0_i32_99 : BitVec 32 := 0#32
  let v168 : BitVec 1 := Scalar.cmpi .slt v166 c0_i32_99
  let c0_i32_100 : BitVec 32 := 0#32
  let v169 : BitVec 1 := Scalar.cmpi .slt v165 c0_i32_100
  let v170 : BitVec 1 := Scalar.xori v168 v169
  let c0_i32_98 : BitVec 32 := 0#32
  let v167 : BitVec 1 := Scalar.cmpi .ne v166 c0_i32_98
  let v171 : BitVec 1 := Scalar.andi v170 v167
  let v172 : BitVec 32 := Scalar.addi v166 v165
  let v173 : BitVec 32 := Scalar.select v171 v172 v166
  let c64_i32_2552 : BitVec 32 := 64#32
  let v1920 : BitVec 32 := Scalar.muli v173 c64_i32_2552
  let v1921 : Index := Scalar.indexCast v1920
  let c512_2553 : Index := 512#32
  ![v1921.toNat, 512]
def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_87 : BitVec 32 := 1#32
  let v152 : BitVec 32 := Scalar.addi v75 c1_i32_87
  let c8_i32_88 : BitVec 32 := 8#32
  let c0_i32_89 : BitVec 32 := 0#32
  let v153 : BitVec 1 := Scalar.cmpi .eq c8_i32_88 c0_i32_89
  let c1_i32_90 : BitVec 32 := 1#32
  let v154 : BitVec 32 := Scalar.select v153 c1_i32_90 c8_i32_88
  let v155 : BitVec 32 := Scalar.remsi v152 v154
  let c0_i32_92 : BitVec 32 := 0#32
  let v157 : BitVec 1 := Scalar.cmpi .slt v155 c0_i32_92
  let c0_i32_93 : BitVec 32 := 0#32
  let v158 : BitVec 1 := Scalar.cmpi .slt v154 c0_i32_93
  let v159 : BitVec 1 := Scalar.xori v157 v158
  let c0_i32_91 : BitVec 32 := 0#32
  let v156 : BitVec 1 := Scalar.cmpi .ne v155 c0_i32_91
  let v160 : BitVec 1 := Scalar.andi v159 v156
  let v161 : BitVec 32 := Scalar.addi v155 v154
  let v162 : BitVec 32 := Scalar.select v160 v161 v155
  let c256_i32 : BitVec 32 := 256#32
  let v174 : BitVec 32 := Scalar.muli v162 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v163 : BitVec 32 := Scalar.addi v19 c1_i32_94
  let c4_i32_95 : BitVec 32 := 4#32
  let c0_i32_96 : BitVec 32 := 0#32
  let v164 : BitVec 1 := Scalar.cmpi .eq c4_i32_95 c0_i32_96
  let c1_i32_97 : BitVec 32 := 1#32
  let v165 : BitVec 32 := Scalar.select v164 c1_i32_97 c4_i32_95
  let v166 : BitVec 32 := Scalar.remsi v163 v165
  let c0_i32_99 : BitVec 32 := 0#32
  let v168 : BitVec 1 := Scalar.cmpi .slt v166 c0_i32_99
  let c0_i32_100 : BitVec 32 := 0#32
  let v169 : BitVec 1 := Scalar.cmpi .slt v165 c0_i32_100
  let v170 : BitVec 1 := Scalar.xori v168 v169
  let c0_i32_98 : BitVec 32 := 0#32
  let v167 : BitVec 1 := Scalar.cmpi .ne v166 c0_i32_98
  let v171 : BitVec 1 := Scalar.andi v170 v167
  let v172 : BitVec 32 := Scalar.addi v166 v165
  let v173 : BitVec 32 := Scalar.select v171 v172 v166
  let c64_i32 : BitVec 32 := 64#32
  let v175 : BitVec 32 := Scalar.muli v173 c64_i32
  let v176 : BitVec 32 := Scalar.addi v174 v175
  let v1940 : Index := Scalar.indexCast v176
  let c0_2573 : Index := 0#32
  ![v1940.toNat, 0]
def k0_off14 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_87 : BitVec 32 := 1#32
  let v152 : BitVec 32 := Scalar.addi v75 c1_i32_87
  let c8_i32_88 : BitVec 32 := 8#32
  let c0_i32_89 : BitVec 32 := 0#32
  let v153 : BitVec 1 := Scalar.cmpi .eq c8_i32_88 c0_i32_89
  let c1_i32_90 : BitVec 32 := 1#32
  let v154 : BitVec 32 := Scalar.select v153 c1_i32_90 c8_i32_88
  let v155 : BitVec 32 := Scalar.remsi v152 v154
  let c0_i32_92 : BitVec 32 := 0#32
  let v157 : BitVec 1 := Scalar.cmpi .slt v155 c0_i32_92
  let c0_i32_93 : BitVec 32 := 0#32
  let v158 : BitVec 1 := Scalar.cmpi .slt v154 c0_i32_93
  let v159 : BitVec 1 := Scalar.xori v157 v158
  let c0_i32_91 : BitVec 32 := 0#32
  let v156 : BitVec 1 := Scalar.cmpi .ne v155 c0_i32_91
  let v160 : BitVec 1 := Scalar.andi v159 v156
  let v161 : BitVec 32 := Scalar.addi v155 v154
  let v162 : BitVec 32 := Scalar.select v160 v161 v155
  let c256_i32 : BitVec 32 := 256#32
  let v174 : BitVec 32 := Scalar.muli v162 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v163 : BitVec 32 := Scalar.addi v19 c1_i32_94
  let c4_i32_95 : BitVec 32 := 4#32
  let c0_i32_96 : BitVec 32 := 0#32
  let v164 : BitVec 1 := Scalar.cmpi .eq c4_i32_95 c0_i32_96
  let c1_i32_97 : BitVec 32 := 1#32
  let v165 : BitVec 32 := Scalar.select v164 c1_i32_97 c4_i32_95
  let v166 : BitVec 32 := Scalar.remsi v163 v165
  let c0_i32_99 : BitVec 32 := 0#32
  let v168 : BitVec 1 := Scalar.cmpi .slt v166 c0_i32_99
  let c0_i32_100 : BitVec 32 := 0#32
  let v169 : BitVec 1 := Scalar.cmpi .slt v165 c0_i32_100
  let v170 : BitVec 1 := Scalar.xori v168 v169
  let c0_i32_98 : BitVec 32 := 0#32
  let v167 : BitVec 1 := Scalar.cmpi .ne v166 c0_i32_98
  let v171 : BitVec 1 := Scalar.andi v170 v167
  let v172 : BitVec 32 := Scalar.addi v166 v165
  let v173 : BitVec 32 := Scalar.select v171 v172 v166
  let c64_i32 : BitVec 32 := 64#32
  let v175 : BitVec 32 := Scalar.muli v173 c64_i32
  let v176 : BitVec 32 := Scalar.addi v174 v175
  let c0_i32_2588 : BitVec 32 := 0#32
  ![v176.toNat, 0]
def k0_dev40 (d0 : Dev nD) : Nat :=
  let c0_i32_2587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2574 : BitVec 32 := 1#32
  let v1942 : BitVec 32 := Scalar.addi v19 c1_i32_2574
  let c4_i32_2575 : BitVec 32 := 4#32
  let c0_i32_2576 : BitVec 32 := 0#32
  let v1943 : BitVec 1 := Scalar.cmpi .eq c4_i32_2575 c0_i32_2576
  let c1_i32_2577 : BitVec 32 := 1#32
  let v1944 : BitVec 32 := Scalar.select v1943 c1_i32_2577 c4_i32_2575
  let v1945 : BitVec 32 := Scalar.remsi v1942 v1944
  let c0_i32_2579 : BitVec 32 := 0#32
  let v1947 : BitVec 1 := Scalar.cmpi .slt v1945 c0_i32_2579
  let c0_i32_2580 : BitVec 32 := 0#32
  let v1948 : BitVec 1 := Scalar.cmpi .slt v1944 c0_i32_2580
  let v1949 : BitVec 1 := Scalar.xori v1947 v1948
  let c0_i32_2578 : BitVec 32 := 0#32
  let v1946 : BitVec 1 := Scalar.cmpi .ne v1945 c0_i32_2578
  let v1950 : BitVec 1 := Scalar.andi v1949 v1946
  let v1951 : BitVec 32 := Scalar.addi v1945 v1944
  let v1952 : BitVec 32 := Scalar.select v1950 v1951 v1945
  let c8_i32_2581 : BitVec 32 := 8#32
  let v1953 : BitVec 32 := Scalar.muli v1952 c8_i32_2581
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1954 : BitVec 32 := Scalar.addi v1953 v29
  let c1_i32_2586 : BitVec 32 := 1#32
  let v1955 : BitVec 32 := Scalar.muli v1954 c1_i32_2586
  let v1956 : BitVec 32 := Scalar.addi c0_i32_2587 v1955
  v1956.toNat
def k0_dev41 (d0 : Dev nD) : Nat :=
  let c0_i32_2603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_2590 : BitVec 32 := 2#32
  let v1963 : BitVec 32 := Scalar.addi v19 c2_i32_2590
  let c4_i32_2591 : BitVec 32 := 4#32
  let c0_i32_2592 : BitVec 32 := 0#32
  let v1964 : BitVec 1 := Scalar.cmpi .eq c4_i32_2591 c0_i32_2592
  let c1_i32_2593 : BitVec 32 := 1#32
  let v1965 : BitVec 32 := Scalar.select v1964 c1_i32_2593 c4_i32_2591
  let v1966 : BitVec 32 := Scalar.remsi v1963 v1965
  let c0_i32_2595 : BitVec 32 := 0#32
  let v1968 : BitVec 1 := Scalar.cmpi .slt v1966 c0_i32_2595
  let c0_i32_2596 : BitVec 32 := 0#32
  let v1969 : BitVec 1 := Scalar.cmpi .slt v1965 c0_i32_2596
  let v1970 : BitVec 1 := Scalar.xori v1968 v1969
  let c0_i32_2594 : BitVec 32 := 0#32
  let v1967 : BitVec 1 := Scalar.cmpi .ne v1966 c0_i32_2594
  let v1971 : BitVec 1 := Scalar.andi v1970 v1967
  let v1972 : BitVec 32 := Scalar.addi v1966 v1965
  let v1973 : BitVec 32 := Scalar.select v1971 v1972 v1966
  let c8_i32_2597 : BitVec 32 := 8#32
  let v1974 : BitVec 32 := Scalar.muli v1973 c8_i32_2597
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1975 : BitVec 32 := Scalar.addi v1974 v29
  let c1_i32_2602 : BitVec 32 := 1#32
  let v1976 : BitVec 32 := Scalar.muli v1975 c1_i32_2602
  let v1977 : BitVec 32 := Scalar.addi c0_i32_2603 v1976
  v1977.toNat
def k0_dev42 (d0 : Dev nD) : Nat :=
  let c0_i32_2619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2606 : BitVec 32 := 3#32
  let v1984 : BitVec 32 := Scalar.addi v19 c3_i32_2606
  let c4_i32_2607 : BitVec 32 := 4#32
  let c0_i32_2608 : BitVec 32 := 0#32
  let v1985 : BitVec 1 := Scalar.cmpi .eq c4_i32_2607 c0_i32_2608
  let c1_i32_2609 : BitVec 32 := 1#32
  let v1986 : BitVec 32 := Scalar.select v1985 c1_i32_2609 c4_i32_2607
  let v1987 : BitVec 32 := Scalar.remsi v1984 v1986
  let c0_i32_2611 : BitVec 32 := 0#32
  let v1989 : BitVec 1 := Scalar.cmpi .slt v1987 c0_i32_2611
  let c0_i32_2612 : BitVec 32 := 0#32
  let v1990 : BitVec 1 := Scalar.cmpi .slt v1986 c0_i32_2612
  let v1991 : BitVec 1 := Scalar.xori v1989 v1990
  let c0_i32_2610 : BitVec 32 := 0#32
  let v1988 : BitVec 1 := Scalar.cmpi .ne v1987 c0_i32_2610
  let v1992 : BitVec 1 := Scalar.andi v1991 v1988
  let v1993 : BitVec 32 := Scalar.addi v1987 v1986
  let v1994 : BitVec 32 := Scalar.select v1992 v1993 v1987
  let c8_i32_2613 : BitVec 32 := 8#32
  let v1995 : BitVec 32 := Scalar.muli v1994 c8_i32_2613
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1996 : BitVec 32 := Scalar.addi v1995 v29
  let c1_i32_2618 : BitVec 32 := 1#32
  let v1997 : BitVec 32 := Scalar.muli v1996 c1_i32_2618
  let v1998 : BitVec 32 := Scalar.addi c0_i32_2619 v1997
  v1998.toNat
def k0_off15 (d0 : Dev nD) (c0_i32_2623 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_2622 : BitVec 32 := 1#32
  let v2005 : BitVec 32 := Scalar.addi v75 c1_i32_2622
  let v2006 : BitVec 32 := Scalar.subi v2005 c0_i32_2623
  let c8_i32_2624 : BitVec 32 := 8#32
  let c0_i32_2625 : BitVec 32 := 0#32
  let v2007 : BitVec 1 := Scalar.cmpi .eq c8_i32_2624 c0_i32_2625
  let c1_i32_2626 : BitVec 32 := 1#32
  let v2008 : BitVec 32 := Scalar.select v2007 c1_i32_2626 c8_i32_2624
  let v2009 : BitVec 32 := Scalar.remsi v2006 v2008
  let c0_i32_2628 : BitVec 32 := 0#32
  let v2011 : BitVec 1 := Scalar.cmpi .slt v2009 c0_i32_2628
  let c0_i32_2629 : BitVec 32 := 0#32
  let v2012 : BitVec 1 := Scalar.cmpi .slt v2008 c0_i32_2629
  let v2013 : BitVec 1 := Scalar.xori v2011 v2012
  let c0_i32_2627 : BitVec 32 := 0#32
  let v2010 : BitVec 1 := Scalar.cmpi .ne v2009 c0_i32_2627
  let v2014 : BitVec 1 := Scalar.andi v2013 v2010
  let v2015 : BitVec 32 := Scalar.addi v2009 v2008
  let v2016 : BitVec 32 := Scalar.select v2014 v2015 v2009
  let c256_i32_2630 : BitVec 32 := 256#32
  let v2017 : BitVec 32 := Scalar.muli v2016 c256_i32_2630
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v163 : BitVec 32 := Scalar.addi v19 c1_i32_94
  let c4_i32_95 : BitVec 32 := 4#32
  let c0_i32_96 : BitVec 32 := 0#32
  let v164 : BitVec 1 := Scalar.cmpi .eq c4_i32_95 c0_i32_96
  let c1_i32_97 : BitVec 32 := 1#32
  let v165 : BitVec 32 := Scalar.select v164 c1_i32_97 c4_i32_95
  let v166 : BitVec 32 := Scalar.remsi v163 v165
  let c0_i32_99 : BitVec 32 := 0#32
  let v168 : BitVec 1 := Scalar.cmpi .slt v166 c0_i32_99
  let c0_i32_100 : BitVec 32 := 0#32
  let v169 : BitVec 1 := Scalar.cmpi .slt v165 c0_i32_100
  let v170 : BitVec 1 := Scalar.xori v168 v169
  let c0_i32_98 : BitVec 32 := 0#32
  let v167 : BitVec 1 := Scalar.cmpi .ne v166 c0_i32_98
  let v171 : BitVec 1 := Scalar.andi v170 v167
  let v172 : BitVec 32 := Scalar.addi v166 v165
  let v173 : BitVec 32 := Scalar.select v171 v172 v166
  let c64_i32_2631 : BitVec 32 := 64#32
  let v2018 : BitVec 32 := Scalar.muli v173 c64_i32_2631
  let v2019 : BitVec 32 := Scalar.addi v2017 v2018
  let c0_i32_2640 : BitVec 32 := 0#32
  ![v2019.toNat, 0]
def k0_dev43 (d0 : Dev nD) : Nat :=
  let c0_i32_2639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_2638 : BitVec 32 := 1#32
  let v2020 : BitVec 32 := Scalar.muli v113 c1_i32_2638
  let v2021 : BitVec 32 := Scalar.addi c0_i32_2639 v2020
  v2021.toNat
def k0_off16 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_87 : BitVec 32 := 1#32
  let v152 : BitVec 32 := Scalar.addi v75 c1_i32_87
  let c8_i32_88 : BitVec 32 := 8#32
  let c0_i32_89 : BitVec 32 := 0#32
  let v153 : BitVec 1 := Scalar.cmpi .eq c8_i32_88 c0_i32_89
  let c1_i32_90 : BitVec 32 := 1#32
  let v154 : BitVec 32 := Scalar.select v153 c1_i32_90 c8_i32_88
  let v155 : BitVec 32 := Scalar.remsi v152 v154
  let c0_i32_92 : BitVec 32 := 0#32
  let v157 : BitVec 1 := Scalar.cmpi .slt v155 c0_i32_92
  let c0_i32_93 : BitVec 32 := 0#32
  let v158 : BitVec 1 := Scalar.cmpi .slt v154 c0_i32_93
  let v159 : BitVec 1 := Scalar.xori v157 v158
  let c0_i32_91 : BitVec 32 := 0#32
  let v156 : BitVec 1 := Scalar.cmpi .ne v155 c0_i32_91
  let v160 : BitVec 1 := Scalar.andi v159 v156
  let v161 : BitVec 32 := Scalar.addi v155 v154
  let v162 : BitVec 32 := Scalar.select v160 v161 v155
  let c256_i32 : BitVec 32 := 256#32
  let v174 : BitVec 32 := Scalar.muli v162 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v163 : BitVec 32 := Scalar.addi v19 c1_i32_94
  let c4_i32_95 : BitVec 32 := 4#32
  let c0_i32_96 : BitVec 32 := 0#32
  let v164 : BitVec 1 := Scalar.cmpi .eq c4_i32_95 c0_i32_96
  let c1_i32_97 : BitVec 32 := 1#32
  let v165 : BitVec 32 := Scalar.select v164 c1_i32_97 c4_i32_95
  let v166 : BitVec 32 := Scalar.remsi v163 v165
  let c0_i32_99 : BitVec 32 := 0#32
  let v168 : BitVec 1 := Scalar.cmpi .slt v166 c0_i32_99
  let c0_i32_100 : BitVec 32 := 0#32
  let v169 : BitVec 1 := Scalar.cmpi .slt v165 c0_i32_100
  let v170 : BitVec 1 := Scalar.xori v168 v169
  let c0_i32_98 : BitVec 32 := 0#32
  let v167 : BitVec 1 := Scalar.cmpi .ne v166 c0_i32_98
  let v171 : BitVec 1 := Scalar.andi v170 v167
  let v172 : BitVec 32 := Scalar.addi v166 v165
  let v173 : BitVec 32 := Scalar.select v171 v172 v166
  let c64_i32 : BitVec 32 := 64#32
  let v175 : BitVec 32 := Scalar.muli v173 c64_i32
  let v176 : BitVec 32 := Scalar.addi v174 v175
  let v2031 : Index := Scalar.indexCast v176
  let c512_2647 : Index := 512#32
  ![v2031.toNat, 512]
def k0_off17 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_87 : BitVec 32 := 1#32
  let v152 : BitVec 32 := Scalar.addi v75 c1_i32_87
  let c8_i32_88 : BitVec 32 := 8#32
  let c0_i32_89 : BitVec 32 := 0#32
  let v153 : BitVec 1 := Scalar.cmpi .eq c8_i32_88 c0_i32_89
  let c1_i32_90 : BitVec 32 := 1#32
  let v154 : BitVec 32 := Scalar.select v153 c1_i32_90 c8_i32_88
  let v155 : BitVec 32 := Scalar.remsi v152 v154
  let c0_i32_92 : BitVec 32 := 0#32
  let v157 : BitVec 1 := Scalar.cmpi .slt v155 c0_i32_92
  let c0_i32_93 : BitVec 32 := 0#32
  let v158 : BitVec 1 := Scalar.cmpi .slt v154 c0_i32_93
  let v159 : BitVec 1 := Scalar.xori v157 v158
  let c0_i32_91 : BitVec 32 := 0#32
  let v156 : BitVec 1 := Scalar.cmpi .ne v155 c0_i32_91
  let v160 : BitVec 1 := Scalar.andi v159 v156
  let v161 : BitVec 32 := Scalar.addi v155 v154
  let v162 : BitVec 32 := Scalar.select v160 v161 v155
  let c256_i32 : BitVec 32 := 256#32
  let v174 : BitVec 32 := Scalar.muli v162 c256_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v163 : BitVec 32 := Scalar.addi v19 c1_i32_94
  let c4_i32_95 : BitVec 32 := 4#32
  let c0_i32_96 : BitVec 32 := 0#32
  let v164 : BitVec 1 := Scalar.cmpi .eq c4_i32_95 c0_i32_96
  let c1_i32_97 : BitVec 32 := 1#32
  let v165 : BitVec 32 := Scalar.select v164 c1_i32_97 c4_i32_95
  let v166 : BitVec 32 := Scalar.remsi v163 v165
  let c0_i32_99 : BitVec 32 := 0#32
  let v168 : BitVec 1 := Scalar.cmpi .slt v166 c0_i32_99
  let c0_i32_100 : BitVec 32 := 0#32
  let v169 : BitVec 1 := Scalar.cmpi .slt v165 c0_i32_100
  let v170 : BitVec 1 := Scalar.xori v168 v169
  let c0_i32_98 : BitVec 32 := 0#32
  let v167 : BitVec 1 := Scalar.cmpi .ne v166 c0_i32_98
  let v171 : BitVec 1 := Scalar.andi v170 v167
  let v172 : BitVec 32 := Scalar.addi v166 v165
  let v173 : BitVec 32 := Scalar.select v171 v172 v166
  let c64_i32 : BitVec 32 := 64#32
  let v175 : BitVec 32 := Scalar.muli v173 c64_i32
  let v176 : BitVec 32 := Scalar.addi v174 v175
  let c512_i32_2662 : BitVec 32 := 512#32
  ![v176.toNat, 512]
def k0_dev44 (d0 : Dev nD) : Nat :=
  let c0_i32_2661 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_2648 : BitVec 32 := 1#32
  let v2033 : BitVec 32 := Scalar.addi v19 c1_i32_2648
  let c4_i32_2649 : BitVec 32 := 4#32
  let c0_i32_2650 : BitVec 32 := 0#32
  let v2034 : BitVec 1 := Scalar.cmpi .eq c4_i32_2649 c0_i32_2650
  let c1_i32_2651 : BitVec 32 := 1#32
  let v2035 : BitVec 32 := Scalar.select v2034 c1_i32_2651 c4_i32_2649
  let v2036 : BitVec 32 := Scalar.remsi v2033 v2035
  let c0_i32_2653 : BitVec 32 := 0#32
  let v2038 : BitVec 1 := Scalar.cmpi .slt v2036 c0_i32_2653
  let c0_i32_2654 : BitVec 32 := 0#32
  let v2039 : BitVec 1 := Scalar.cmpi .slt v2035 c0_i32_2654
  let v2040 : BitVec 1 := Scalar.xori v2038 v2039
  let c0_i32_2652 : BitVec 32 := 0#32
  let v2037 : BitVec 1 := Scalar.cmpi .ne v2036 c0_i32_2652
  let v2041 : BitVec 1 := Scalar.andi v2040 v2037
  let v2042 : BitVec 32 := Scalar.addi v2036 v2035
  let v2043 : BitVec 32 := Scalar.select v2041 v2042 v2036
  let c8_i32_2655 : BitVec 32 := 8#32
  let v2044 : BitVec 32 := Scalar.muli v2043 c8_i32_2655
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2045 : BitVec 32 := Scalar.addi v2044 v29
  let c1_i32_2660 : BitVec 32 := 1#32
  let v2046 : BitVec 32 := Scalar.muli v2045 c1_i32_2660
  let v2047 : BitVec 32 := Scalar.addi c0_i32_2661 v2046
  v2047.toNat
def k0_dev45 (d0 : Dev nD) : Nat :=
  let c0_i32_2677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_2664 : BitVec 32 := 2#32
  let v2054 : BitVec 32 := Scalar.addi v19 c2_i32_2664
  let c4_i32_2665 : BitVec 32 := 4#32
  let c0_i32_2666 : BitVec 32 := 0#32
  let v2055 : BitVec 1 := Scalar.cmpi .eq c4_i32_2665 c0_i32_2666
  let c1_i32_2667 : BitVec 32 := 1#32
  let v2056 : BitVec 32 := Scalar.select v2055 c1_i32_2667 c4_i32_2665
  let v2057 : BitVec 32 := Scalar.remsi v2054 v2056
  let c0_i32_2669 : BitVec 32 := 0#32
  let v2059 : BitVec 1 := Scalar.cmpi .slt v2057 c0_i32_2669
  let c0_i32_2670 : BitVec 32 := 0#32
  let v2060 : BitVec 1 := Scalar.cmpi .slt v2056 c0_i32_2670
  let v2061 : BitVec 1 := Scalar.xori v2059 v2060
  let c0_i32_2668 : BitVec 32 := 0#32
  let v2058 : BitVec 1 := Scalar.cmpi .ne v2057 c0_i32_2668
  let v2062 : BitVec 1 := Scalar.andi v2061 v2058
  let v2063 : BitVec 32 := Scalar.addi v2057 v2056
  let v2064 : BitVec 32 := Scalar.select v2062 v2063 v2057
  let c8_i32_2671 : BitVec 32 := 8#32
  let v2065 : BitVec 32 := Scalar.muli v2064 c8_i32_2671
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2066 : BitVec 32 := Scalar.addi v2065 v29
  let c1_i32_2676 : BitVec 32 := 1#32
  let v2067 : BitVec 32 := Scalar.muli v2066 c1_i32_2676
  let v2068 : BitVec 32 := Scalar.addi c0_i32_2677 v2067
  v2068.toNat
def k0_dev46 (d0 : Dev nD) : Nat :=
  let c0_i32_2693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_2680 : BitVec 32 := 3#32
  let v2075 : BitVec 32 := Scalar.addi v19 c3_i32_2680
  let c4_i32_2681 : BitVec 32 := 4#32
  let c0_i32_2682 : BitVec 32 := 0#32
  let v2076 : BitVec 1 := Scalar.cmpi .eq c4_i32_2681 c0_i32_2682
  let c1_i32_2683 : BitVec 32 := 1#32
  let v2077 : BitVec 32 := Scalar.select v2076 c1_i32_2683 c4_i32_2681
  let v2078 : BitVec 32 := Scalar.remsi v2075 v2077
  let c0_i32_2685 : BitVec 32 := 0#32
  let v2080 : BitVec 1 := Scalar.cmpi .slt v2078 c0_i32_2685
  let c0_i32_2686 : BitVec 32 := 0#32
  let v2081 : BitVec 1 := Scalar.cmpi .slt v2077 c0_i32_2686
  let v2082 : BitVec 1 := Scalar.xori v2080 v2081
  let c0_i32_2684 : BitVec 32 := 0#32
  let v2079 : BitVec 1 := Scalar.cmpi .ne v2078 c0_i32_2684
  let v2083 : BitVec 1 := Scalar.andi v2082 v2079
  let v2084 : BitVec 32 := Scalar.addi v2078 v2077
  let v2085 : BitVec 32 := Scalar.select v2083 v2084 v2078
  let c8_i32_2687 : BitVec 32 := 8#32
  let v2086 : BitVec 32 := Scalar.muli v2085 c8_i32_2687
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2087 : BitVec 32 := Scalar.addi v2086 v29
  let c1_i32_2692 : BitVec 32 := 1#32
  let v2088 : BitVec 32 := Scalar.muli v2087 c1_i32_2692
  let v2089 : BitVec 32 := Scalar.addi c0_i32_2693 v2088
  v2089.toNat
def k0_off18 (d0 : Dev nD) (c0_i32_2696 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let v2096 : BitVec 32 := Scalar.addi v75 c0_i32_2696
  let c1_i32_2697 : BitVec 32 := 1#32
  let v2097 : BitVec 32 := Scalar.addi v2096 c1_i32_2697
  let c8_i32_2698 : BitVec 32 := 8#32
  let c0_i32_2699 : BitVec 32 := 0#32
  let v2098 : BitVec 1 := Scalar.cmpi .eq c8_i32_2698 c0_i32_2699
  let c1_i32_2700 : BitVec 32 := 1#32
  let v2099 : BitVec 32 := Scalar.select v2098 c1_i32_2700 c8_i32_2698
  let v2100 : BitVec 32 := Scalar.remsi v2097 v2099
  let c0_i32_2702 : BitVec 32 := 0#32
  let v2102 : BitVec 1 := Scalar.cmpi .slt v2100 c0_i32_2702
  let c0_i32_2703 : BitVec 32 := 0#32
  let v2103 : BitVec 1 := Scalar.cmpi .slt v2099 c0_i32_2703
  let v2104 : BitVec 1 := Scalar.xori v2102 v2103
  let c0_i32_2701 : BitVec 32 := 0#32
  let v2101 : BitVec 1 := Scalar.cmpi .ne v2100 c0_i32_2701
  let v2105 : BitVec 1 := Scalar.andi v2104 v2101
  let v2106 : BitVec 32 := Scalar.addi v2100 v2099
  let v2107 : BitVec 32 := Scalar.select v2105 v2106 v2100
  let c256_i32_2704 : BitVec 32 := 256#32
  let v2108 : BitVec 32 := Scalar.muli v2107 c256_i32_2704
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_94 : BitVec 32 := 1#32
  let v163 : BitVec 32 := Scalar.addi v19 c1_i32_94
  let c4_i32_95 : BitVec 32 := 4#32
  let c0_i32_96 : BitVec 32 := 0#32
  let v164 : BitVec 1 := Scalar.cmpi .eq c4_i32_95 c0_i32_96
  let c1_i32_97 : BitVec 32 := 1#32
  let v165 : BitVec 32 := Scalar.select v164 c1_i32_97 c4_i32_95
  let v166 : BitVec 32 := Scalar.remsi v163 v165
  let c0_i32_99 : BitVec 32 := 0#32
  let v168 : BitVec 1 := Scalar.cmpi .slt v166 c0_i32_99
  let c0_i32_100 : BitVec 32 := 0#32
  let v169 : BitVec 1 := Scalar.cmpi .slt v165 c0_i32_100
  let v170 : BitVec 1 := Scalar.xori v168 v169
  let c0_i32_98 : BitVec 32 := 0#32
  let v167 : BitVec 1 := Scalar.cmpi .ne v166 c0_i32_98
  let v171 : BitVec 1 := Scalar.andi v170 v167
  let v172 : BitVec 32 := Scalar.addi v166 v165
  let v173 : BitVec 32 := Scalar.select v171 v172 v166
  let c64_i32_2705 : BitVec 32 := 64#32
  let v2109 : BitVec 32 := Scalar.muli v173 c64_i32_2705
  let v2110 : BitVec 32 := Scalar.addi v2108 v2109
  let c512_i32_2714 : BitVec 32 := 512#32
  ![v2110.toNat, 512]
def k0_dev47 (d0 : Dev nD) : Nat :=
  let c0_i32_2713 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_2712 : BitVec 32 := 1#32
  let v2111 : BitVec 32 := Scalar.muli v151 c1_i32_2712
  let v2112 : BitVec 32 := Scalar.addi c0_i32_2713 v2111
  v2112.toNat
def k0_off19 (d0 : Dev nD) (c1_i32_2878 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_87 : BitVec 32 := 1#32
  let v152 : BitVec 32 := Scalar.addi v75 c1_i32_87
  let c8_i32_88 : BitVec 32 := 8#32
  let c0_i32_89 : BitVec 32 := 0#32
  let v153 : BitVec 1 := Scalar.cmpi .eq c8_i32_88 c0_i32_89
  let c1_i32_90 : BitVec 32 := 1#32
  let v154 : BitVec 32 := Scalar.select v153 c1_i32_90 c8_i32_88
  let v155 : BitVec 32 := Scalar.remsi v152 v154
  let c0_i32_92 : BitVec 32 := 0#32
  let v157 : BitVec 1 := Scalar.cmpi .slt v155 c0_i32_92
  let c0_i32_93 : BitVec 32 := 0#32
  let v158 : BitVec 1 := Scalar.cmpi .slt v154 c0_i32_93
  let v159 : BitVec 1 := Scalar.xori v157 v158
  let c0_i32_91 : BitVec 32 := 0#32
  let v156 : BitVec 1 := Scalar.cmpi .ne v155 c0_i32_91
  let v160 : BitVec 1 := Scalar.andi v159 v156
  let v161 : BitVec 32 := Scalar.addi v155 v154
  let v162 : BitVec 32 := Scalar.select v160 v161 v155
  let c256_i32_2886 : BitVec 32 := 256#32
  let v2317 : BitVec 32 := Scalar.muli v162 c256_i32_2886
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2305 : BitVec 32 := Scalar.addi v19 c1_i32_2878
  let c1_i32_2879 : BitVec 32 := 1#32
  let v2306 : BitVec 32 := Scalar.addi v2305 c1_i32_2879
  let c4_i32_2880 : BitVec 32 := 4#32
  let c0_i32_2881 : BitVec 32 := 0#32
  let v2307 : BitVec 1 := Scalar.cmpi .eq c4_i32_2880 c0_i32_2881
  let c1_i32_2882 : BitVec 32 := 1#32
  let v2308 : BitVec 32 := Scalar.select v2307 c1_i32_2882 c4_i32_2880
  let v2309 : BitVec 32 := Scalar.remsi v2306 v2308
  let c0_i32_2884 : BitVec 32 := 0#32
  let v2311 : BitVec 1 := Scalar.cmpi .slt v2309 c0_i32_2884
  let c0_i32_2885 : BitVec 32 := 0#32
  let v2312 : BitVec 1 := Scalar.cmpi .slt v2308 c0_i32_2885
  let v2313 : BitVec 1 := Scalar.xori v2311 v2312
  let c0_i32_2883 : BitVec 32 := 0#32
  let v2310 : BitVec 1 := Scalar.cmpi .ne v2309 c0_i32_2883
  let v2314 : BitVec 1 := Scalar.andi v2313 v2310
  let v2315 : BitVec 32 := Scalar.addi v2309 v2308
  let v2316 : BitVec 32 := Scalar.select v2314 v2315 v2309
  let c64_i32_2887 : BitVec 32 := 64#32
  let v2318 : BitVec 32 := Scalar.muli v2316 c64_i32_2887
  let v2319 : BitVec 32 := Scalar.addi v2317 v2318
  let c0_i32_2902 : BitVec 32 := 0#32
  ![v2319.toNat, 0]
def k0_off20 (d0 : Dev nD) (c0_i32_2905 : BitVec 32) (c1_i32_2913 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_2904 : BitVec 32 := 1#32
  let v2339 : BitVec 32 := Scalar.addi v75 c1_i32_2904
  let v2340 : BitVec 32 := Scalar.subi v2339 c0_i32_2905
  let c8_i32_2906 : BitVec 32 := 8#32
  let c0_i32_2907 : BitVec 32 := 0#32
  let v2341 : BitVec 1 := Scalar.cmpi .eq c8_i32_2906 c0_i32_2907
  let c1_i32_2908 : BitVec 32 := 1#32
  let v2342 : BitVec 32 := Scalar.select v2341 c1_i32_2908 c8_i32_2906
  let v2343 : BitVec 32 := Scalar.remsi v2340 v2342
  let c0_i32_2910 : BitVec 32 := 0#32
  let v2345 : BitVec 1 := Scalar.cmpi .slt v2343 c0_i32_2910
  let c0_i32_2911 : BitVec 32 := 0#32
  let v2346 : BitVec 1 := Scalar.cmpi .slt v2342 c0_i32_2911
  let v2347 : BitVec 1 := Scalar.xori v2345 v2346
  let c0_i32_2909 : BitVec 32 := 0#32
  let v2344 : BitVec 1 := Scalar.cmpi .ne v2343 c0_i32_2909
  let v2348 : BitVec 1 := Scalar.andi v2347 v2344
  let v2349 : BitVec 32 := Scalar.addi v2343 v2342
  let v2350 : BitVec 32 := Scalar.select v2348 v2349 v2343
  let c256_i32_2912 : BitVec 32 := 256#32
  let v2351 : BitVec 32 := Scalar.muli v2350 c256_i32_2912
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2352 : BitVec 32 := Scalar.addi v19 c1_i32_2913
  let c1_i32_2914 : BitVec 32 := 1#32
  let v2353 : BitVec 32 := Scalar.addi v2352 c1_i32_2914
  let c4_i32_2915 : BitVec 32 := 4#32
  let c0_i32_2916 : BitVec 32 := 0#32
  let v2354 : BitVec 1 := Scalar.cmpi .eq c4_i32_2915 c0_i32_2916
  let c1_i32_2917 : BitVec 32 := 1#32
  let v2355 : BitVec 32 := Scalar.select v2354 c1_i32_2917 c4_i32_2915
  let v2356 : BitVec 32 := Scalar.remsi v2353 v2355
  let c0_i32_2919 : BitVec 32 := 0#32
  let v2358 : BitVec 1 := Scalar.cmpi .slt v2356 c0_i32_2919
  let c0_i32_2920 : BitVec 32 := 0#32
  let v2359 : BitVec 1 := Scalar.cmpi .slt v2355 c0_i32_2920
  let v2360 : BitVec 1 := Scalar.xori v2358 v2359
  let c0_i32_2918 : BitVec 32 := 0#32
  let v2357 : BitVec 1 := Scalar.cmpi .ne v2356 c0_i32_2918
  let v2361 : BitVec 1 := Scalar.andi v2360 v2357
  let v2362 : BitVec 32 := Scalar.addi v2356 v2355
  let v2363 : BitVec 32 := Scalar.select v2361 v2362 v2356
  let c64_i32_2921 : BitVec 32 := 64#32
  let v2364 : BitVec 32 := Scalar.muli v2363 c64_i32_2921
  let v2365 : BitVec 32 := Scalar.addi v2351 v2364
  let c0_i32_2930 : BitVec 32 := 0#32
  ![v2365.toNat, 0]
def k0_dev48 (d0 : Dev nD) : Nat :=
  let c0_i32_2929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_2928 : BitVec 32 := 1#32
  let v2366 : BitVec 32 := Scalar.muli v113 c1_i32_2928
  let v2367 : BitVec 32 := Scalar.addi c0_i32_2929 v2366
  v2367.toNat
def k0_dev49 (d0 : Dev nD) : Nat :=
  let c0_i32_2983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_2982 : BitVec 32 := 1#32
  let v2435 : BitVec 32 := Scalar.muli v113 c1_i32_2982
  let v2436 : BitVec 32 := Scalar.addi c0_i32_2983 v2435
  v2436.toNat
def k0_dev50 (d0 : Dev nD) : Nat :=
  let c0_i32_3037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_3036 : BitVec 32 := 1#32
  let v2504 : BitVec 32 := Scalar.muli v113 c1_i32_3036
  let v2505 : BitVec 32 := Scalar.addi c0_i32_3037 v2504
  v2505.toNat
def k0_off21 (d0 : Dev nD) (c1_i32_3040 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_87 : BitVec 32 := 1#32
  let v152 : BitVec 32 := Scalar.addi v75 c1_i32_87
  let c8_i32_88 : BitVec 32 := 8#32
  let c0_i32_89 : BitVec 32 := 0#32
  let v153 : BitVec 1 := Scalar.cmpi .eq c8_i32_88 c0_i32_89
  let c1_i32_90 : BitVec 32 := 1#32
  let v154 : BitVec 32 := Scalar.select v153 c1_i32_90 c8_i32_88
  let v155 : BitVec 32 := Scalar.remsi v152 v154
  let c0_i32_92 : BitVec 32 := 0#32
  let v157 : BitVec 1 := Scalar.cmpi .slt v155 c0_i32_92
  let c0_i32_93 : BitVec 32 := 0#32
  let v158 : BitVec 1 := Scalar.cmpi .slt v154 c0_i32_93
  let v159 : BitVec 1 := Scalar.xori v157 v158
  let c0_i32_91 : BitVec 32 := 0#32
  let v156 : BitVec 1 := Scalar.cmpi .ne v155 c0_i32_91
  let v160 : BitVec 1 := Scalar.andi v159 v156
  let v161 : BitVec 32 := Scalar.addi v155 v154
  let v162 : BitVec 32 := Scalar.select v160 v161 v155
  let c256_i32_3048 : BitVec 32 := 256#32
  let v2524 : BitVec 32 := Scalar.muli v162 c256_i32_3048
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2512 : BitVec 32 := Scalar.addi v19 c1_i32_3040
  let c1_i32_3041 : BitVec 32 := 1#32
  let v2513 : BitVec 32 := Scalar.addi v2512 c1_i32_3041
  let c4_i32_3042 : BitVec 32 := 4#32
  let c0_i32_3043 : BitVec 32 := 0#32
  let v2514 : BitVec 1 := Scalar.cmpi .eq c4_i32_3042 c0_i32_3043
  let c1_i32_3044 : BitVec 32 := 1#32
  let v2515 : BitVec 32 := Scalar.select v2514 c1_i32_3044 c4_i32_3042
  let v2516 : BitVec 32 := Scalar.remsi v2513 v2515
  let c0_i32_3046 : BitVec 32 := 0#32
  let v2518 : BitVec 1 := Scalar.cmpi .slt v2516 c0_i32_3046
  let c0_i32_3047 : BitVec 32 := 0#32
  let v2519 : BitVec 1 := Scalar.cmpi .slt v2515 c0_i32_3047
  let v2520 : BitVec 1 := Scalar.xori v2518 v2519
  let c0_i32_3045 : BitVec 32 := 0#32
  let v2517 : BitVec 1 := Scalar.cmpi .ne v2516 c0_i32_3045
  let v2521 : BitVec 1 := Scalar.andi v2520 v2517
  let v2522 : BitVec 32 := Scalar.addi v2516 v2515
  let v2523 : BitVec 32 := Scalar.select v2521 v2522 v2516
  let c64_i32_3049 : BitVec 32 := 64#32
  let v2525 : BitVec 32 := Scalar.muli v2523 c64_i32_3049
  let v2526 : BitVec 32 := Scalar.addi v2524 v2525
  let c512_i32_3064 : BitVec 32 := 512#32
  ![v2526.toNat, 512]
def k0_off22 (d0 : Dev nD) (c0_i32_3066 : BitVec 32) (c1_i32_3075 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let v2546 : BitVec 32 := Scalar.addi v75 c0_i32_3066
  let c1_i32_3067 : BitVec 32 := 1#32
  let v2547 : BitVec 32 := Scalar.addi v2546 c1_i32_3067
  let c8_i32_3068 : BitVec 32 := 8#32
  let c0_i32_3069 : BitVec 32 := 0#32
  let v2548 : BitVec 1 := Scalar.cmpi .eq c8_i32_3068 c0_i32_3069
  let c1_i32_3070 : BitVec 32 := 1#32
  let v2549 : BitVec 32 := Scalar.select v2548 c1_i32_3070 c8_i32_3068
  let v2550 : BitVec 32 := Scalar.remsi v2547 v2549
  let c0_i32_3072 : BitVec 32 := 0#32
  let v2552 : BitVec 1 := Scalar.cmpi .slt v2550 c0_i32_3072
  let c0_i32_3073 : BitVec 32 := 0#32
  let v2553 : BitVec 1 := Scalar.cmpi .slt v2549 c0_i32_3073
  let v2554 : BitVec 1 := Scalar.xori v2552 v2553
  let c0_i32_3071 : BitVec 32 := 0#32
  let v2551 : BitVec 1 := Scalar.cmpi .ne v2550 c0_i32_3071
  let v2555 : BitVec 1 := Scalar.andi v2554 v2551
  let v2556 : BitVec 32 := Scalar.addi v2550 v2549
  let v2557 : BitVec 32 := Scalar.select v2555 v2556 v2550
  let c256_i32_3074 : BitVec 32 := 256#32
  let v2558 : BitVec 32 := Scalar.muli v2557 c256_i32_3074
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v2559 : BitVec 32 := Scalar.addi v19 c1_i32_3075
  let c1_i32_3076 : BitVec 32 := 1#32
  let v2560 : BitVec 32 := Scalar.addi v2559 c1_i32_3076
  let c4_i32_3077 : BitVec 32 := 4#32
  let c0_i32_3078 : BitVec 32 := 0#32
  let v2561 : BitVec 1 := Scalar.cmpi .eq c4_i32_3077 c0_i32_3078
  let c1_i32_3079 : BitVec 32 := 1#32
  let v2562 : BitVec 32 := Scalar.select v2561 c1_i32_3079 c4_i32_3077
  let v2563 : BitVec 32 := Scalar.remsi v2560 v2562
  let c0_i32_3081 : BitVec 32 := 0#32
  let v2565 : BitVec 1 := Scalar.cmpi .slt v2563 c0_i32_3081
  let c0_i32_3082 : BitVec 32 := 0#32
  let v2566 : BitVec 1 := Scalar.cmpi .slt v2562 c0_i32_3082
  let v2567 : BitVec 1 := Scalar.xori v2565 v2566
  let c0_i32_3080 : BitVec 32 := 0#32
  let v2564 : BitVec 1 := Scalar.cmpi .ne v2563 c0_i32_3080
  let v2568 : BitVec 1 := Scalar.andi v2567 v2564
  let v2569 : BitVec 32 := Scalar.addi v2563 v2562
  let v2570 : BitVec 32 := Scalar.select v2568 v2569 v2563
  let c64_i32_3083 : BitVec 32 := 64#32
  let v2571 : BitVec 32 := Scalar.muli v2570 c64_i32_3083
  let v2572 : BitVec 32 := Scalar.addi v2558 v2571
  let c512_i32_3092 : BitVec 32 := 512#32
  ![v2572.toNat, 512]
def k0_dev51 (d0 : Dev nD) : Nat :=
  let c0_i32_3091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_3090 : BitVec 32 := 1#32
  let v2573 : BitVec 32 := Scalar.muli v151 c1_i32_3090
  let v2574 : BitVec 32 := Scalar.addi c0_i32_3091 v2573
  v2574.toNat
def k0_dev52 (d0 : Dev nD) : Nat :=
  let c0_i32_3145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_3144 : BitVec 32 := 1#32
  let v2642 : BitVec 32 := Scalar.muli v151 c1_i32_3144
  let v2643 : BitVec 32 := Scalar.addi c0_i32_3145 v2642
  v2643.toNat
def k0_dev53 (d0 : Dev nD) : Nat :=
  let c0_i32_3199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_3198 : BitVec 32 := 1#32
  let v2711 : BitVec 32 := Scalar.muli v151 c1_i32_3198
  let v2712 : BitVec 32 := Scalar.addi c0_i32_3199 v2711
  v2712.toNat
def k0_dev54 (d0 : Dev nD) : Nat :=
  let c0_i32_3329 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_3328 : BitVec 32 := 1#32
  let v2857 : BitVec 32 := Scalar.muli v113 c1_i32_3328
  let v2858 : BitVec 32 := Scalar.addi c0_i32_3329 v2857
  v2858.toNat
def k0_dev55 (d0 : Dev nD) : Nat :=
  let c0_i32_3369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_3368 : BitVec 32 := 1#32
  let v2901 : BitVec 32 := Scalar.muli v151 c1_i32_3368
  let v2902 : BitVec 32 := Scalar.addi c0_i32_3369 v2901
  v2902.toNat
def k0_dev56 (d0 : Dev nD) : Nat :=
  let c0_i32_3425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_3424 : BitVec 32 := 1#32
  let v2969 : BitVec 32 := Scalar.muli v113 c1_i32_3424
  let v2970 : BitVec 32 := Scalar.addi c0_i32_3425 v2969
  v2970.toNat
def k0_dev57 (d0 : Dev nD) : Nat :=
  let c0_i32_3481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_3480 : BitVec 32 := 1#32
  let v3037 : BitVec 32 := Scalar.muli v151 c1_i32_3480
  let v3038 : BitVec 32 := Scalar.addi c0_i32_3481 v3037
  v3038.toNat
def k0_dev58 (d0 : Dev nD) : Nat :=
  let c0_i32_3537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_3536 : BitVec 32 := 1#32
  let v3105 : BitVec 32 := Scalar.muli v113 c1_i32_3536
  let v3106 : BitVec 32 := Scalar.addi c0_i32_3537 v3105
  v3106.toNat
def k0_dev59 (d0 : Dev nD) : Nat :=
  let c0_i32_3593 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_3592 : BitVec 32 := 1#32
  let v3173 : BitVec 32 := Scalar.muli v151 c1_i32_3592
  let v3174 : BitVec 32 := Scalar.addi c0_i32_3593 v3173
  v3174.toNat
def k0_dev60 (d0 : Dev nD) : Nat :=
  let c0_i32_3649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_3648 : BitVec 32 := 1#32
  let v3241 : BitVec 32 := Scalar.muli v113 c1_i32_3648
  let v3242 : BitVec 32 := Scalar.addi c0_i32_3649 v3241
  v3242.toNat
def k0_dev61 (d0 : Dev nD) : Nat :=
  let c0_i32_3705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_3704 : BitVec 32 := 1#32
  let v3309 : BitVec 32 := Scalar.muli v151 c1_i32_3704
  let v3310 : BitVec 32 := Scalar.addi c0_i32_3705 v3309
  v3310.toNat
def k0_dev62 (d0 : Dev nD) : Nat :=
  let c0_i32_3745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_3744 : BitVec 32 := 1#32
  let v3353 : BitVec 32 := Scalar.muli v113 c1_i32_3744
  let v3354 : BitVec 32 := Scalar.addi c0_i32_3745 v3353
  v3354.toNat
def k0_dev63 (d0 : Dev nD) : Nat :=
  let c0_i32_3785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_3784 : BitVec 32 := 1#32
  let v3397 : BitVec 32 := Scalar.muli v151 c1_i32_3784
  let v3398 : BitVec 32 := Scalar.addi c0_i32_3785 v3397
  v3398.toNat
def k0_dev64 (d0 : Dev nD) : Nat :=
  let c0_i32_3841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_3840 : BitVec 32 := 1#32
  let v3465 : BitVec 32 := Scalar.muli v113 c1_i32_3840
  let v3466 : BitVec 32 := Scalar.addi c0_i32_3841 v3465
  v3466.toNat
def k0_dev65 (d0 : Dev nD) : Nat :=
  let c0_i32_3897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_3896 : BitVec 32 := 1#32
  let v3533 : BitVec 32 := Scalar.muli v151 c1_i32_3896
  let v3534 : BitVec 32 := Scalar.addi c0_i32_3897 v3533
  v3534.toNat
def k0_dev66 (d0 : Dev nD) : Nat :=
  let c0_i32_3953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_3952 : BitVec 32 := 1#32
  let v3601 : BitVec 32 := Scalar.muli v113 c1_i32_3952
  let v3602 : BitVec 32 := Scalar.addi c0_i32_3953 v3601
  v3602.toNat
def k0_dev67 (d0 : Dev nD) : Nat :=
  let c0_i32_4009 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_4008 : BitVec 32 := 1#32
  let v3669 : BitVec 32 := Scalar.muli v151 c1_i32_4008
  let v3670 : BitVec 32 := Scalar.addi c0_i32_4009 v3669
  v3670.toNat
def k0_dev68 (d0 : Dev nD) : Nat :=
  let c0_i32_4065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_4064 : BitVec 32 := 1#32
  let v3737 : BitVec 32 := Scalar.muli v113 c1_i32_4064
  let v3738 : BitVec 32 := Scalar.addi c0_i32_4065 v3737
  v3738.toNat
def k0_dev69 (d0 : Dev nD) : Nat :=
  let c0_i32_4121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_4120 : BitVec 32 := 1#32
  let v3805 : BitVec 32 := Scalar.muli v151 c1_i32_4120
  let v3806 : BitVec 32 := Scalar.addi c0_i32_4121 v3805
  v3806.toNat
def k0_dev70 (d0 : Dev nD) : Nat :=
  let c0_i32_4161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_4160 : BitVec 32 := 1#32
  let v3849 : BitVec 32 := Scalar.muli v113 c1_i32_4160
  let v3850 : BitVec 32 := Scalar.addi c0_i32_4161 v3849
  v3850.toNat
def k0_dev71 (d0 : Dev nD) : Nat :=
  let c0_i32_4201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_4200 : BitVec 32 := 1#32
  let v3893 : BitVec 32 := Scalar.muli v151 c1_i32_4200
  let v3894 : BitVec 32 := Scalar.addi c0_i32_4201 v3893
  v3894.toNat
def k0_dev72 (d0 : Dev nD) : Nat :=
  let c0_i32_4257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_4256 : BitVec 32 := 1#32
  let v3961 : BitVec 32 := Scalar.muli v113 c1_i32_4256
  let v3962 : BitVec 32 := Scalar.addi c0_i32_4257 v3961
  v3962.toNat
def k0_dev73 (d0 : Dev nD) : Nat :=
  let c0_i32_4313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_4312 : BitVec 32 := 1#32
  let v4029 : BitVec 32 := Scalar.muli v151 c1_i32_4312
  let v4030 : BitVec 32 := Scalar.addi c0_i32_4313 v4029
  v4030.toNat
def k0_dev74 (d0 : Dev nD) : Nat :=
  let c0_i32_4369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_4368 : BitVec 32 := 1#32
  let v4097 : BitVec 32 := Scalar.muli v113 c1_i32_4368
  let v4098 : BitVec 32 := Scalar.addi c0_i32_4369 v4097
  v4098.toNat
def k0_dev75 (d0 : Dev nD) : Nat :=
  let c0_i32_4425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_4424 : BitVec 32 := 1#32
  let v4165 : BitVec 32 := Scalar.muli v151 c1_i32_4424
  let v4166 : BitVec 32 := Scalar.addi c0_i32_4425 v4165
  v4166.toNat
def k0_dev76 (d0 : Dev nD) : Nat :=
  let c0_i32_4481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_4480 : BitVec 32 := 1#32
  let v4233 : BitVec 32 := Scalar.muli v113 c1_i32_4480
  let v4234 : BitVec 32 := Scalar.addi c0_i32_4481 v4233
  v4234.toNat
def k0_dev77 (d0 : Dev nD) : Nat :=
  let c0_i32_4537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_4536 : BitVec 32 := 1#32
  let v4301 : BitVec 32 := Scalar.muli v151 c1_i32_4536
  let v4302 : BitVec 32 := Scalar.addi c0_i32_4537 v4301
  v4302.toNat
def k0_dev78 (d0 : Dev nD) : Nat :=
  let c0_i32_4577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_4576 : BitVec 32 := 1#32
  let v4345 : BitVec 32 := Scalar.muli v113 c1_i32_4576
  let v4346 : BitVec 32 := Scalar.addi c0_i32_4577 v4345
  v4346.toNat
def k0_dev79 (d0 : Dev nD) : Nat :=
  let c0_i32_4617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_4616 : BitVec 32 := 1#32
  let v4389 : BitVec 32 := Scalar.muli v151 c1_i32_4616
  let v4390 : BitVec 32 := Scalar.addi c0_i32_4617 v4389
  v4390.toNat
def k0_dev80 (d0 : Dev nD) : Nat :=
  let c0_i32_4673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_4672 : BitVec 32 := 1#32
  let v4457 : BitVec 32 := Scalar.muli v113 c1_i32_4672
  let v4458 : BitVec 32 := Scalar.addi c0_i32_4673 v4457
  v4458.toNat
def k0_dev81 (d0 : Dev nD) : Nat :=
  let c0_i32_4729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_4728 : BitVec 32 := 1#32
  let v4525 : BitVec 32 := Scalar.muli v151 c1_i32_4728
  let v4526 : BitVec 32 := Scalar.addi c0_i32_4729 v4525
  v4526.toNat
def k0_dev82 (d0 : Dev nD) : Nat :=
  let c0_i32_4785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_4784 : BitVec 32 := 1#32
  let v4593 : BitVec 32 := Scalar.muli v113 c1_i32_4784
  let v4594 : BitVec 32 := Scalar.addi c0_i32_4785 v4593
  v4594.toNat
def k0_dev83 (d0 : Dev nD) : Nat :=
  let c0_i32_4841 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_4840 : BitVec 32 := 1#32
  let v4661 : BitVec 32 := Scalar.muli v151 c1_i32_4840
  let v4662 : BitVec 32 := Scalar.addi c0_i32_4841 v4661
  v4662.toNat
def k0_dev84 (d0 : Dev nD) : Nat :=
  let c0_i32_4897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_4896 : BitVec 32 := 1#32
  let v4729 : BitVec 32 := Scalar.muli v113 c1_i32_4896
  let v4730 : BitVec 32 := Scalar.addi c0_i32_4897 v4729
  v4730.toNat
def k0_dev85 (d0 : Dev nD) : Nat :=
  let c0_i32_4953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_4952 : BitVec 32 := 1#32
  let v4797 : BitVec 32 := Scalar.muli v151 c1_i32_4952
  let v4798 : BitVec 32 := Scalar.addi c0_i32_4953 v4797
  v4798.toNat
def k0_dev86 (d0 : Dev nD) : Nat :=
  let c0_i32_4993 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_4992 : BitVec 32 := 1#32
  let v4841 : BitVec 32 := Scalar.muli v113 c1_i32_4992
  let v4842 : BitVec 32 := Scalar.addi c0_i32_4993 v4841
  v4842.toNat
def k0_dev87 (d0 : Dev nD) : Nat :=
  let c0_i32_5033 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_5032 : BitVec 32 := 1#32
  let v4885 : BitVec 32 := Scalar.muli v151 c1_i32_5032
  let v4886 : BitVec 32 := Scalar.addi c0_i32_5033 v4885
  v4886.toNat
def k0_dev88 (d0 : Dev nD) : Nat :=
  let c0_i32_5089 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_5088 : BitVec 32 := 1#32
  let v4953 : BitVec 32 := Scalar.muli v113 c1_i32_5088
  let v4954 : BitVec 32 := Scalar.addi c0_i32_5089 v4953
  v4954.toNat
def k0_dev89 (d0 : Dev nD) : Nat :=
  let c0_i32_5145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_5144 : BitVec 32 := 1#32
  let v5021 : BitVec 32 := Scalar.muli v151 c1_i32_5144
  let v5022 : BitVec 32 := Scalar.addi c0_i32_5145 v5021
  v5022.toNat
def k0_dev90 (d0 : Dev nD) : Nat :=
  let c0_i32_5201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_5200 : BitVec 32 := 1#32
  let v5089 : BitVec 32 := Scalar.muli v113 c1_i32_5200
  let v5090 : BitVec 32 := Scalar.addi c0_i32_5201 v5089
  v5090.toNat
def k0_dev91 (d0 : Dev nD) : Nat :=
  let c0_i32_5257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_5256 : BitVec 32 := 1#32
  let v5157 : BitVec 32 := Scalar.muli v151 c1_i32_5256
  let v5158 : BitVec 32 := Scalar.addi c0_i32_5257 v5157
  v5158.toNat
def k0_dev92 (d0 : Dev nD) : Nat :=
  let c0_i32_5313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_5312 : BitVec 32 := 1#32
  let v5225 : BitVec 32 := Scalar.muli v113 c1_i32_5312
  let v5226 : BitVec 32 := Scalar.addi c0_i32_5313 v5225
  v5226.toNat
def k0_dev93 (d0 : Dev nD) : Nat :=
  let c0_i32_5369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_5368 : BitVec 32 := 1#32
  let v5293 : BitVec 32 := Scalar.muli v151 c1_i32_5368
  let v5294 : BitVec 32 := Scalar.addi c0_i32_5369 v5293
  v5294.toNat
def k0_dev94 (d0 : Dev nD) : Nat :=
  let c0_i32_5409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_5408 : BitVec 32 := 1#32
  let v5337 : BitVec 32 := Scalar.muli v113 c1_i32_5408
  let v5338 : BitVec 32 := Scalar.addi c0_i32_5409 v5337
  v5338.toNat
def k0_dev95 (d0 : Dev nD) : Nat :=
  let c0_i32_5449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_5448 : BitVec 32 := 1#32
  let v5381 : BitVec 32 := Scalar.muli v151 c1_i32_5448
  let v5382 : BitVec 32 := Scalar.addi c0_i32_5449 v5381
  v5382.toNat
def k0_dev96 (d0 : Dev nD) : Nat :=
  let c0_i32_5505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_5504 : BitVec 32 := 1#32
  let v5449 : BitVec 32 := Scalar.muli v113 c1_i32_5504
  let v5450 : BitVec 32 := Scalar.addi c0_i32_5505 v5449
  v5450.toNat
def k0_dev97 (d0 : Dev nD) : Nat :=
  let c0_i32_5561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_5560 : BitVec 32 := 1#32
  let v5517 : BitVec 32 := Scalar.muli v151 c1_i32_5560
  let v5518 : BitVec 32 := Scalar.addi c0_i32_5561 v5517
  v5518.toNat
def k0_dev98 (d0 : Dev nD) : Nat :=
  let c0_i32_5617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_5616 : BitVec 32 := 1#32
  let v5585 : BitVec 32 := Scalar.muli v113 c1_i32_5616
  let v5586 : BitVec 32 := Scalar.addi c0_i32_5617 v5585
  v5586.toNat
def k0_dev99 (d0 : Dev nD) : Nat :=
  let c0_i32_5673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_5672 : BitVec 32 := 1#32
  let v5653 : BitVec 32 := Scalar.muli v151 c1_i32_5672
  let v5654 : BitVec 32 := Scalar.addi c0_i32_5673 v5653
  v5654.toNat
def k0_dev100 (d0 : Dev nD) : Nat :=
  let c0_i32_5729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_36 : BitVec 32 := 8#32
  let v76 : BitVec 32 := Scalar.muli v19 c8_i32_36
  let c2_i32_52 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_37 : BitVec 32 := 1#32
  let v77 : BitVec 32 := Scalar.addi v75 c1_i32_37
  let c8_i32_38 : BitVec 32 := 8#32
  let c0_i32_39 : BitVec 32 := 0#32
  let v78 : BitVec 1 := Scalar.cmpi .eq c8_i32_38 c0_i32_39
  let c1_i32_40 : BitVec 32 := 1#32
  let v79 : BitVec 32 := Scalar.select v78 c1_i32_40 c8_i32_38
  let v80 : BitVec 32 := Scalar.remsi v77 v79
  let c0_i32_42 : BitVec 32 := 0#32
  let v82 : BitVec 1 := Scalar.cmpi .slt v80 c0_i32_42
  let c0_i32_43 : BitVec 32 := 0#32
  let v83 : BitVec 1 := Scalar.cmpi .slt v79 c0_i32_43
  let v84 : BitVec 1 := Scalar.xori v82 v83
  let c0_i32_41 : BitVec 32 := 0#32
  let v81 : BitVec 1 := Scalar.cmpi .ne v80 c0_i32_41
  let v85 : BitVec 1 := Scalar.andi v84 v81
  let v86 : BitVec 32 := Scalar.addi v80 v79
  let v87 : BitVec 32 := Scalar.select v85 v86 v80
  let c0_i32_47 : BitVec 32 := 0#32
  let v92 : BitVec 1 := Scalar.cmpi .eq v87 c0_i32_47
  let c0_i32_51 : BitVec 32 := 0#32
  let c4_i32_48 : BitVec 32 := 4#32
  let v93 : BitVec 1 := Scalar.cmpi .sle v87 c4_i32_48
  let c1_i32_49 : BitVec 32 := 1#32
  let v94 : BitVec 32 := Scalar.subi v87 c1_i32_49
  let c8_i32_50 : BitVec 32 := 8#32
  let v95 : BitVec 32 := Scalar.subi c8_i32_50 v87
  let v96 : BitVec 32 := Scalar.select v93 v94 v95
  let v97 : BitVec 32 := Scalar.select v92 c0_i32_51 v96
  let v98 : BitVec 32 := Scalar.muli c2_i32_52 v97
  let c2_i32_53 : BitVec 32 := 2#32
  let c0_i32_54 : BitVec 32 := 0#32
  let v99 : BitVec 1 := Scalar.cmpi .eq c2_i32_53 c0_i32_54
  let c1_i32_55 : BitVec 32 := 1#32
  let v100 : BitVec 32 := Scalar.select v99 c1_i32_55 c2_i32_53
  let v101 : BitVec 32 := Scalar.remsi v97 v100
  let c0_i32_57 : BitVec 32 := 0#32
  let v103 : BitVec 1 := Scalar.cmpi .slt v101 c0_i32_57
  let c0_i32_58 : BitVec 32 := 0#32
  let v104 : BitVec 1 := Scalar.cmpi .slt v100 c0_i32_58
  let v105 : BitVec 1 := Scalar.xori v103 v104
  let c0_i32_56 : BitVec 32 := 0#32
  let v102 : BitVec 1 := Scalar.cmpi .ne v101 c0_i32_56
  let v106 : BitVec 1 := Scalar.andi v105 v102
  let v107 : BitVec 32 := Scalar.addi v101 v100
  let v108 : BitVec 32 := Scalar.select v106 v107 v101
  let c0_i32_59 : BitVec 32 := 0#32
  let v109 : BitVec 1 := Scalar.cmpi .eq v108 c0_i32_59
  let c1_i32_44 : BitVec 32 := 1#32
  let v88 : BitVec 1 := Scalar.cmpi .sge v87 c1_i32_44
  let c4_i32 : BitVec 32 := 4#32
  let v89 : BitVec 1 := Scalar.cmpi .sle v87 c4_i32
  let v90 : BitVec 1 := Scalar.andi v88 v89
  let c1_i32_45 : BitVec 32 := 1#32
  let c0_i32_46 : BitVec 32 := 0#32
  let v91 : BitVec 32 := Scalar.select v90 c1_i32_45 c0_i32_46
  let c1_i32_60 : BitVec 32 := 1#32
  let v110 : BitVec 32 := Scalar.subi c1_i32_60 v91
  let v111 : BitVec 32 := Scalar.select v109 v91 v110
  let v112 : BitVec 32 := Scalar.addi v98 v111
  let v113 : BitVec 32 := Scalar.addi v76 v112
  let c1_i32_5728 : BitVec 32 := 1#32
  let v5721 : BitVec 32 := Scalar.muli v113 c1_i32_5728
  let v5722 : BitVec 32 := Scalar.addi c0_i32_5729 v5721
  v5722.toNat
def k0_dev101 (d0 : Dev nD) : Nat :=
  let c0_i32_5785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_61 : BitVec 32 := 8#32
  let v114 : BitVec 32 := Scalar.muli v19 c8_i32_61
  let c2_i32_78 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c2_i32_23 : BitVec 32 := 2#32
  let c0_i32_24 : BitVec 32 := 0#32
  let v57 : BitVec 1 := Scalar.cmpi .eq c2_i32_23 c0_i32_24
  let c1_i32_25 : BitVec 32 := 1#32
  let v58 : BitVec 32 := Scalar.select v57 c1_i32_25 c2_i32_23
  let v59 : BitVec 32 := Scalar.remsi v46 v58
  let c0_i32_27 : BitVec 32 := 0#32
  let v61 : BitVec 1 := Scalar.cmpi .slt v59 c0_i32_27
  let c0_i32_28 : BitVec 32 := 0#32
  let v62 : BitVec 1 := Scalar.cmpi .slt v58 c0_i32_28
  let v63 : BitVec 1 := Scalar.xori v61 v62
  let c0_i32_26 : BitVec 32 := 0#32
  let v60 : BitVec 1 := Scalar.cmpi .ne v59 c0_i32_26
  let v64 : BitVec 1 := Scalar.andi v63 v60
  let v65 : BitVec 32 := Scalar.addi v59 v58
  let v66 : BitVec 32 := Scalar.select v64 v65 v59
  let c0_i32_29 : BitVec 32 := 0#32
  let v67 : BitVec 1 := Scalar.cmpi .eq v66 c0_i32_29
  let c2_i32_17 : BitVec 32 := 2#32
  let c0_i32_18 : BitVec 32 := 0#32
  let v47 : BitVec 1 := Scalar.cmpi .eq c2_i32_17 c0_i32_18
  let c1_i32_19 : BitVec 32 := 1#32
  let v48 : BitVec 32 := Scalar.select v47 c1_i32_19 c2_i32_17
  let v49 : BitVec 32 := Scalar.remsi v29 v48
  let c0_i32_21 : BitVec 32 := 0#32
  let v51 : BitVec 1 := Scalar.cmpi .slt v49 c0_i32_21
  let c0_i32_22 : BitVec 32 := 0#32
  let v52 : BitVec 1 := Scalar.cmpi .slt v48 c0_i32_22
  let v53 : BitVec 1 := Scalar.xori v51 v52
  let c0_i32_20 : BitVec 32 := 0#32
  let v50 : BitVec 1 := Scalar.cmpi .ne v49 c0_i32_20
  let v54 : BitVec 1 := Scalar.andi v53 v50
  let v55 : BitVec 32 := Scalar.addi v49 v48
  let v56 : BitVec 32 := Scalar.select v54 v55 v49
  let c1_i32_30 : BitVec 32 := 1#32
  let v68 : BitVec 32 := Scalar.subi c1_i32_30 v56
  let v69 : BitVec 32 := Scalar.select v67 v56 v68
  let c1_i32_31 : BitVec 32 := 1#32
  let v70 : BitVec 1 := Scalar.cmpi .eq v69 c1_i32_31
  let c1_i32_32 : BitVec 32 := 1#32
  let v71 : BitVec 32 := Scalar.addi v46 c1_i32_32
  let c0_i32_33 : BitVec 32 := 0#32
  let v72 : BitVec 1 := Scalar.cmpi .eq v46 c0_i32_33
  let c0_i32_35 : BitVec 32 := 0#32
  let c8_i32_34 : BitVec 32 := 8#32
  let v73 : BitVec 32 := Scalar.subi c8_i32_34 v46
  let v74 : BitVec 32 := Scalar.select v72 c0_i32_35 v73
  let v75 : BitVec 32 := Scalar.select v70 v71 v74
  let c1_i32_62 : BitVec 32 := 1#32
  let v115 : BitVec 32 := Scalar.subi v75 c1_i32_62
  let c8_i32_63 : BitVec 32 := 8#32
  let c0_i32_64 : BitVec 32 := 0#32
  let v116 : BitVec 1 := Scalar.cmpi .eq c8_i32_63 c0_i32_64
  let c1_i32_65 : BitVec 32 := 1#32
  let v117 : BitVec 32 := Scalar.select v116 c1_i32_65 c8_i32_63
  let v118 : BitVec 32 := Scalar.remsi v115 v117
  let c0_i32_67 : BitVec 32 := 0#32
  let v120 : BitVec 1 := Scalar.cmpi .slt v118 c0_i32_67
  let c0_i32_68 : BitVec 32 := 0#32
  let v121 : BitVec 1 := Scalar.cmpi .slt v117 c0_i32_68
  let v122 : BitVec 1 := Scalar.xori v120 v121
  let c0_i32_66 : BitVec 32 := 0#32
  let v119 : BitVec 1 := Scalar.cmpi .ne v118 c0_i32_66
  let v123 : BitVec 1 := Scalar.andi v122 v119
  let v124 : BitVec 32 := Scalar.addi v118 v117
  let v125 : BitVec 32 := Scalar.select v123 v124 v118
  let c0_i32_73 : BitVec 32 := 0#32
  let v130 : BitVec 1 := Scalar.cmpi .eq v125 c0_i32_73
  let c0_i32_77 : BitVec 32 := 0#32
  let c4_i32_74 : BitVec 32 := 4#32
  let v131 : BitVec 1 := Scalar.cmpi .sle v125 c4_i32_74
  let c1_i32_75 : BitVec 32 := 1#32
  let v132 : BitVec 32 := Scalar.subi v125 c1_i32_75
  let c8_i32_76 : BitVec 32 := 8#32
  let v133 : BitVec 32 := Scalar.subi c8_i32_76 v125
  let v134 : BitVec 32 := Scalar.select v131 v132 v133
  let v135 : BitVec 32 := Scalar.select v130 c0_i32_77 v134
  let v136 : BitVec 32 := Scalar.muli c2_i32_78 v135
  let c2_i32_79 : BitVec 32 := 2#32
  let c0_i32_80 : BitVec 32 := 0#32
  let v137 : BitVec 1 := Scalar.cmpi .eq c2_i32_79 c0_i32_80
  let c1_i32_81 : BitVec 32 := 1#32
  let v138 : BitVec 32 := Scalar.select v137 c1_i32_81 c2_i32_79
  let v139 : BitVec 32 := Scalar.remsi v135 v138
  let c0_i32_83 : BitVec 32 := 0#32
  let v141 : BitVec 1 := Scalar.cmpi .slt v139 c0_i32_83
  let c0_i32_84 : BitVec 32 := 0#32
  let v142 : BitVec 1 := Scalar.cmpi .slt v138 c0_i32_84
  let v143 : BitVec 1 := Scalar.xori v141 v142
  let c0_i32_82 : BitVec 32 := 0#32
  let v140 : BitVec 1 := Scalar.cmpi .ne v139 c0_i32_82
  let v144 : BitVec 1 := Scalar.andi v143 v140
  let v145 : BitVec 32 := Scalar.addi v139 v138
  let v146 : BitVec 32 := Scalar.select v144 v145 v139
  let c0_i32_85 : BitVec 32 := 0#32
  let v147 : BitVec 1 := Scalar.cmpi .eq v146 c0_i32_85
  let c1_i32_69 : BitVec 32 := 1#32
  let v126 : BitVec 1 := Scalar.cmpi .sge v125 c1_i32_69
  let c4_i32_70 : BitVec 32 := 4#32
  let v127 : BitVec 1 := Scalar.cmpi .sle v125 c4_i32_70
  let v128 : BitVec 1 := Scalar.andi v126 v127
  let c1_i32_71 : BitVec 32 := 1#32
  let c0_i32_72 : BitVec 32 := 0#32
  let v129 : BitVec 32 := Scalar.select v128 c1_i32_71 c0_i32_72
  let c1_i32_86 : BitVec 32 := 1#32
  let v148 : BitVec 32 := Scalar.subi c1_i32_86 v129
  let v149 : BitVec 32 := Scalar.select v147 v129 v148
  let v150 : BitVec 32 := Scalar.addi v136 v149
  let v151 : BitVec 32 := Scalar.addi v114 v150
  let c1_i32_5784 : BitVec 32 := 1#32
  let v5789 : BitVec 32 := Scalar.muli v151 c1_i32_5784
  let v5790 : BitVec 32 := Scalar.addi c0_i32_5785 v5789
  v5790.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S65536x1024 : Shape := ⟨2, ![65536, 1024]⟩
abbrev S1024x1024 : Shape := ⟨2, ![1024, 1024]⟩
abbrev S32x2048x1024 : Shape := ⟨3, ![32, 2048, 1024]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S32x2048x1024, .f32⟩
  | .hbm, ⟨3, _⟩ => ⟨S_, .f32⟩
  | .hbm, ⟨4, _⟩ => ⟨S2048x1024, .f32⟩
  | .hbm, ⟨5, _⟩ => ⟨S2048x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Ops.lean ====
/-
  The kernel body as a list of steps. Every memory operation of the body belongs to one step of the list `steps`; a step's
  program `frag` is written once, at symbolic coordinates (direction, ring position, column half, hop), over the offset
  and device functions the printed body uses, and the body is the chain of the steps' programs (`body_eq`).
-/
module

public import proofs.«01_k».proof.Proof.Gen.KernelIdeal
public import proofs.«01_k».proof.Proof.Gen.KernelIdeal.Points
public import proofs.«01_k».proof.Proof.Gen.KernelIdeal.Launch

@[expose] public section

set_option synthInstance.maxSize 4096

noncomputable section

namespace Cert.Ring

open Cert.KernelIdeal Cert.KernelIdeal.Gen
open Idealize.ShloMosaic Idealize.SL.Sem

variable {F : FTy → Type} [FloatOps F]

/-! ### The device and offset functions of the printed body, by coordinates -/

/-- The devices the barrier's five signals address, in the order signalled. -/
def sigDev (c : Dev nD) : Fin 5 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩]
/-- The device a row transfer of the reduce-scatter addresses. -/
def p1Dev (c : Dev nD) : Fin 2 → Fin 7 → Fin 2 → Dev nD :=
  ![![![⟨k0_dev6 c, k0_dev6_lt c⟩, ⟨k0_dev7 c, k0_dev7_lt c⟩], ![⟨k0_dev10 c, k0_dev10_lt c⟩, ⟨k0_dev12 c, k0_dev12_lt c⟩], ![⟨k0_dev14 c, k0_dev14_lt c⟩, ⟨k0_dev16 c, k0_dev16_lt c⟩], ![⟨k0_dev18 c, k0_dev18_lt c⟩, ⟨k0_dev20 c, k0_dev20_lt c⟩], ![⟨k0_dev22 c, k0_dev22_lt c⟩, ⟨k0_dev24 c, k0_dev24_lt c⟩], ![⟨k0_dev26 c, k0_dev26_lt c⟩, ⟨k0_dev28 c, k0_dev28_lt c⟩], ![⟨k0_dev30 c, k0_dev30_lt c⟩, ⟨k0_dev32 c, k0_dev32_lt c⟩]],
    ![![⟨k0_dev8 c, k0_dev8_lt c⟩, ⟨k0_dev9 c, k0_dev9_lt c⟩], ![⟨k0_dev11 c, k0_dev11_lt c⟩, ⟨k0_dev13 c, k0_dev13_lt c⟩], ![⟨k0_dev15 c, k0_dev15_lt c⟩, ⟨k0_dev17 c, k0_dev17_lt c⟩], ![⟨k0_dev19 c, k0_dev19_lt c⟩, ⟨k0_dev21 c, k0_dev21_lt c⟩], ![⟨k0_dev23 c, k0_dev23_lt c⟩, ⟨k0_dev25 c, k0_dev25_lt c⟩], ![⟨k0_dev27 c, k0_dev27_lt c⟩, ⟨k0_dev29 c, k0_dev29_lt c⟩], ![⟨k0_dev31 c, k0_dev31_lt c⟩, ⟨k0_dev33 c, k0_dev33_lt c⟩]]]
/-- The device a column transfer of partial sums addresses. -/
def p2Dev (c : Dev nD) : Fin 2 → Fin 3 → Dev nD :=
  ![![⟨k0_dev34 c, k0_dev34_lt c⟩, ⟨k0_dev36 c, k0_dev36_lt c⟩, ⟨k0_dev38 c, k0_dev38_lt c⟩], ![⟨k0_dev35 c, k0_dev35_lt c⟩, ⟨k0_dev37 c, k0_dev37_lt c⟩, ⟨k0_dev39 c, k0_dev39_lt c⟩]]
/-- The device a column transfer of a finished piece addresses. -/
def p3Dev (c : Dev nD) : Fin 2 → Fin 3 → Dev nD :=
  ![![⟨k0_dev40 c, k0_dev40_lt c⟩, ⟨k0_dev41 c, k0_dev41_lt c⟩, ⟨k0_dev42 c, k0_dev42_lt c⟩], ![⟨k0_dev44 c, k0_dev44_lt c⟩, ⟨k0_dev45 c, k0_dev45_lt c⟩, ⟨k0_dev46 c, k0_dev46_lt c⟩]]
/-- The device a row transfer of a finished piece addresses. -/
def p4Dev (c : Dev nD) : Fin 2 → Fin 7 → Fin 4 → Dev nD :=
  ![![![⟨k0_dev43 c, k0_dev43_lt c⟩, ⟨k0_dev48 c, k0_dev48_lt c⟩, ⟨k0_dev49 c, k0_dev49_lt c⟩, ⟨k0_dev50 c, k0_dev50_lt c⟩], ![⟨k0_dev54 c, k0_dev54_lt c⟩, ⟨k0_dev56 c, k0_dev56_lt c⟩, ⟨k0_dev58 c, k0_dev58_lt c⟩, ⟨k0_dev60 c, k0_dev60_lt c⟩], ![⟨k0_dev62 c, k0_dev62_lt c⟩, ⟨k0_dev64 c, k0_dev64_lt c⟩, ⟨k0_dev66 c, k0_dev66_lt c⟩, ⟨k0_dev68 c, k0_dev68_lt c⟩], ![⟨k0_dev70 c, k0_dev70_lt c⟩, ⟨k0_dev72 c, k0_dev72_lt c⟩, ⟨k0_dev74 c, k0_dev74_lt c⟩, ⟨k0_dev76 c, k0_dev76_lt c⟩], ![⟨k0_dev78 c, k0_dev78_lt c⟩, ⟨k0_dev80 c, k0_dev80_lt c⟩, ⟨k0_dev82 c, k0_dev82_lt c⟩, ⟨k0_dev84 c, k0_dev84_lt c⟩], ![⟨k0_dev86 c, k0_dev86_lt c⟩, ⟨k0_dev88 c, k0_dev88_lt c⟩, ⟨k0_dev90 c, k0_dev90_lt c⟩, ⟨k0_dev92 c, k0_dev92_lt c⟩], ![⟨k0_dev94 c, k0_dev94_lt c⟩, ⟨k0_dev96 c, k0_dev96_lt c⟩, ⟨k0_dev98 c, k0_dev98_lt c⟩, ⟨k0_dev100 c, k0_dev100_lt c⟩]],
    ![![⟨k0_dev47 c, k0_dev47_lt c⟩, ⟨k0_dev51 c, k0_dev51_lt c⟩, ⟨k0_dev52 c, k0_dev52_lt c⟩, ⟨k0_dev53 c, k0_dev53_lt c⟩], ![⟨k0_dev55 c, k0_dev55_lt c⟩, ⟨k0_dev57 c, k0_dev57_lt c⟩, ⟨k0_dev59 c, k0_dev59_lt c⟩, ⟨k0_dev61 c, k0_dev61_lt c⟩], ![⟨k0_dev63 c, k0_dev63_lt c⟩, ⟨k0_dev65 c, k0_dev65_lt c⟩, ⟨k0_dev67 c, k0_dev67_lt c⟩, ⟨k0_dev69 c, k0_dev69_lt c⟩], ![⟨k0_dev71 c, k0_dev71_lt c⟩, ⟨k0_dev73 c, k0_dev73_lt c⟩, ⟨k0_dev75 c, k0_dev75_lt c⟩, ⟨k0_dev77 c, k0_dev77_lt c⟩], ![⟨k0_dev79 c, k0_dev79_lt c⟩, ⟨k0_dev81 c, k0_dev81_lt c⟩, ⟨k0_dev83 c, k0_dev83_lt c⟩, ⟨k0_dev85 c, k0_dev85_lt c⟩], ![⟨k0_dev87 c, k0_dev87_lt c⟩, ⟨k0_dev89 c, k0_dev89_lt c⟩, ⟨k0_dev91 c, k0_dev91_lt c⟩, ⟨k0_dev93 c, k0_dev93_lt c⟩], ![⟨k0_dev95 c, k0_dev95_lt c⟩, ⟨k0_dev97 c, k0_dev97_lt c⟩, ⟨k0_dev99 c, k0_dev99_lt c⟩, ⟨k0_dev101 c, k0_dev101_lt c⟩]]]

/-- An offset at which a rectangle of sizes `z` fits in the sizes `s`. -/
abbrev Off (s z : Fin 2 → ℕ) : Type := {o : Fin 2 → ℕ // ∀ a, o a + z a ≤ s a}

/-- Where the chunk a device starts the reduce-scatter with lies in its block. -/
def stOff (c : Dev nD) : Fin 2 → Fin 2 → Off S2048x1024.size S256x256.size :=
  ![![⟨k0_off1 c, k0_off1_inb c⟩, ⟨k0_off2 c, k0_off2_inb c⟩],
    ![⟨k0_off3 c, k0_off3_inb c⟩, ⟨k0_off4 c, k0_off4_inb c⟩]]

/-- Where the chunk added to the `s`-th arrival lies in its block. -/
def acOff (c : Dev nD) (d : Fin 2) (s : Fin 7) (p : Fin 2) : Off S2048x1024.size S256x256.size :=
  (![![⟨k0_off5 c (BitVec.ofNat 32 (1 + s.val)), k0_off5_inb c s⟩, ⟨k0_off7 c (BitVec.ofNat 32 (1 + s.val)), k0_off7_inb c s⟩],
    ![⟨k0_off6 c (BitVec.ofNat 32 (1 + s.val)), k0_off6_inb c s⟩, ⟨k0_off8 c (BitVec.ofNat 32 (1 + s.val)), k0_off8_inb c s⟩]] :
    Fin 2 → Fin 2 → Off S2048x1024.size S256x256.size) d p

/-- Where the piece sent to the `a + 1`-st device of the column lies in the row sum. -/
def rsOff (c : Dev nD) (d : Fin 2) (a : Fin 3) : Off S256x1024.size S64x512.size :=
  (![⟨k0_off9 c (BitVec.ofNat 32 (1 + a.val)), k0_off9_inb c a⟩, ⟨k0_off10 c (BitVec.ofNat 32 (1 + a.val)), k0_off10_inb c a⟩] :
    Fin 2 → Off S256x1024.size S64x512.size) d

/-- Where a device's own piece lies in the row sum. -/
def rgOff (c : Dev nD) : Fin 2 → Off S256x1024.size S64x512.size :=
  ![⟨k0_off11 c, k0_off11_inb c⟩, ⟨k0_off12 c, k0_off12_inb c⟩]

/-- Where a device's own piece is stored in the result. -/
def owOff (c : Dev nD) : Fin 2 → Off S2048x1024.size S64x512.size :=
  ![⟨k0_off13 c, k0_off13_inb c⟩, ⟨k0_off16 c, k0_off16_inb c⟩]

/-- Where a device's own piece is sent from. -/
def osOff (c : Dev nD) : Fin 2 → Off S2048x1024.size S64x512.size :=
  ![⟨k0_off14 c, k0_off14_inb c⟩, ⟨k0_off17 c, k0_off17_inb c⟩]

/-- Where the `j + 1`-st device of the column's piece lies in the result. -/
def ocOff (c : Dev nD) (d : Fin 2) (j : Fin 3) : Off S2048x1024.size S64x512.size :=
  (![⟨k0_off19 c (BitVec.ofNat 32 (1 + j.val)), k0_off19_inb c j⟩, ⟨k0_off21 c (BitVec.ofNat 32 (1 + j.val)), k0_off21_inb c j⟩] :
    Fin 2 → Off S2048x1024.size S64x512.size) d

/-- Where the piece of hop `h`, column slot `j` of the all-gather lies in the result. -/
def ogOff (c : Dev nD) (d : Fin 2) (h : Fin 7) (j : Fin 4) : Off S2048x1024.size S64x512.size :=
  (![![⟨k0_off15 c (BitVec.ofNat 32 h.val), k0_off15_inb c h⟩,
      ⟨k0_off20 c (BitVec.ofNat 32 h.val) 1#32, k0_off20_inb c h 0⟩,
      ⟨k0_off20 c (BitVec.ofNat 32 h.val) 2#32, k0_off20_inb c h 1⟩,
      ⟨k0_off20 c (BitVec.ofNat 32 h.val) 3#32, k0_off20_inb c h 2⟩],
    ![⟨k0_off18 c (BitVec.ofNat 32 h.val), k0_off18_inb c h⟩,
      ⟨k0_off22 c (BitVec.ofNat 32 h.val) 1#32, k0_off22_inb c h 0⟩,
      ⟨k0_off22 c (BitVec.ofNat 32 h.val) 2#32, k0_off22_inb c h 1⟩,
      ⟨k0_off22 c (BitVec.ofNat 32 h.val) 3#32, k0_off22_inb c h 2⟩]] :
    Fin 2 → Fin 4 → Off S2048x1024.size S64x512.size) d j

/-! ### The buffers, their rectangles and the semaphores -/

abbrev tA : Memref sig .tc .hbm S2048x1024 .f32 := Memref.whole main_arg0
abbrev wA : Memref sig .tc .hbm S1024x1024 .f32 := Memref.whole main_arg1
abbrev outM : Memref sig .tc .vmem S2048x1024 .f32 := Memref.whole cc0_stg0_0
abbrev redM : Memref sig .tc .vmem S256x1024 .f32 := Memref.whole cc0_scratch0
abbrev sumM : Memref sig .tc .vmem S64x1024 .f32 := Memref.whole cc0_scratch1
abbrev sndM : Memref sig .tc .vmem S2x7x2x256x256 .f32 := Memref.whole cc0_scratch2
abbrev rcvM : Memref sig .tc .vmem S2x7x2x256x256 .f32 := Memref.whole cc0_scratch3
abbrev colM : Memref sig .tc .vmem S2x4x64x512 .f32 := Memref.whole cc0_scratch4
abbrev tM : Memref sig .tc .vmem S2048x1024 .f32 := Memref.whole cc0_scratch5
abbrev wM : Memref sig .tc .vmem S1024x1024 .f32 := Memref.whole cc0_scratch6

theorem inb_slot (d : Fin 2) (s : Fin 7) (p : Fin 2) :
    ∀ a, (![d.val, s.val, p.val, 0, 0] : Fin 5 → ℕ) a + S1x1x1x256x256.size a ≤ S2x7x2x256x256.size a := by
  revert d s p; decide
theorem inb_col (d : Fin 2) (j : Fin 4) :
    ∀ a, (![d.val, j.val, 0, 0] : Fin 4 → ℕ) a + S1x1x64x512.size a ≤ S2x4x64x512.size a := by
  revert d j; decide
theorem inb_sem14 (d : Fin 2) (s : Fin 7) (p : Fin 2) :
    ∀ a, (![d.val, s.val, p.val] : Fin 3 → ℕ) a + S1x1x1.size a ≤ S2x7x2.size a := by
  revert d s p; decide
theorem inb_sem28 (d : Fin 2) (h : Fin 7) (j : Fin 4) :
    ∀ a, (![d.val, h.val, j.val] : Fin 3 → ℕ) a + S1x1x1.size a ≤ S2x7x4.size a := by
  revert d h j; decide
theorem inb_sem4 (d : Fin 2) (j : Fin 4) :
    ∀ a, (![d.val, j.val] : Fin 2 → ℕ) a + S1x1.size a ≤ S2x4.size a := by
  revert d j; decide
theorem inb_sem6 (i : Fin 6) : ∀ a, (![i.val] : Fin 1 → ℕ) a + S1.size a ≤ S6.size a := by
  revert i; decide
theorem inb_rq (d p : Fin 2) :
    ∀ a, (![0, 512 * d.val + 256 * p.val] : Fin 2 → ℕ) a + S256x256.size a ≤ S256x1024.size a := by
  revert d p; decide
theorem inb_sumh (d : Fin 2) :
    ∀ a, (![0, 512 * d.val] : Fin 2 → ℕ) a + S64x512.size a ≤ S64x1024.size a := by
  revert d; decide
theorem inb_wh (d : Fin 2) :
    ∀ a, (![0, 512 * d.val] : Fin 2 → ℕ) a + S1024x512.size a ≤ S1024x1024.size a := by
  revert d; decide

/-- The rectangle of one slot of the row staging buffers. -/
abbrev slotR (d : Fin 2) (s : Fin 7) (p : Fin 2) : Rect S2x7x2x256x256 :=
  Rect.unit (s := S2x7x2x256x256) ![d.val, s.val, p.val, 0, 0] S1x1x1x256x256.size (inb_slot d s p)
/-- The rectangle of one slot of the column landing buffer. -/
abbrev colR (d : Fin 2) (j : Fin 4) : Rect S2x4x64x512 :=
  Rect.unit (s := S2x4x64x512) ![d.val, j.val, 0, 0] S1x1x64x512.size (inb_col d j)
abbrev chunkR (o : Off S2048x1024.size S256x256.size) : Rect S2048x1024 :=
  Rect.unit (s := S2048x1024) o.1 S256x256.size o.2
abbrev pieceR (o : Off S2048x1024.size S64x512.size) : Rect S2048x1024 :=
  Rect.unit (s := S2048x1024) o.1 S64x512.size o.2
abbrev rpieceR (o : Off S256x1024.size S64x512.size) : Rect S256x1024 :=
  Rect.unit (s := S256x1024) o.1 S64x512.size o.2
/-- A quarter of the row sum's columns. -/
abbrev rqR (d p : Fin 2) : Rect S256x1024 :=
  Rect.unit (s := S256x1024) ![0, 512 * d.val + 256 * p.val] S256x256.size (inb_rq d p)
/-- A half of the piece sum's columns. -/
abbrev sumR (d : Fin 2) : Rect S64x1024 :=
  Rect.unit (s := S64x1024) ![0, 512 * d.val] S64x512.size (inb_sumh d)
abbrev sumAllR : Rect S64x1024 := Rect.unit (s := S64x1024) ![0, 0] S64x1024.size inb_S64x1024_S64x1024_0_0
/-- A half of the weight's columns. -/
abbrev whR (d : Fin 2) : Rect S1024x1024 :=
  Rect.unit (s := S1024x1024) ![0, 512 * d.val] S1024x512.size (inb_wh d)

abbrev slotV (b : Memref sig .tc .vmem S2x7x2x256x256 .f32) (d : Fin 2) (s : Fin 7) (p : Fin 2) : Memref sig .tc .vmem S256x256 .f32 :=
  (b.slice (slotR d s p) (fun _ => rfl)).squeeze S256x256 squeezes_S1x1x1x256x256_S256x256
abbrev colV (d : Fin 2) (j : Fin 4) : Memref sig .tc .vmem S64x512 .f32 :=
  (colM.slice (colR d j) (fun _ => rfl)).squeeze S64x512 squeezes_S1x1x64x512_S64x512
abbrev pieceV (o : Off S2048x1024.size S64x512.size) : Memref sig .tc .vmem S64x512 .f32 :=
  outM.slice (pieceR o) (fun _ => rfl)
abbrev rpieceV (o : Off S256x1024.size S64x512.size) : Memref sig .tc .vmem S64x512 .f32 :=
  redM.slice (rpieceR o) (fun _ => rfl)
abbrev chunkV (o : Off S2048x1024.size S256x256.size) : Memref sig .tc .hbm S256x256 .f32 :=
  tA.slice (chunkR o) (fun _ => rfl)

abbrev sem14 (a : DmaSems sig S2x7x2) (d : Fin 2) (s : Fin 7) (p : Fin 2) : DmaSem sig :=
  ((a.slice (Rect.unit (s := S2x7x2) ![d.val, s.val, p.val] S1x1x1.size (inb_sem14 d s p))).squeeze S_ squeezes_S1x1x1_S_).sem
abbrev sem28 (a : DmaSems sig S2x7x4) (d : Fin 2) (h : Fin 7) (j : Fin 4) : DmaSem sig :=
  ((a.slice (Rect.unit (s := S2x7x4) ![d.val, h.val, j.val] S1x1x1.size (inb_sem28 d h j))).squeeze S_ squeezes_S1x1x1_S_).sem
abbrev sem4 (a : DmaSems sig S2x4) (d : Fin 2) (j : Fin 4) : DmaSem sig :=
  ((a.slice (Rect.unit (s := S2x4) ![d.val, j.val] S1x1.size (inb_sem4 d j))).squeeze S_ squeezes_S1x1_S_).sem
abbrev sem6 (i : Fin 6) : DmaSem sig :=
  ((cc0_scratch7.slice (Rect.unit (s := S6) ![i.val] S1.size (inb_sem6 i))).squeeze S_ squeezes_S1_S_).sem
abbrev barS : Sem sig := (SemArray.scalar (sig.barrier 0 rfl) : Sems sig S_).sem

/-! ### The steps -/

/-- One step of the body. The coordinates: `d` the direction (which half of the columns travels which way round the row),
    `s` the ring step, `p` the quarter, `a` and `j` a device of the column, `h` the hop of the all-gather. -/
inductive Step
  /-- copy a starting chunk into the send buffer / wait for it -/
  | stage (d p : Fin 2)
  | stageW (d p : Fin 2)
  /-- copy the whole block / the weight in / wait for it -/
  | tCopy
  | tCopyW
  | wCopy
  | wCopyW
  /-- the barrier: one signal / the wait for all five -/
  | sig (i : Fin 5)
  | bar
  /-- reduce-scatter round the row: send, wait to have received, add into the next slot, add the last, wait to have sent -/
  | p1send (d : Fin 2) (s : Fin 7) (p : Fin 2)
  | p1wait (d : Fin 2) (s : Fin 7) (p : Fin 2)
  | acc (d : Fin 2) (s : Fin 6) (p : Fin 2)
  | accLast (d p : Fin 2)
  | p1sent (d : Fin 2) (s : Fin 7) (p : Fin 2)
  /-- reduce-scatter down the column -/
  | p2send (d : Fin 2) (a : Fin 3)
  | p2wait (d : Fin 2) (j : Fin 3)
  | red (d : Fin 2)
  | p2sent (d : Fin 2) (a : Fin 3)
  /-- the product -/
  | mm (d : Fin 2)
  /-- all-gather down the column -/
  | p3send (d : Fin 2) (a : Fin 3)
  | p3wait (d : Fin 2) (j : Fin 3)
  | p3sent (d : Fin 2) (a : Fin 3)
  /-- all-gather round the row -/
  | p4send (d : Fin 2) (h : Fin 7) (j : Fin 4)
  | p4wait (d : Fin 2) (h : Fin 7) (j : Fin 4)
  | p4sent (d : Fin 2) (h : Fin 7) (j : Fin 4)
  deriving DecidableEq

/-- `a + 1` as a slot. -/
abbrev up (a : Fin 3) : Fin 4 := a.succ
/-- `4 - (a + 1)`: the slot, at the device `a + 1` down the column, that is ours. -/
abbrev dn (a : Fin 3) : Fin 4 := a.rev.succ

abbrev Pg (F : FTy → Type) [FloatOps F] := Prog (TpuEff nD τ sig (Elt F) Λ₀ .tc) PUnit

/-- A step's program on device `c`. -/
def frag (c : Dev nD) : Step → Pg F
  | .stage d p => Prog.lift (.enqueueDma (chunkV (stOff c d p)) (.here (slotV sndM d 0 p)) (.dma (sem6 ⟨2 * d.val + p.val, by omega⟩))
      (View.wordExact_bits rfl) ((View.wordExact_bits rfl).reshape _ _) ⟨Or.inl rfl, trivial⟩)
  | .stageW d p => Prog.lift (.waitDma2 (sem6 ⟨2 * d.val + p.val, by omega⟩) (chunkV (stOff c d p)) (slotV sndM d 0 p)
      (View.wordExact_bits rfl) ((View.wordExact_bits rfl).reshape _ _))
  | .tCopy => Prog.lift (.enqueueDma tA (.here tM) (.dma (sem6 4)) (Memref.isWhole_whole _).wordExact (Memref.isWhole_whole _).wordExact ⟨Or.inl rfl, trivial⟩)
  | .tCopyW => Prog.lift (.waitDma2 (sem6 4) tA tM (Memref.isWhole_whole _).wordExact (Memref.isWhole_whole _).wordExact)
  | .wCopy => Prog.lift (.enqueueDma wA (.here wM) (.dma (sem6 5)) (Memref.isWhole_whole _).wordExact (Memref.isWhole_whole _).wordExact ⟨Or.inl rfl, trivial⟩)
  | .wCopyW => Prog.lift (.waitDma2 (sem6 5) wA wM (Memref.isWhole_whole _).wordExact (Memref.isWhole_whole _).wordExact)
  | .sig i => semSignalWord (sigDev c i) barS 1#32
  | .bar => semWaitWord barS 5#32
  | .p1send d s p => Prog.lift (.enqueueDma (slotV sndM d s p) (.remote (Dev.tc (p1Dev c d s p)) (slotV rcvM d s p) (.dma (sem14 cc0_scratch8 d s p)))
      (.dma (sem14 cc0_scratch9 d s p)) ((View.wordExact_bits rfl).reshape _ _) ((View.wordExact_bits rfl).reshape _ _) ⟨⟨rfl, Or.inl rfl⟩, trivial⟩)
  | .p1wait d s p => Prog.lift (.waitDma2 (sem14 cc0_scratch9 d s p) (slotV sndM d s p) (slotV rcvM d s p)
      ((View.wordExact_bits rfl).reshape _ _) ((View.wordExact_bits rfl).reshape _ _))
  | .acc d s p => do
      let x ← Prog.lift (.load rcvM (slotR d s.castSucc p).toLoadRect (View.loadsAt_vmem h_S1x1x1x256x256))
      let y ← Prog.lift (.load tM (chunkR (acOff c d s.castSucc p)).toLoadRect (View.loadsAt_vmem h_S256x256))
      let _ ← Prog.lift (.load sndM (slotR d s.succ p).toLoadRect (View.loadsAt_vmem h_S1x1x1x256x256))
      Prog.lift (.store sndM (slotR d s.succ p)
        (shapeCast S1x1x1x256x256 (addf (shapeCast S256x256 (x : Vec F S1x1x1x256x256 .f32) shapeCasts_S1x1x1x256x256_S256x256) (y : Vec F S256x256 .f32)) shapeCasts_S256x256_S1x1x1x256x256)
        Finset.univ (View.stores_vmem_bits_univ h_S1x1x1x256x256 rfl) (.inl rfl))
  | .accLast d p => do
      let x ← Prog.lift (.load rcvM (slotR d 6 p).toLoadRect (View.loadsAt_vmem h_S1x1x1x256x256))
      let y ← Prog.lift (.load tM (chunkR (acOff c d 6 p)).toLoadRect (View.loadsAt_vmem h_S256x256))
      let _ ← Prog.lift (.load redM (rqR d p).toLoadRect (View.loadsAt_vmem h_S256x256))
      Prog.lift (.store redM (rqR d p)
        (shapeCast S256x256 (addf (shapeCast S256x256 (x : Vec F S1x1x1x256x256 .f32) shapeCasts_S1x1x1x256x256_S256x256) (y : Vec F S256x256 .f32)) shapeCasts_S256x256_S256x256)
        Finset.univ (View.stores_vmem_bits_univ h_S256x256 rfl) (.inl rfl))
  | .p1sent d s p => Prog.lift (.waitDma2 (sem14 cc0_scratch8 d s p) (slotV rcvM d s p) (slotV sndM d s p)
      ((View.wordExact_bits rfl).reshape _ _) ((View.wordExact_bits rfl).reshape _ _))
  | .p2send d a => Prog.lift (.enqueueDma (rpieceV (rsOff c d a)) (.remote (Dev.tc (p2Dev c d a)) (colV d (dn a)) (.dma (sem4 cc0_scratch10 d (up a))))
      (.dma (sem4 cc0_scratch11 d (dn a))) (View.wordExact_bits rfl) ((View.wordExact_bits rfl).reshape _ _) ⟨⟨rfl, Or.inl rfl⟩, trivial⟩)
  | .p2wait d j => Prog.lift (.waitDma2 (sem4 cc0_scratch11 d (up j)) (colV d (up j)) (colV d (up j))
      ((View.wordExact_bits rfl).reshape _ _) ((View.wordExact_bits rfl).reshape _ _))
  | .red d => do
      let x ← Prog.lift (.load redM (rpieceR (rgOff c d)).toLoadRect (View.loadsAt_vmem h_S64x512))
      let y1 ← Prog.lift (.load colM (colR d 1).toLoadRect (View.loadsAt_vmem h_S1x1x64x512))
      let y2 ← Prog.lift (.load colM (colR d 2).toLoadRect (View.loadsAt_vmem h_S1x1x64x512))
      let y3 ← Prog.lift (.load colM (colR d 3).toLoadRect (View.loadsAt_vmem h_S1x1x64x512))
      let _ ← Prog.lift (.load sumM (sumR d).toLoadRect (View.loadsAt_vmem h_S64x512))
      Prog.lift (.store sumM (sumR d)
        (shapeCast S64x512
          (addf (addf (x : Vec F S64x512 .f32) (shapeCast S64x512 (y1 : Vec F S1x1x64x512 .f32) shapeCasts_S1x1x64x512_S64x512))
            (addf (shapeCast S64x512 (y2 : Vec F S1x1x64x512 .f32) shapeCasts_S1x1x64x512_S64x512) (shapeCast S64x512 (y3 : Vec F S1x1x64x512 .f32) shapeCasts_S1x1x64x512_S64x512)))
          shapeCasts_S64x512_S64x512)
        Finset.univ (View.stores_vmem_bits_univ h_S64x512 rfl) (.inl rfl))
  | .p2sent d a => Prog.lift (.waitDma2 (sem4 cc0_scratch10 d (up a)) (colV d (dn a)) (rpieceV (rsOff c d a))
      ((View.wordExact_bits rfl).reshape _ _) (View.wordExact_bits rfl))
  | .mm d => do
      let x ← Prog.lift (.load sumM sumAllR.toLoadRect (View.loadsAt_vmem h_S64x1024))
      let y ← Prog.lift (.load wM (whR d).toLoadRect (View.loadsAt_vmem h_S1024x512))
      let _ ← Prog.lift (.load outM (pieceR (owOff c d)).toLoadRect (View.loadsAt_vmem h_S64x512))
      Prog.lift (.store outM (pieceR (owOff c d))
        (matmul dot_S64x1024_S1024x512_S64x512_1_0_0_1_n_n none (x : Vec F S64x1024 .f32) (y : Vec F S1024x512 .f32) (constant S64x512 .f32 0x00000000#32))
        Finset.univ (View.stores_vmem_bits_univ h_S64x512 rfl) (.inl rfl))
  | .p3send d a => Prog.lift (.enqueueDma (pieceV (osOff c d)) (.remote (Dev.tc (p3Dev c d a)) (pieceV (osOff c d)) (.dma (sem4 cc0_scratch12 d (up a))))
      (.dma (sem4 cc0_scratch13 d (dn a))) (View.wordExact_bits rfl) (View.wordExact_bits rfl) ⟨⟨rfl, Or.inl rfl⟩, trivial⟩)
  | .p3wait d j => Prog.lift (.waitDma2 (sem4 cc0_scratch13 d (up j)) (pieceV (ocOff c d j)) (pieceV (ocOff c d j))
      (View.wordExact_bits rfl) (View.wordExact_bits rfl))
  | .p3sent d a => Prog.lift (.waitDma2 (sem4 cc0_scratch12 d (up a)) (pieceV (osOff c d)) (pieceV (osOff c d))
      (View.wordExact_bits rfl) (View.wordExact_bits rfl))
  | .p4send d h j => Prog.lift (.enqueueDma (pieceV (ogOff c d h j)) (.remote (Dev.tc (p4Dev c d h j)) (pieceV (ogOff c d h j)) (.dma (sem28 cc0_scratch14 d h j)))
      (.dma (sem28 cc0_scratch15 d h j)) (View.wordExact_bits rfl) (View.wordExact_bits rfl) ⟨⟨rfl, Or.inl rfl⟩, trivial⟩)
  | .p4wait d h j => Prog.lift (.waitDma2 (sem28 cc0_scratch15 d h j) (pieceV (ogOff c d h j)) (pieceV (ogOff c d h j))
      (View.wordExact_bits rfl) (View.wordExact_bits rfl))
  | .p4sent d h j => Prog.lift (.waitDma2 (sem28 cc0_scratch14 d h j) (pieceV (ogOff c d h j)) (pieceV (ogOff c d h j))
      (View.wordExact_bits rfl) (View.wordExact_bits rfl))

abbrev two : List (Fin 2) := [0, 1]
abbrev three : List (Fin 3) := [0, 1, 2]
abbrev four : List (Fin 4) := [0, 1, 2, 3]
abbrev six : List (Fin 6) := [0, 1, 2, 3, 4, 5]
abbrev seven : List (Fin 7) := [0, 1, 2, 3, 4, 5, 6]

/-- The steps up to the barrier and the first row sends. -/
def stepsA : List Step :=
  (two.flatMap fun d => two.map fun p => .stage d p) ++ [.tCopy, .wCopy] ++ (two.flatMap fun d => two.map fun p => .stageW d p) ++
    [.sig 0, .sig 1, .sig 2, .sig 3, .sig 4, .bar] ++ (two.flatMap fun d => two.map fun p => .p1send d 0 p) ++ [.tCopyW]

/-- The ring of the reduce-scatter along the row. -/
def stepsB : List Step :=
  (six.flatMap fun s => two.flatMap fun p => two.flatMap fun d => [.p1wait d s.castSucc p, .acc d s p, .p1send d s.succ p]) ++
    (two.flatMap fun p => two.flatMap fun d => [.p1wait d 6 p, .accLast d p])

/-- The reduce-scatter down the column. -/
def stepsC : List Step :=
  (three.flatMap fun a => two.map fun d => .p2send d a) ++ (two.flatMap fun d => seven.flatMap fun s => two.map fun p => .p1sent d s p) ++
    (two.flatMap fun d => (three.map fun j => .p2wait d j) ++ [.red d])

/-- The product, and the all-gather down the column. -/
def stepsD : List Step :=
  [.wCopyW] ++ (two.flatMap fun d => [.mm d] ++ (three.map fun a => .p3send d a) ++ [.p4send d 0 0]) ++
    (three.flatMap fun a => two.map fun d => .p2sent d a) ++ (two.flatMap fun d => three.flatMap fun j => [.p3wait d j, .p4send d 0 (up j)]) ++
    (three.flatMap fun a => two.map fun d => .p3sent d a)

/-- The all-gather along the row. -/
def stepsE : List Step :=
  (six.flatMap fun h => four.flatMap fun j => two.flatMap fun d => [.p4wait d h.castSucc j, .p4send d h.succ j]) ++
    (four.flatMap fun j => two.map fun d => .p4wait d 6 j) ++ (two.flatMap fun d => seven.flatMap fun h => four.map fun j => .p4sent d h j)

/-- The steps of the body, in order. -/
def steps : List Step := stepsA ++ (stepsB ++ (stepsC ++ (stepsD ++ stepsE)))

/-- The programs of some steps, one after another. -/
def runSteps (c : Dev nD) : List Step → Pg F
  | [] => pure ⟨⟩
  | x :: xs => frag c x >>= fun _ => runSteps c xs

set_option maxRecDepth 1000000 in
/-- The body is its steps. -/
theorem body_eq (t : Fin cfg0.N) : bodyAt0 (F := F) t = (Prog.lift .deviceId >>= fun c : Dev nD => runSteps c steps) := by
  chain_rfl

end Cert.Ring

end
-- ==== Proof.Coord.lean ====
/-
  Where a device sits on the torus, its neighbours, and the closed forms of the offsets and devices the kernel computes.
  A device is its column place `gOf` (four planes of eight devices) and its place `qOf` on the ring of eight its plane
  forms; the two directions of a row transfer go to the next and to the previous place of that ring.
-/
module

public import proofs.«01_k».proof.Proof.Ops

@[expose] public section

noncomputable section

namespace Cert.Ring

open Cert.KernelIdeal Cert.KernelIdeal.Gen
open Idealize.ShloMosaic Idealize.SL.Sem

/-- The plane of a device. -/
def gOf (c : Dev nD) : Fin 4 := ⟨c.val / 8, by have : c.val < 32 := c.isLt; omega⟩
/-- Its place on the ring of its plane. -/
def qOf (c : Dev nD) : Fin 8 := (![0, 1, 2, 7, 6, 3, 4, 5] : Fin 8 → Fin 8) ⟨c.val % 8, by omega⟩
/-- The device of a plane at a place of its ring. -/
def mkD (g : Fin 4) (q : Fin 8) : Dev nD :=
  ⟨8 * g.val + ((![0, 1, 2, 5, 6, 7, 4, 3] : Fin 8 → Fin 8) q).val, by have := ((![0, 1, 2, 5, 6, 7, 4, 3] : Fin 8 → Fin 8) q).isLt; show _ < 32; omega⟩

/-- The device direction `d` sends to. -/
def nb (d : Fin 2) (c : Dev nD) : Dev nD := mkD (gOf c) ((![qOf c + 1, qOf c - 1] : Fin 2 → Fin 8) d)
/-- The device direction `d` receives from. -/
def prv (d : Fin 2) (c : Dev nD) : Dev nD := mkD (gOf c) ((![qOf c - 1, qOf c + 1] : Fin 2 → Fin 8) d)
/-- The device `a` planes on in the same column. -/
def cz (a : Fin 4) (c : Dev nD) : Dev nD := mkD (gOf c + a) (qOf c)

/-- The row chunk a device holds at step `s` of the reduce-scatter. -/
def chk (d : Fin 2) (s : Fin 8) (c : Dev nD) : Fin 8 := (![qOf c - s, qOf c + s + 2] : Fin 2 → Fin 8) d
/-- The row chunk of a device's pieces at hop `h` of the all-gather. -/
def rhoH (d : Fin 2) (h : Fin 8) (c : Dev nD) : Fin 8 := (![qOf c + 1 - h, qOf c + 1 + h] : Fin 2 → Fin 8) d
/-- The quarter of a row chunk the piece of column slot `j` is. -/
def gamJ (j : Fin 4) (c : Dev nD) : Fin 4 := gOf c + 1 + j

/-- Every fact below ranges over the thirty-two devices. -/
theorem gOf_mkD (g : Fin 4) (q : Fin 8) : gOf (mkD g q) = g := by revert g q; decide +kernel
theorem qOf_mkD (g : Fin 4) (q : Fin 8) : qOf (mkD g q) = q := by revert g q; decide +kernel
theorem mkD_eq (c : Dev nD) : mkD (gOf c) (qOf c) = c := by revert c; decide +kernel
theorem nb_prv (d : Fin 2) (c : Dev nD) : nb d (prv d c) = c := by revert d c; decide +kernel
theorem prv_nb (d : Fin 2) (c : Dev nD) : prv d (nb d c) = c := by revert d c; decide +kernel
theorem cz_zero (c : Dev nD) : cz 0 c = c := by revert c; decide +kernel
theorem cz_dn_up (a : Fin 3) (c : Dev nD) : cz (dn a) (cz (up a) c) = c := by revert a c; decide +kernel
theorem cz_up_dn (a : Fin 3) (c : Dev nD) : cz (up a) (cz (dn a) c) = c := by revert a c; decide +kernel
theorem chk_succ (d : Fin 2) (s : Fin 7) (c : Dev nD) : chk d s.castSucc (prv d c) = chk d s.succ c := by revert d s c; decide +kernel
theorem chk_last (d : Fin 2) (c : Dev nD) : chk d 7 c = rhoH d 0 c := by revert d c; decide +kernel
theorem rhoH_zero (d : Fin 2) (c : Dev nD) : rhoH d 0 c = qOf c + 1 := by revert d c; decide +kernel
theorem rhoH_nb (d : Fin 2) (h : Fin 7) (c : Dev nD) : rhoH d h.succ (nb d c) = rhoH d h.castSucc c := by revert d h c; decide +kernel
theorem gamJ_nb (d : Fin 2) (j : Fin 4) (c : Dev nD) : gamJ j (nb d c) = gamJ j c := by revert d j c; decide +kernel
theorem gamJ_cz (a : Fin 3) (c : Dev nD) : gamJ (dn a) (cz (up a) c) = gamJ 0 c := by revert a c; decide +kernel
theorem gamJ_cz' (a : Fin 3) (c : Dev nD) : gamJ 0 (cz (up a) c) = gamJ (up a) c := by revert a c; decide +kernel
theorem rhoH_cz (d : Fin 2) (h : Fin 8) (a : Fin 4) (c : Dev nD) : rhoH d h (cz a c) = rhoH d h c := by revert d h a c; decide +kernel

/-- An offset of the result's pieces, of the row sum's, of the input's chunks. -/
def outO (d : Fin 2) (rho : Fin 8) (gam : Fin 4) : Off S2048x1024.size S64x512.size :=
  ⟨![256 * rho.val + 64 * gam.val, 512 * d.val], by
    intro a; fin_cases a
    · show 256 * rho.val + 64 * gam.val + 64 ≤ 2048; omega
    · show 512 * d.val + 512 ≤ 1024; omega⟩
def redO (d : Fin 2) (gam : Fin 4) : Off S256x1024.size S64x512.size :=
  ⟨![64 * gam.val, 512 * d.val], by
    intro a; fin_cases a
    · show 64 * gam.val + 64 ≤ 256; omega
    · show 512 * d.val + 512 ≤ 1024; omega⟩
def chO (d : Fin 2) (p : Fin 2) (k : Fin 8) : Off S2048x1024.size S256x256.size :=
  ⟨![256 * k.val, 512 * d.val + 256 * p.val], by
    intro a; fin_cases a
    · show 256 * k.val + 256 ≤ 2048; omega
    · show 512 * d.val + 256 * p.val + 256 ≤ 1024; omega⟩

/-- Where a device's piece of hop `h`, slot `j` lies in the result. -/
abbrev outC (c : Dev nD) (d : Fin 2) (h : Fin 8) (j : Fin 4) := outO d (rhoH d h c) (gamJ j c)
abbrev redC (c : Dev nD) (d : Fin 2) (j : Fin 4) := redO d (gamJ j c)
abbrev chC (c : Dev nD) (d p : Fin 2) (s : Fin 8) := chO d p (chk d s c)

instance offDec {s z : Fin 2 → ℕ} : DecidableEq (Off s z) := fun a b => decidable_of_iff (a.1 = b.1) Subtype.ext_iff.symm

theorem stOff_eq (c : Dev nD) (d p : Fin 2) : stOff c d p = chC c d p 0 := by revert c d p; decide +kernel
theorem acOff_eq (c : Dev nD) (d : Fin 2) (s : Fin 7) (p : Fin 2) : acOff c d s p = chC c d p s.succ := by revert c d s p; decide +kernel
theorem rsOff_eq (c : Dev nD) (d : Fin 2) (a : Fin 3) : rsOff c d a = redC c d (up a) := by revert c d a; decide +kernel
theorem rgOff_eq (c : Dev nD) (d : Fin 2) : rgOff c d = redC c d 0 := by revert c d; decide +kernel
theorem owOff_eq (c : Dev nD) (d : Fin 2) : owOff c d = outC c d 0 0 := by revert c d; decide +kernel
theorem osOff_eq (c : Dev nD) (d : Fin 2) : osOff c d = outC c d 0 0 := by revert c d; decide +kernel
theorem ocOff_eq (c : Dev nD) (d : Fin 2) (j : Fin 3) : ocOff c d j = outC c d 0 (up j) := by revert c d j; decide +kernel
theorem ogOff_eq (c : Dev nD) (d : Fin 2) (h : Fin 7) (j : Fin 4) : ogOff c d h j = outC c d h.castSucc j := by revert c d h j; decide +kernel

/-- The device a barrier signal goes to. -/
def sigTo (i : Fin 5) (c : Dev nD) : Dev nD := (![prv 0 c, prv 1 c, cz 1 c, cz 2 c, cz 3 c] : Fin 5 → Dev nD) i
/-- The device a barrier signal comes from. -/
def sigFrom (i : Fin 5) (c : Dev nD) : Dev nD := (![nb 0 c, nb 1 c, cz 3 c, cz 2 c, cz 1 c] : Fin 5 → Dev nD) i
theorem sigFrom_to (i : Fin 5) (c : Dev nD) : sigFrom i (sigTo i c) = c := by revert i c; decide +kernel
theorem sigTo_from (i : Fin 5) (c : Dev nD) : sigTo i (sigFrom i c) = c := by revert i c; decide +kernel
theorem sigDev_eq (c : Dev nD) (i : Fin 5) : sigDev c i = sigTo i c := by revert c i; decide +kernel
theorem p1Dev_eq (c : Dev nD) (d : Fin 2) (s : Fin 7) (p : Fin 2) : p1Dev c d s p = nb d c := by revert c d s p; decide +kernel
theorem p2Dev_eq (c : Dev nD) (d : Fin 2) (a : Fin 3) : p2Dev c d a = cz (up a) c := by revert c d a; decide +kernel
theorem p3Dev_eq (c : Dev nD) (d : Fin 2) (a : Fin 3) : p3Dev c d a = cz (up a) c := by revert c d a; decide +kernel
theorem p4Dev_eq (c : Dev nD) (d : Fin 2) (h : Fin 7) (j : Fin 4) : p4Dev c d h j = nb d c := by revert c d h j; decide +kernel

end Cert.Ring

end
-- ==== Proof.Cont.lean ====
/-
  What each buffer holds once it is written. Every element of every buffer is written once, so one array per buffer and
  device says it: `sndF` and `rcvF` the partial sums sent round the row, `redF` the row sum a device ends with, `colF` the
  row sums of its column that land at it, `sumF` the sum over all devices of the piece it owns, `outF` the product, which
  is the same array on every device.
-/
module

public import proofs.«01_k».proof.Proof.Coord
public import Idealize.ShloMosaic.Lib.ValueIdxCore

@[expose] public section

noncomputable section

namespace Cert.Ring

open Cert.KernelIdeal Cert.KernelIdeal.Gen
open Idealize.ShloMosaic Idealize.SL.Sem
open Idealize.ShloMosaic.TcCoe
open Idealize.ShloMosaic.ValueIdx

variable {F : FTy → Type} [FloatOps F]

/-! ### The index maps of the views -/

section Index

theorem idx2_ext {d : Fin 2 → ℕ} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1
theorem idx4_ext {d : Fin 4 → ℕ} {x y : (⟨4, d⟩ : Shape).Idx} (h0 : (x 0).val = (y 0).val) (h1 : (x 1).val = (y 1).val)
    (h2 : (x 2).val = (y 2).val) (h3 : (x 3).val = (y 3).val) : x = y :=
  funext fun a => by
    match a with
    | ⟨0, _⟩ => exact Fin.ext h0
    | ⟨1, _⟩ => exact Fin.ext h1
    | ⟨2, _⟩ => exact Fin.ext h2
    | ⟨3, _⟩ => exact Fin.ext h3
theorem idx5_ext {d : Fin 5 → ℕ} {x y : (⟨5, d⟩ : Shape).Idx} (h0 : (x 0).val = (y 0).val) (h1 : (x 1).val = (y 1).val)
    (h2 : (x 2).val = (y 2).val) (h3 : (x 3).val = (y 3).val) (h4 : (x 4).val = (y 4).val) : x = y :=
  funext fun a => by
    match a with
    | ⟨0, _⟩ => exact Fin.ext h0
    | ⟨1, _⟩ => exact Fin.ext h1
    | ⟨2, _⟩ => exact Fin.ext h2
    | ⟨3, _⟩ => exact Fin.ext h3
    | ⟨4, _⟩ => exact Fin.ext h4

/-- A matrix matched with a slot's shape: the unit axes at zero. -/
theorem unsq5 (h : S256x256.numel = S1x1x1x256x256.numel) (x : S256x256.Idx) :
    (Shape.reshapeEquiv h x : S1x1x1x256x256.Idx) = ix5 (0 : Fin 1) (0 : Fin 1) (0 : Fin 1) (x 0) (x 1) :=
  Shape.reshapeEquiv_eq_of_rowMajor h (by
    refine (Shape.rowMajor_val_five (d := ![1, 1, 1, 256, 256]) _).trans (Eq.trans ?_ (Shape.rowMajor_val_two (d := ![256, 256]) x).symm)
    show (((0 * 1 + 0) * 1 + 0) * 256 + (x 0).val) * 256 + (x 1).val = (x 0).val * 256 + (x 1).val
    omega)
theorem unsq4 (h : S64x512.numel = S1x1x64x512.numel) (x : S64x512.Idx) :
    (Shape.reshapeEquiv h x : S1x1x64x512.Idx) = ix4 (0 : Fin 1) (0 : Fin 1) (x 0) (x 1) :=
  Shape.reshapeEquiv_eq_of_rowMajor h (by
    refine (Shape.rowMajor_val_four (d := ![1, 1, 64, 512]) _).trans (Eq.trans ?_ (Shape.rowMajor_val_two (d := ![64, 512]) x).symm)
    show ((0 * 1 + 0) * 64 + (x 0).val) * 512 + (x 1).val = (x 0).val * 512 + (x 1).val
    omega)
/-- A slot's index matched with the matrix's: the unit axes dropped. -/
theorem sq5 (h : S1x1x1x256x256.numel = S256x256.numel) (y : S1x1x1x256x256.Idx) :
    (Shape.reshapeEquiv h y : S256x256.Idx) = ix2 (y 3) (y 4) :=
  Shape.reshapeEquiv_eq_of_rowMajor h (by
    refine (Shape.rowMajor_val_two (d := ![256, 256]) _).trans (Eq.trans ?_ (Shape.rowMajor_val_five (d := ![1, 1, 1, 256, 256]) y).symm)
    have h0 : (y 0).val < 1 := (y 0).isLt
    have h1 : (y 1).val < 1 := (y 1).isLt
    have h2 : (y 2).val < 1 := (y 2).isLt
    show (y 3).val * 256 + (y 4).val = ((((y 0).val * 1 + (y 1).val) * 1 + (y 2).val) * 256 + (y 3).val) * 256 + (y 4).val
    have e0 : (y 0).val = 0 := by omega
    have e1 : (y 1).val = 0 := by omega
    have e2 : (y 2).val = 0 := by omega
    rw [e0, e1, e2]; omega)

/-- Where an index of a slot lies in its buffer. -/
abbrev slotI (d : Fin 2) (s : Fin 7) (p : Fin 2) (x : S256x256.Idx) : S2x7x2x256x256.Idx := ix5 d s p (x 0) (x 1)
abbrev colI (d : Fin 2) (j : Fin 4) (x : S64x512.Idx) : S2x4x64x512.Idx := ix4 d j (x 0) (x 1)

theorem slotR_emb (d : Fin 2) (s : Fin 7) (p : Fin 2) (y : S1x1x1x256x256.Idx) :
    ((slotR d s p).emb y : S2x7x2x256x256.Idx) = ix5 d s p (y 3) (y 4) := by
  have h0 : (y 0).val < 1 := (y 0).isLt
  have h1 : (y 1).val < 1 := (y 1).isLt
  have h2 : (y 2).val < 1 := (y 2).isLt
  refine idx5_ext ?_ ?_ ?_ ?_ ?_
  · show d.val + 1 * (y 0).val = d.val; omega
  · show s.val + 1 * (y 1).val = s.val; omega
  · show p.val + 1 * (y 2).val = p.val; omega
  · show 0 + 1 * (y 3).val = (y 3).val; omega
  · show 0 + 1 * (y 4).val = (y 4).val; omega
theorem colR_emb (d : Fin 2) (j : Fin 4) (y : S1x1x64x512.Idx) :
    ((colR d j).emb y : S2x4x64x512.Idx) = ix4 d j (y 2) (y 3) := by
  have h0 : (y 0).val < 1 := (y 0).isLt
  have h1 : (y 1).val < 1 := (y 1).isLt
  refine idx4_ext ?_ ?_ ?_ ?_
  · show d.val + 1 * (y 0).val = d.val; omega
  · show j.val + 1 * (y 1).val = j.val; omega
  · show 0 + 1 * (y 2).val = (y 2).val; omega
  · show 0 + 1 * (y 3).val = (y 3).val; omega

theorem snd_emb (d : Fin 2) (s : Fin 7) (p : Fin 2) (x : S256x256.Idx) :
    ((slotV sndM d s p).view.emb x : S2x7x2x256x256.Idx) = slotI d s p x := by
  show (slotR d s p).emb (Shape.reshapeEquiv _ x) = _
  rw [slotR_emb, unsq5]; rfl
theorem rcv_emb (d : Fin 2) (s : Fin 7) (p : Fin 2) (x : S256x256.Idx) :
    ((slotV rcvM d s p).view.emb x : S2x7x2x256x256.Idx) = slotI d s p x := by
  show (slotR d s p).emb (Shape.reshapeEquiv _ x) = _
  rw [slotR_emb, unsq5]; rfl
theorem col_emb (d : Fin 2) (j : Fin 4) (x : S64x512.Idx) :
    ((colV d j).view.emb x : S2x4x64x512.Idx) = colI d j x := by
  show (colR d j).emb (Shape.reshapeEquiv _ x) = _
  rw [colR_emb, unsq4]; rfl

end Index

theorem gamJ_zero (c : Dev nD) : gamJ 0 c = gOf c + 1 := by unfold gamJ; revert c; decide +kernel
theorem sub_add4 (a : Fin 4) : a + 1 - 1 = a := by revert a; decide
theorem sub_add8 (a : Fin 8) : a + 1 - 1 = a := by revert a; decide

/-! ### The contents -/

section Contents

variable (m : (ℓ : Loc nD τ sig) → Buf (Elt F) ℓ)

/-- The index of a matrix at two numbers. -/
abbrev posT (r k : ℕ) (hr : r < 2048) (hk : k < 1024) : S2048x1024.Idx := ix2 (⟨r, hr⟩ : Fin 2048) (⟨k, hk⟩ : Fin 1024)
abbrev posW (r k : ℕ) (hr : r < 1024) (hk : k < 1024) : S1024x1024.Idx := ix2 (⟨r, hr⟩ : Fin 1024) (⟨k, hk⟩ : Fin 1024)

/-- A device's block, as an array of its buffer and by row and column numbers. -/
def blkF (c : Dev nD) : S2048x1024.Idx → Elt F .f32 := m ((c : Thread nD τ).loc main_arg0)
def wgtF (c : Dev nD) : S1024x1024.Idx → Elt F .f32 := m ((c : Thread nD τ).loc main_arg1)
def blkN (c : Dev nD) (r k : ℕ) : Elt F .f32 :=
  if h : r < 2048 ∧ k < 1024 then blkF m c (posT r k h.1 h.2) else FloatOps.ofBits .f32 0#32
theorem blkN_at (c : Dev nD) (i : S2048x1024.Idx) (r k : ℕ) (hr : r = (i 0).val) (hk : k = (i 1).val) : blkN m c r k = blkF m c i := by
  subst hr hk
  unfold blkN
  rw [dif_pos ⟨(i 0).isLt, (i 1).isLt⟩]
  exact congrArg _ (idx2_ext rfl rfl)

/-- The partial sum a device holds after `s` steps round the row in direction `d`. -/
def psum (d : Fin 2) : ℕ → Dev nD → ℕ → ℕ → Elt F .f32
  | 0, c, r, k => blkN m c r k
  | s + 1, c, r, k => FloatOps.addf (psum d s (prv d c) r k) (blkN m c r k)

def sndF (c : Dev nD) : S2x7x2x256x256.Idx → Elt F .f32 := fun y =>
  psum m (y 0) (y 1).val c (256 * (chk (y 0) (Fin.castSucc (y 1)) c).val + (y 3).val) (512 * (y 0).val + 256 * (y 2).val + (y 4).val)
def rcvF (c : Dev nD) : S2x7x2x256x256.Idx → Elt F .f32 := fun y =>
  psum m (y 0) (y 1).val (prv (y 0) c) (256 * (chk (y 0) (Fin.succ (y 1)) c).val + (y 3).val) (512 * (y 0).val + 256 * (y 2).val + (y 4).val)

/-- The direction a column of the block travels in. -/
def dirN (k : ℕ) : Fin 2 := if k < 512 then 0 else 1

/-- The whole row's sum at a device. -/
def rowN (c : Dev nD) (r k : ℕ) : Elt F .f32 := psum m (dirN k) 7 c r k
def redF (c : Dev nD) : S256x1024.Idx → Elt F .f32 := fun y => rowN m c (256 * (qOf c + 1).val + (y 0).val) (y 1).val
def colF (c : Dev nD) : S2x4x64x512.Idx → Elt F .f32 := fun y =>
  rowN m (cz (y 1) c) (256 * (qOf c + 1).val + 64 * (gOf c + 1).val + (y 2).val) (512 * (y 0).val + (y 3).val)
def allN (c : Dev nD) (r k : ℕ) : Elt F .f32 :=
  FloatOps.addf (FloatOps.addf (rowN m c r k) (rowN m (cz 1 c) r k)) (FloatOps.addf (rowN m (cz 2 c) r k) (rowN m (cz 3 c) r k))
def sumF (c : Dev nD) : S64x1024.Idx → Elt F .f32 := fun y =>
  allN m c (256 * (qOf c + 1).val + 64 * (gOf c + 1).val + (y 0).val) (y 1).val
/-- A half of the weight's columns. -/
def halfW (c : Dev nD) (d : Fin 2) : S1024x512.Idx → Elt F .f32 := fun z =>
  wgtF m c (posW (z 0).val (512 * d.val + (z 1).val) (z 0).isLt (by have : (z 1).val < 512 := (z 1).isLt; omega))
/-- The product a device stores. -/
def mmF (c : Dev nD) (d : Fin 2) : S64x512.Idx → Elt F .f32 :=
  matmul dot_S64x1024_S1024x512_S64x512_1_0_0_1_n_n none (sumF m c : FVec F S64x1024 .f32) (halfW m c d : FVec F S1024x512 .f32)
    (constant S64x512 .f32 0x00000000#32)
/-- The device that computes the rows of a piece. -/
def ownN (r : ℕ) : Dev nD := mkD (⟨r / 64 % 4, by omega⟩ - 1) (⟨r / 256 % 8, by omega⟩ - 1)
def outF : S2048x1024.Idx → Elt F .f32 := fun y =>
  mmF m (ownN (y 0).val) (dirN (y 1).val) (ix2 (⟨(y 0).val % 64, by omega⟩ : Fin 64) (⟨(y 1).val % 512, by omega⟩ : Fin 512))

theorem dirN_lo (d : Fin 2) (k x : ℕ) (hk : k = 512 * d.val + x) (hx : x < 512) : dirN k = d := by
  unfold dirN; subst hk
  fin_cases d
  · exact if_pos (by simpa using hx)
  · exact if_neg (by simp)

theorem sum_snd (c : Dev nD) (d : Fin 2) (s : Fin 7) (p : Fin 2) (x : S256x256.Idx) :
    rcvF m (nb d c) (slotI d s p x) = sndF m c (slotI d s p x) := by
  show psum m d s.val (prv d (nb d c)) (256 * (chk d s.succ (nb d c)).val + _) _ = psum m d s.val c _ _
  rw [prv_nb, ← chk_succ, prv_nb]

theorem stage_snd (c : Dev nD) (d p : Fin 2) (x : S256x256.Idx) :
    sndF m c (slotI d 0 p x) = blkF m c ((chunkR (chC c d p 0)).emb x) := by
  show blkN m c _ _ = _
  refine blkN_at m c _ _ _ ?_ ?_
  · show 256 * (chk d 0 c).val + (x 0).val = 256 * (chk d 0 c).val + 1 * (x 0).val; omega
  · show 512 * d.val + 256 * p.val + (x 1).val = 512 * d.val + 256 * p.val + 1 * (x 1).val; omega

theorem acc_snd (c : Dev nD) (d : Fin 2) (s : Fin 6) (p : Fin 2) (x : S256x256.Idx) :
    sndF m c (slotI d s.succ p x) = FloatOps.addf (rcvF m c (slotI d s.castSucc p x)) (blkF m c ((chunkR (chC c d p s.castSucc.succ)).emb x)) := by
  show FloatOps.addf (psum m d s.val (prv d c) (256 * (chk d (Fin.castSucc s.succ) c).val + (x 0).val) (512 * d.val + 256 * p.val + (x 1).val)) (blkN m c _ _) = _
  rw [blkN_at m c ((chunkR (chC c d p s.castSucc.succ)).emb x)]
  · rfl
  · show 256 * (chk d s.castSucc.succ c).val + (x 0).val = 256 * (chk d s.castSucc.succ c).val + 1 * (x 0).val; omega
  · show 512 * d.val + 256 * p.val + (x 1).val = 512 * d.val + 256 * p.val + 1 * (x 1).val; omega

theorem acc_red (c : Dev nD) (d p : Fin 2) (x : S256x256.Idx) :
    redF m c ((rqR d p).emb x) = FloatOps.addf (rcvF m c (slotI d 6 p x)) (blkF m c ((chunkR (chC c d p 7)).emb x)) := by
  have hx : (x 1).val < 256 := (x 1).isLt
  have e1 : (((rqR d p).emb x 1 : Fin 1024)).val = 512 * d.val + (256 * p.val + (x 1).val) := by
    show 512 * d.val + 256 * p.val + 1 * (x 1).val = _; omega
  have e0 : (((rqR d p).emb x 0 : Fin 256)).val = (x 0).val := by
    show 0 + 1 * (x 0).val = _; omega
  show psum m (dirN _) 7 c (256 * (qOf c + 1).val + ((rqR d p).emb x 0 : Fin 256).val) ((rqR d p).emb x 1 : Fin 1024).val = _
  rw [e0, e1, dirN_lo d _ _ rfl (by omega), ← rhoH_zero d c, ← chk_last d c]
  show FloatOps.addf (psum m d 6 (prv d c) _ _) (blkN m c _ _) = _
  rw [blkN_at m c ((chunkR (chC c d p 7)).emb x)]
  · show _ = FloatOps.addf (psum m d 6 (prv d c) (256 * (chk d 7 c).val + (x 0).val) (512 * d.val + 256 * p.val + (x 1).val)) _
    rw [Nat.add_assoc (512 * d.val)]
  · show 256 * (chk d 7 c).val + (x 0).val = 256 * (chk d 7 c).val + 1 * (x 0).val; omega
  · show 512 * d.val + (256 * p.val + (x 1).val) = 512 * d.val + 256 * p.val + 1 * (x 1).val; omega

theorem send_col (c : Dev nD) (d : Fin 2) (a : Fin 3) (x : S64x512.Idx) :
    colF m (cz (up a) c) (colI d (dn a) x) = redF m c ((rpieceR (redC c d (up a))).emb x) := by
  show rowN m (cz (dn a) (cz (up a) c)) (256 * (qOf (cz (up a) c) + 1).val + 64 * (gOf (cz (up a) c) + 1).val + (x 0).val) (512 * d.val + (x 1).val)
    = rowN m c (256 * (qOf c + 1).val + (64 * (gamJ (up a) c).val + 1 * (x 0).val)) (512 * d.val + 1 * (x 1).val)
  rw [cz_dn_up, ← gamJ_cz' a c]
  have hq : qOf (cz (up a) c) = qOf c := by unfold cz; exact qOf_mkD _ _
  have hg : gamJ 0 (cz (up a) c) = gOf (cz (up a) c) + 1 := gamJ_zero _
  rw [hq, hg]
  congr 1 <;> omega

theorem red_sum (c : Dev nD) (d : Fin 2) (x : S64x512.Idx) :
    sumF m c ((sumR d).emb x) = FloatOps.addf (FloatOps.addf (redF m c ((rpieceR (redC c d 0)).emb x)) (colF m c (colI d 1 x)))
      (FloatOps.addf (colF m c (colI d 2 x)) (colF m c (colI d 3 x))) := by
  have hg : gamJ 0 c = gOf c + 1 := gamJ_zero c
  have e0 : 256 * (qOf c + 1).val + 64 * (gOf c + 1).val + (0 + 1 * (x 0).val) = 256 * (qOf c + 1).val + 64 * (gOf c + 1).val + (x 0).val := by omega
  have e1 : 512 * d.val + 1 * (x 1).val = 512 * d.val + (x 1).val := by omega
  have e2 : 256 * (qOf c + 1).val + (64 * (gamJ 0 c).val + 1 * (x 0).val) = 256 * (qOf c + 1).val + 64 * (gOf c + 1).val + (x 0).val := by rw [hg]; omega
  show allN m c (256 * (qOf c + 1).val + 64 * (gOf c + 1).val + (0 + 1 * (x 0).val)) (512 * d.val + 1 * (x 1).val)
    = FloatOps.addf (FloatOps.addf (rowN m c (256 * (qOf c + 1).val + (64 * (gamJ 0 c).val + 1 * (x 0).val)) (512 * d.val + 1 * (x 1).val))
        (rowN m (cz 1 c) (256 * (qOf c + 1).val + 64 * (gOf c + 1).val + (x 0).val) (512 * d.val + (x 1).val)))
      (FloatOps.addf (rowN m (cz 2 c) (256 * (qOf c + 1).val + 64 * (gOf c + 1).val + (x 0).val) (512 * d.val + (x 1).val))
        (rowN m (cz 3 c) (256 * (qOf c + 1).val + 64 * (gOf c + 1).val + (x 0).val) (512 * d.val + (x 1).val)))
  rw [e0, e1, e2]; rfl

theorem own_eq (c : Dev nD) (r x : ℕ) (hr : r = 256 * (qOf c + 1).val + 64 * (gOf c + 1).val + x) (hx : x < 64) : ownN r = c := by
  have hq := (qOf c + 1).isLt
  have hg := (gOf c + 1).isLt
  have h1 : r / 64 % 4 = (gOf c + 1).val := by omega
  have h2 : r / 256 % 8 = (qOf c + 1).val := by omega
  have h3 : (⟨r / 64 % 4, by omega⟩ : Fin 4) = gOf c + 1 := Fin.ext h1
  have h4 : (⟨r / 256 % 8, by omega⟩ : Fin 8) = qOf c + 1 := Fin.ext h2
  unfold ownN
  rw [h3, h4, sub_add4, sub_add8, mkD_eq]

theorem mm_out (c : Dev nD) (d : Fin 2) (x : S64x512.Idx) : outF m ((pieceR (outC c d 0 0)).emb x) = mmF m c d x := by
  have h0 : (x 0).val < 64 := (x 0).isLt
  have h1 : (x 1).val < 512 := (x 1).isLt
  have hg : gamJ 0 c = gOf c + 1 := gamJ_zero c
  have e0 : ((pieceR (outC c d 0 0)).emb x 0 : Fin 2048).val = 256 * (qOf c + 1).val + 64 * (gOf c + 1).val + (x 0).val := by
    show 256 * (rhoH d 0 c).val + 64 * (gamJ 0 c).val + 1 * (x 0).val = _
    rw [rhoH_zero, hg]; omega
  have e1 : ((pieceR (outC c d 0 0)).emb x 1 : Fin 1024).val = 512 * d.val + (x 1).val := by
    show 512 * d.val + 1 * (x 1).val = _; omega
  show mmF m (ownN ((pieceR (outC c d 0 0)).emb x 0 : Fin 2048).val) (dirN ((pieceR (outC c d 0 0)).emb x 1 : Fin 1024).val) _ = _
  rw [own_eq c _ _ e0 h0, dirN_lo d _ _ e1 h1]
  refine congrArg (mmF m c d) (idx2_ext ?_ ?_)
  · show ((pieceR (outC c d 0 0)).emb x 0 : Fin 2048).val % 64 = (x 0).val
    rw [e0]; omega
  · show ((pieceR (outC c d 0 0)).emb x 1 : Fin 1024).val % 512 = (x 1).val
    rw [e1]; omega

end Contents

end Cert.Ring

end
-- ==== Proof.Plan.lean ====
/-
  The protocol, as data. `Ck` names the DMA semaphores of the kernel, `MRes` the memory a device may hold, `Res` all it
  may hold. Every step takes some resources (`need`) and leaves some (`give`); `run` tells whether the steps of the
  body, one after another, always find what they need, and whether a wait is made only while everything still owed ranks
  above the semaphore waited for (Check.lean: they do).
-/
module

public import proofs.«01_k».proof.Proof.Ops

@[expose] public section

namespace Cert.Ring

open Cert.KernelIdeal Cert.KernelIdeal.Gen
open Idealize.ShloMosaic Idealize.SL.Sem

/-! ### The semaphores -/

/-- The DMA semaphores: of the copies within a device, of the sending and the receiving end of every transfer between
    devices (`b` the column slot less one), and the ones the kernel never uses. -/
inductive Ck
  | io (i : Fin 6)
  | p1s (d : Fin 2) (s : Fin 7) (p : Fin 2)
  | p1r (d : Fin 2) (s : Fin 7) (p : Fin 2)
  | p2s (d : Fin 2) (b : Fin 3)
  | p2r (d : Fin 2) (b : Fin 3)
  | p3s (d : Fin 2) (b : Fin 3)
  | p3r (d : Fin 2) (b : Fin 3)
  | p4s (d : Fin 2) (h : Fin 7) (j : Fin 4)
  | p4r (d : Fin 2) (h : Fin 7) (j : Fin 4)
  | idle (k : Fin 4) (d : Fin 2)
  deriving DecidableEq

/-- The place of a semaphore among them. -/
def num : Ck → Fin 206
  | .io i => ⟨i.val, by omega⟩
  | .p1s d s p => ⟨6 + 14 * d.val + 2 * s.val + p.val, by omega⟩
  | .p1r d s p => ⟨34 + 14 * d.val + 2 * s.val + p.val, by omega⟩
  | .p2s d b => ⟨62 + 4 * d.val + 1 + b.val, by omega⟩
  | .p2r d b => ⟨70 + 4 * d.val + 1 + b.val, by omega⟩
  | .p3s d b => ⟨78 + 4 * d.val + 1 + b.val, by omega⟩
  | .p3r d b => ⟨86 + 4 * d.val + 1 + b.val, by omega⟩
  | .p4s d h j => ⟨94 + 28 * d.val + 4 * h.val + j.val, by omega⟩
  | .p4r d h j => ⟨150 + 28 * d.val + 4 * h.val + j.val, by omega⟩
  | .idle k d => ⟨62 + 8 * k.val + 4 * d.val, by omega⟩

/-- The semaphore at a place. -/
def ck (n : Fin 206) : Ck :=
  let d14 (i : ℕ) : Fin 2 := Fin.ofNat 2 (i / 14)
  let d28 (i : ℕ) : Fin 2 := Fin.ofNat 2 (i / 28)
  if n.val < 6 then .io (Fin.ofNat 6 n.val)
  else if n.val < 34 then .p1s (d14 (n.val - 6)) (Fin.ofNat 7 ((n.val - 6) / 2)) (Fin.ofNat 2 (n.val - 6))
  else if n.val < 62 then .p1r (d14 (n.val - 34)) (Fin.ofNat 7 ((n.val - 34) / 2)) (Fin.ofNat 2 (n.val - 34))
  else if n.val < 94 then
    if (n.val - 62) % 4 = 0 then .idle (Fin.ofNat 4 ((n.val - 62) / 8)) (Fin.ofNat 2 ((n.val - 62) / 4))
    else if n.val < 70 then .p2s (Fin.ofNat 2 ((n.val - 62) / 4)) (Fin.ofNat 3 ((n.val - 62) % 4 - 1))
    else if n.val < 78 then .p2r (Fin.ofNat 2 ((n.val - 62) / 4)) (Fin.ofNat 3 ((n.val - 62) % 4 - 1))
    else if n.val < 86 then .p3s (Fin.ofNat 2 ((n.val - 62) / 4)) (Fin.ofNat 3 ((n.val - 62) % 4 - 1))
    else .p3r (Fin.ofNat 2 ((n.val - 62) / 4)) (Fin.ofNat 3 ((n.val - 62) % 4 - 1))
  else if n.val < 150 then .p4s (d28 (n.val - 94)) (Fin.ofNat 7 ((n.val - 94) / 4)) (Fin.ofNat 4 (n.val - 94))
  else .p4r (d28 (n.val - 150)) (Fin.ofNat 7 ((n.val - 150) / 4)) (Fin.ofNat 4 (n.val - 150))

theorem num_ck (n : Fin 206) : num (ck n) = n := by revert n; decide +kernel
theorem ck_num (k : Ck) : ck (num k) = k := by
  cases k with
  | io i => revert i; decide +kernel
  | p1s d s p => revert d s p; decide +kernel
  | p1r d s p => revert d s p; decide +kernel
  | p2s d b => revert d b; decide +kernel
  | p2r d b => revert d b; decide +kernel
  | p3s d b => revert d b; decide +kernel
  | p3r d b => revert d b; decide +kernel
  | p4s d h j => revert d h j; decide +kernel
  | p4r d h j => revert d h j; decide +kernel
  | idle k d => revert k d; decide +kernel

/-- The semaphore itself; the first one of the launch is the staging copy's. -/
def semN (n : Fin 206) : DmaSem sig := ⟨n.val + 1, by have := n.isLt; show _ < 207; omega⟩
abbrev semK (k : Ck) : DmaSem sig := semN (num k)
def dec (q : DmaSem sig) : Option Ck :=
  if h : q.val = 0 then none else some (ck ⟨q.val - 1, by have : q.val < 207 := q.isLt; omega⟩)
theorem dec_semN (n : Fin 206) : dec (semN n) = some (ck n) := by
  unfold dec semN
  rw [dif_neg (Nat.succ_ne_zero _)]
  rfl
theorem dec_semK (k : Ck) : dec (semK k) = some k := by rw [dec_semN, ck_num]
theorem semN_inj : Function.Injective semN := fun a b h => Fin.ext (Nat.succ.inj (congrArg Fin.val h))

theorem semK_io (i : Fin 6) : sem6 i = semK (.io i) := by revert i; decide +kernel
theorem semK_p1s (d : Fin 2) (s : Fin 7) (p : Fin 2) : sem14 cc0_scratch8 d s p = semK (.p1s d s p) := by revert d s p; decide +kernel
theorem semK_p1r (d : Fin 2) (s : Fin 7) (p : Fin 2) : sem14 cc0_scratch9 d s p = semK (.p1r d s p) := by revert d s p; decide +kernel
theorem semK_p2s (d : Fin 2) (b : Fin 3) : sem4 cc0_scratch10 d (up b) = semK (.p2s d b) := by revert d b; decide +kernel
theorem semK_p2r (d : Fin 2) (b : Fin 3) : sem4 cc0_scratch11 d (up b) = semK (.p2r d b) := by revert d b; decide +kernel
theorem semK_p3s (d : Fin 2) (b : Fin 3) : sem4 cc0_scratch12 d (up b) = semK (.p3s d b) := by revert d b; decide +kernel
theorem semK_p3r (d : Fin 2) (b : Fin 3) : sem4 cc0_scratch13 d (up b) = semK (.p3r d b) := by revert d b; decide +kernel
theorem semK_p4s (d : Fin 2) (h : Fin 7) (j : Fin 4) : sem28 cc0_scratch14 d h j = semK (.p4s d h j) := by revert d h j; decide +kernel
theorem semK_p4r (d : Fin 2) (h : Fin 7) (j : Fin 4) : sem28 cc0_scratch15 d h j = semK (.p4r d h j) := by revert d h j; decide +kernel

/-! ### The resources -/

/-- The regions of memory that change hands as a whole: a slot of the row staging buffers, a slot of the column landing
    buffer, a quarter of the row sum's columns, a piece of the row sum, a half and the whole of the piece sum, a piece of
    the result, the block and the weight. -/
inductive Reg
  | snd (d : Fin 2) (s : Fin 7) (p : Fin 2)
  | rcv (d : Fin 2) (s : Fin 7) (p : Fin 2)
  | col (d : Fin 2) (b : Fin 3)
  | rq (d p : Fin 2)
  | rp (d : Fin 2) (j : Fin 4)
  | sumH (d : Fin 2)
  | sumA
  | out (d : Fin 2) (h : Fin 8) (j : Fin 4)
  | t
  | w
  deriving DecidableEq

/-- A region holding anything; holding what it is to hold; one of four shares of a device's own finished piece; the share
    of an argument that the `i`-th copy reads. -/
inductive MRes
  | any (r : Reg)
  | own (r : Reg)
  | share (d : Fin 2) (i : Fin 4)
  | arg (i : Fin 6)
  deriving DecidableEq

/-- What a device may hold: a position before or after the round of a semaphore, the token of a duty, the credit of a
    wait, memory of its own, memory of the device that signals it `i`-th. -/
inductive Res
  | pos (k : Ck)
  | done (k : Ck)
  | tok (k : Ck)
  | crd (k : Ck)
  | posB
  | doneB
  | tokB (i : Fin 5)
  | crdB (i : Fin 5)
  | mem (r : MRes)
  | rem (i : Fin 5) (r : MRes)
  deriving DecidableEq

/-- What a device hands over with its `i`-th signal: where the signalled device will send. -/
def sigNeed (i : Fin 5) : List MRes :=
  let ring (d : Fin 2) := (seven.flatMap fun s => two.map fun p => MRes.any (.rcv d s p)) ++ (seven.flatMap fun h => four.map fun j => MRes.any (.out d h.succ j))
  let col (b : Fin 3) := two.flatMap fun d => [MRes.any (.col d b), MRes.any (.out d 0 (up b))]
  (![ring 0, ring 1, col 0, col 1, col 2] : Fin 5 → List MRes) i

/-- The share of its source a row transfer of a finished piece reads. -/
def p4src (d : Fin 2) (h : Fin 7) (j : Fin 4) : MRes := if h = 0 ∧ j = 0 then .share d 3 else .own (.out d h.castSucc j)

/-- What arrives on a semaphore. -/
def pay : Ck → List MRes
  | .io i => if h : i.val < 4 then [.own (.snd (Fin.ofNat 2 (i.val / 2)) 0 (Fin.ofNat 2 i.val)), .arg i] else if i.val = 4 then [.own .t, .arg i] else [.own .w, .arg i]
  | .p1s d s p => [.own (.snd d s p)]
  | .p1r d s p => [.own (.rcv d s p)]
  | .p2s d b => [.own (.rp d (up b))]
  | .p2r d b => [.own (.col d b)]
  | .p3s d b => [.share d b.castSucc]
  | .p3r d b => [.own (.out d 0 (up b))]
  | .p4s d h j => [p4src d h j]
  | .p4r d h j => [.own (.out d h.succ j)]
  | .idle _ _ => []

/-- The semaphore a wait is on. -/
def waitK : Step → Option Ck
  | .stageW d p => some (.io ⟨2 * d.val + p.val, by omega⟩)
  | .tCopyW => some (.io 4)
  | .wCopyW => some (.io 5)
  | .p1wait d s p => some (.p1r d s p)
  | .p1sent d s p => some (.p1s d s p)
  | .p2wait d b => some (.p2r d b)
  | .p2sent d b => some (.p2s d b)
  | .p3wait d b => some (.p3r d b)
  | .p3sent d b => some (.p3s d b)
  | .p4wait d h j => some (.p4r d h j)
  | .p4sent d h j => some (.p4s d h j)
  | _ => none

def need : Step → List Res
  | .stage d p => [.tok (.io ⟨2 * d.val + p.val, by omega⟩), .mem (.arg ⟨2 * d.val + p.val, by omega⟩), .mem (.any (.snd d 0 p))]
  | .tCopy => [.tok (.io 4), .mem (.arg 4), .mem (.any .t)]
  | .wCopy => [.tok (.io 5), .mem (.arg 5), .mem (.any .w)]
  | .sig i => .tokB i :: (sigNeed i).map .mem
  | .bar => [.posB, .crdB 0, .crdB 1, .crdB 2, .crdB 3, .crdB 4]
  | .p1send d s p => [.tok (.p1s d s p), .tok (.p1r d s p), .mem (.own (.snd d s p)), .rem ⟨d.val, by omega⟩ (.any (.rcv d s p))]
  | .acc d s p => [.mem (.own (.rcv d s.castSucc p)), .mem (.own .t), .mem (.any (.snd d s.succ p))]
  | .accLast d p => [.mem (.own (.rcv d 6 p)), .mem (.own .t), .mem (.any (.rq d p))] ++ if p = 1 then [.mem (.own (.rq d 0))] else []
  | .p2send d a => [.tok (.p2s d a), .tok (.p2r d a.rev), .mem (.own (.rp d (up a))), .rem ⟨2 + a.rev.val, by omega⟩ (.any (.col d a.rev))]
  | .red d => [.mem (.own (.rp d 0)), .mem (.own (.col d 0)), .mem (.own (.col d 1)), .mem (.own (.col d 2)), .mem (.any (.sumH d))] ++
      if d = 1 then [.mem (.own (.sumH 0))] else []
  | .mm d => [.mem (.own .sumA), .mem (.own .w), .mem (.any (.out d 0 0))]
  | .p3send d a => [.tok (.p3s d a), .tok (.p3r d a.rev), .mem (.share d a.castSucc), .rem ⟨2 + a.rev.val, by omega⟩ (.any (.out d 0 (up a.rev)))]
  | .p4send d h j => [.tok (.p4s d h j), .tok (.p4r d h j), .mem (p4src d h j), .rem ⟨d.val, by omega⟩ (.any (.out d h.succ j))]
  | x => match waitK x with
    | some k => [.pos k, .crd k]
    | none => []

def give : Step → List Res
  | .stage d p => [.crd (.io ⟨2 * d.val + p.val, by omega⟩)]
  | .tCopy => [.crd (.io 4)]
  | .wCopy => [.crd (.io 5)]
  | .sig _ => []
  | .bar => .doneB :: [0, 1, 2, 3, 4].flatMap fun i => (sigNeed i).map (.rem i)
  | .p1send d s p => [.crd (.p1s d s p)]
  | .acc d s p => [.mem (.own (.rcv d s.castSucc p)), .mem (.own .t), .mem (.own (.snd d s.succ p))]
  | .accLast d p => [.mem (.own (.rcv d 6 p)), .mem (.own .t)] ++ if p = 1 then four.map fun j => .mem (.own (.rp d j)) else [.mem (.own (.rq d p))]
  | .p2send d a => [.crd (.p2s d a)]
  | .red d => [.mem (.own (.rp d 0)), .mem (.own (.col d 0)), .mem (.own (.col d 1)), .mem (.own (.col d 2))] ++
      if d = 1 then [.mem (.own .sumA)] else [.mem (.own (.sumH d))]
  | .mm d => [.mem (.own .sumA), .mem (.own .w)] ++ four.map fun i => .mem (.share d i)
  | .p3send d a => [.crd (.p3s d a)]
  | .p4send d h j => [.crd (.p4s d h j)]
  | x => match waitK x with
    | some k => .done k :: (pay k).map .mem
    | none => []

/-! ### What a step pays -/

/-- The semaphore of another device a step pays: its barrier or a receiving end. -/
def owed : Step → Option (Fin 5 ⊕ Ck)
  | .sig i => some (.inl i)
  | .p1send d s p => some (.inr (.p1r d s p))
  | .p2send d a => some (.inr (.p2r d a.rev))
  | .p3send d a => some (.inr (.p3r d a.rev))
  | .p4send d h j => some (.inr (.p4r d h j))
  | _ => none

/-- The rank of a semaphore. -/
def rank : Ck → ℕ
  | .p1r _ s _ => 2 + s.val
  | .p2r _ _ => 20
  | .p3r _ _ => 30
  | .p4r _ h _ => 40 + h.val
  | _ => 0
def rankO : Fin 5 ⊕ Ck → ℕ
  | .inl _ => 1
  | .inr k => rank k

def above (n : ℕ) (xs : List Step) : Bool := xs.all fun y => match owed y with
  | none => true
  | some o => decide (n < rankO o)
/-- A wait is made only while what is still owed ranks above it. -/
def rankOK (x : Step) (xs : List Step) : Bool :=
  if x = .bar then above 1 xs else match waitK x with
    | none => true
    | some k => above (rank k) xs

/-! ### The check -/

def takeAll : List Res → List Res → Option (List Res)
  | [], σ => some σ
  | r :: rs, σ => if r ∈ σ then takeAll rs (σ.erase r) else none

def run : List Step → List Res → Option (List Res)
  | [], σ => some σ
  | x :: xs, σ => if rankOK x xs then match takeAll (need x) σ with
    | none => none
    | some τ => run xs (give x ++ τ) else none

def allK : List Ck := (List.finRange 206).map ck

/-- What is lent out or handed to the launch. -/
def credits (x : Step) : List Res := match owed x with
  | none => []
  | some (.inl i) => [.crdB i]
  | some (.inr k) => [.crd k]

abbrev all3 (f : Fin 2 → Fin 7 → Fin 2 → Reg) : List Reg := two.flatMap fun d => seven.flatMap fun s => two.map fun p => f d s p
abbrev eight : List (Fin 8) := [0, 1, 2, 3, 4, 5, 6, 7]

/-- The regions each buffer is cut into at the start. -/
def regs0 : List Reg :=
  all3 .snd ++ (all3 .rcv ++ ((two.flatMap fun d => three.map fun b => .col d b) ++ ((two.flatMap fun d => two.map fun p => .rq d p) ++
    (two.map .sumH ++ ((two.flatMap fun d => eight.flatMap fun h => four.map fun j => .out d h j) ++ [.t, .w])))))

/-- What a device starts with, and what it ends with. -/
def start : List Res :=
  steps.flatMap credits ++ (.posB :: ((List.finRange 5).map .tokB ++ (allK.map .tok ++ (allK.map .pos ++ (((List.finRange 6).map fun i => .mem (.arg i)) ++ regs0.map fun r => .mem (.any r))))))

def live : Ck → Bool
  | .idle _ _ => false
  | _ => true

def final : List Res :=
  .doneB :: (allK.map (fun k => if live k then .done k else .pos k) ++ ((all3 .snd).map (fun r => .mem (.own r)) ++ ((all3 .rcv).map (fun r => .mem (.own r)) ++
    ((two.flatMap fun d => three.map fun b => .mem (.own (.col d b))) ++ ((two.flatMap fun d => four.map fun j => .mem (.own (.rp d j))) ++
    (.mem (.own .sumA) :: ((two.flatMap fun d => four.map fun i => .mem (.share d i)) ++
    ((two.flatMap fun d => eight.flatMap fun h => (four.filter fun j => ¬(h = 0 ∧ j = 0)).map fun j => .mem (.own (.out d h j))) ++ [.mem (.own .t), .mem (.own .w), .mem (.arg 4), .mem (.arg 5)]))))))))

end Cert.Ring
-- ==== Proof.Sched.lean ====
/-
  What the resources of Plan.lean mean on a device, the schedule of the semaphores, and what each wait may rely on.
-/
module

public import proofs.«01_k».proof.Proof.Cont
public import proofs.«01_k».proof.Proof.Plan
public import Idealize.ShloMosaic.Lib.Pipeline.Launch
public import Idealize.ShloMosaic.Lib.Pipeline.Kit
public import Idealize.ShloMosaic.Lib.Tactic
public import Idealize.ShloMosaic.Lib.Rounds

@[expose] public section

set_option synthInstance.maxSize 4096

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ### Memory -/

/-- The four quarters of a share. -/
def quarter (q : PosShare TreeShare) (i : Fin 4) : PosShare TreeShare := (![q.left.left, q.left.right, q.right.left, q.right.right] : Fin 4 → _) i

def anyV (c : Dev nD) {sp : Space} {s : Shape} (M : Memref sig .tc sp s .f32) : sProp 𝕄 :=
  iprop(∃ f : Buf (Elt F) (M.view.loc (c : Thread nD τ)), M.view.loc (c : Thread nD τ) ↦[M.view.set]{fullShare} f)
def ownV (c : Dev nD) {sp : Space} {s : Shape} (M : Memref sig .tc sp s .f32) (q : PosShare TreeShare) (f : Buf (Elt F) (M.view.loc (c : Thread nD τ))) : sProp 𝕄 :=
  M.view.loc (c : Thread nD τ) ↦[M.view.set]{q} f

abbrev rqV (d p : Fin 2) : Memref sig .tc .vmem S256x256 .f32 := redM.slice (rqR d p) (fun _ => rfl)
abbrev sumV (d : Fin 2) : Memref sig .tc .vmem S64x512 .f32 := sumM.slice (sumR d) (fun _ => rfl)

def anyR (c : Dev nD) : Reg → sProp 𝕄
  | .snd d s p => anyV c (slotV sndM d s p)
  | .rcv d s p => anyV c (slotV rcvM d s p)
  | .col d b => anyV c (colV d (up b))
  | .rq d p => anyV c (rqV d p)
  | .rp d j => anyV c (rpieceV (redC c d j))
  | .sumH d => anyV c (sumV d)
  | .sumA => anyV c sumM
  | .out d h j => anyV c (pieceV (outC c d h j))
  | .t => anyV c tM
  | .w => anyV c wM

def ownR (c : Dev nD) : Reg → sProp 𝕄
  | .snd d s p => ownV c (slotV sndM d s p) fullShare (sndF m c)
  | .rcv d s p => ownV c (slotV rcvM d s p) fullShare (rcvF m c)
  | .col d b => ownV c (colV d (up b)) fullShare (colF m c)
  | .rq d p => ownV c (rqV d p) fullShare (redF m c)
  | .rp d j => ownV c (rpieceV (redC c d j)) fullShare (redF m c)
  | .sumH d => ownV c (sumV d) fullShare (sumF m c)
  | .sumA => ownV c sumM fullShare (sumF m c)
  | .out d h j => ownV c (pieceV (outC c d h j)) fullShare (outF m)
  | .t => ownV c tM fullShare (blkF m c)
  | .w => ownV c wM fullShare (wgtF m c)

def argR (c : Dev nD) (i : Fin 6) : sProp 𝕄 :=
  if h : i.val < 4 then ownV c (chunkV (chC c (Fin.ofNat 2 (i.val / 2)) (Fin.ofNat 2 i.val) 0)) (quarter fullShare.right ⟨i.val, h⟩) (blkF m c)
  else if i.val = 4 then ownV c tA fullShare.left (blkF m c)
  else ownV c wA fullShare (wgtF m c)

def MR (c : Dev nD) : MRes → sProp 𝕄
  | .any r => anyR c r
  | .own r => ownR m c r
  | .share d i => ownV c (pieceV (outC c d 0 0)) (quarter fullShare i) (outF m)
  | .arg i => argR m c i

instance anyV_storable (c : Dev nD) {sp : Space} {s : Shape} (M : Memref sig .tc sp s .f32) : BI.Storable (upEmb : UEmb _ 𝕄) (anyV (F := F) c M) := by
  unfold anyV; infer_instance
instance ownV_storable (c : Dev nD) {sp : Space} {s : Shape} (M : Memref sig .tc sp s .f32) (q : PosShare TreeShare) (f) :
    BI.Storable (upEmb : UEmb _ 𝕄) (ownV (F := F) c M q f) := by unfold ownV; infer_instance
instance MR_storable (c : Dev nD) (r : MRes) : BI.Storable (upEmb : UEmb _ 𝕄) (MR m c r) := by
  cases r with
  | any r => cases r <;> exact anyV_storable _ _
  | own r => cases r <;> exact ownV_storable _ _ _ _
  | share d i => exact ownV_storable _ _ _ _
  | arg i => show BI.Storable _ (argR m c i); unfold argR; (repeat' split) <;> exact ownV_storable _ _ _ _

/-- A list of resources, all held. -/
def sepL {I : Type} (l : List I) (Φ : I → sProp 𝕄) : sProp 𝕄 := bigSepM (l : Multiset I) Φ

theorem sepL_nil {I : Type} (Φ : I → sProp 𝕄) : sepL [] Φ = iprop(emp) := rfl
theorem sepL_cons {I : Type} (x : I) (l : List I) (Φ : I → sProp 𝕄) : sepL (x :: l) Φ = iprop(Φ x ∗ sepL l Φ) := bigSepM_cons x (l : Multiset I) Φ
theorem sepL_append {I : Type} (l l' : List I) (Φ : I → sProp 𝕄) : sepL (l ++ l') Φ = iprop(sepL l Φ ∗ sepL l' Φ) :=
  bigSepM_add (l : Multiset I) (l' : Multiset I) Φ
theorem sepL_map {I J : Type} (f : I → J) (l : List I) (Φ : J → sProp 𝕄) : sepL (l.map f) Φ = sepL l fun i => Φ (f i) := by
  unfold sepL bigSepM
  rw [← Multiset.map_coe, Multiset.map_map]; rfl
theorem sepL_flatMap {I J : Type} (f : J → List I) (l : List J) (Φ : I → sProp 𝕄) : sepL (l.flatMap f) Φ = sepL l fun j => sepL (f j) Φ := by
  induction l with
  | nil => rfl
  | cons j l ih => rw [List.flatMap_cons, sepL_append, sepL_cons, ih]
theorem sepL_perm {I : Type} {l l' : List I} (h : l.Perm l') (Φ : I → sProp 𝕄) : sepL l Φ = sepL l' Φ := by
  unfold sepL; rw [Multiset.coe_eq_coe.mpr h]
theorem sepL_single {I : Type} (x : I) (Φ : I → sProp 𝕄) : sepL [x] Φ = Φ x := by
  rw [sepL_cons, sepL_nil]; exact equiv_iff.mp BI.sep_emp
theorem sepL_congr {I : Type} {l : List I} {Φ Ψ : I → sProp 𝕄} (h : ∀ i ∈ l, Φ i = Ψ i) : sepL l Φ = sepL l Ψ := by
  induction l with
  | nil => rfl
  | cons x l ih => rw [sepL_cons, sepL_cons, h x List.mem_cons_self, ih fun i hi => h i (List.mem_cons_of_mem _ hi)]
/-- A list without repetition, held, is its set held. -/
theorem sepL_set {I : Type} [DecidableEq I] {l : List I} (h : l.Nodup) (Φ : I → sProp 𝕄) : sepL l Φ = bigSep l.toFinset Φ := by
  show _ = bigSepM l.toFinset.val Φ
  rw [List.toFinset_val, h.dedup]; rfl

instance sepL_storable {I : Type} (l : List I) (Φ : I → sProp 𝕄) [h : ∀ i, BI.Storable (upEmb : UEmb _ 𝕄) (Φ i)] :
    BI.Storable (upEmb : UEmb _ 𝕄) (sepL l Φ) := by
  induction l with
  | nil => rw [sepL_nil]; infer_instance
  | cons x l ih => rw [sepL_cons]; infer_instance

/-! ### The schedule -/

/-- What one transfer of each kind credits. -/
def NS : ℕ := (slotV sndM 0 0 0).view.dmaCredit
def NP : ℕ := (colV 0 0).view.dmaCredit
def NT : ℕ := tM.view.dmaCredit
def NW : ℕ := wM.view.dmaCredit
theorem NS_pos : 0 < NS := View.dmaCredit_pos _ (by decide)
theorem NP_pos : 0 < NP := View.dmaCredit_pos _ (by decide)
theorem NT_pos : 0 < NT := View.dmaCredit_pos _ (by decide)
theorem NW_pos : 0 < NW := View.dmaCredit_pos _ (by decide)

def amt : Ck → ℕ
  | .io i => (![NS, NS, NS, NS, NT, NW] : Fin 6 → ℕ) i
  | .p1s _ _ _ => NS
  | .p1r _ _ _ => NS
  | _ => NP
theorem amt_pos (k : Ck) : 0 < amt k := by
  cases k with
  | io i => fin_cases i <;> first | exact NS_pos | exact NT_pos | exact NW_pos
  | p1s _ _ _ => exact NS_pos
  | p1r _ _ _ => exact NS_pos
  | _ => exact NP_pos

abbrev dmaC (c : Dev nD) (k : Ck) : GSem nD τ sig := ((c : Thread nD τ), .dma (semK k))
abbrev barC (c : Dev nD) : GSem nD τ sig := ((c : Thread nD τ), .reg barS)

def dut (k : Ck) : Finset (Fin 5) := if live k then {0} else ∅

def sched : Rounds.Schedule (GSem nD τ sig) (Fin 5) 𝕄 where
  duties g r := if r = 0 ∧ g.1.2 = .tc then (match g.2 with
    | .reg s => if s = barS then Finset.univ else ∅
    | .dma q => match dec q with
      | some k => dut k
      | none => ∅) else ∅
  unitless _ := False
  amount g _ _ := match g.2 with
    | .reg _ => 1
    | .dma q => match dec q with
      | some k => amt k
      | none => 1
  payload g _ i := match g.2 with
    | .reg _ => sepL (sigNeed i) (MR m (sigFrom i g.1.1))
    | .dma q => match dec q with
      | some k => sepL (pay k) (MR m g.1.1)
      | none => iprop(emp)
  amount_pos g _ _ _ := by
    split
    · exact Nat.one_pos
    · split
      · exact amt_pos _
      · exact Nat.one_pos

instance sched_storable (g : GSem nD τ sig) (r : ℕ) (d : Fin 5) : BI.Storable (upEmb : UEmb _ 𝕄) ((sched (F := F) m).payload g r d) := by
  dsimp only [sched]
  (repeat' split) <;> infer_instance

section Facts
variable (c : Dev nD) (k : Ck)

theorem duties_bar : (sched m).duties (barC c) 0 = Finset.univ := by
  dsimp only [sched]; rw [if_pos ⟨rfl, rfl⟩, if_pos rfl]
theorem duties_dma : (sched m).duties (dmaC c k) 0 = dut k := by
  dsimp only [sched]; rw [if_pos ⟨rfl, rfl⟩, dec_semK]
theorem duties_later (g : GSem nD τ sig) : ∀ r, 1 ≤ r → (sched m).duties g r = ∅ :=
  fun r hr => by dsimp only [sched]; rw [if_neg fun h => by omega]
theorem duties_idle (hk : live k = false) : ∀ r, 0 ≤ r → (sched m).duties (dmaC c k) r = ∅ := fun r _ => by
  by_cases h : r = 0
  · subst h; rw [duties_dma]; unfold dut; rw [hk]; rfl
  · exact duties_later m _ r (by omega)
theorem amount_bar (i : Fin 5) : (sched m).amount (barC c) 0 i = 1 := rfl
theorem amount_dma (i : Fin 5) : (sched m).amount (dmaC c k) 0 i = amt k := by dsimp only [sched]; rw [dec_semK]
theorem payload_bar (i : Fin 5) : (sched m).payload (barC c) 0 i = sepL (sigNeed i) (MR m (sigFrom i c)) := rfl
theorem payload_dma (i : Fin 5) : (sched m).payload (dmaC c k) 0 i = sepL (pay k) (MR m c) := by dsimp only [sched]; rw [dec_semK]
theorem duties_live (hk : live k = true) : (sched m).duties (dmaC c k) 0 = {0} := by rw [duties_dma]; unfold dut; rw [if_pos hk]
theorem expect_bar : (sched m).expect (barC c) 0 = 5 := by
  unfold Schedule.expect Schedule.amountOf
  rw [duties_bar, Finset.sum_congr rfl fun d _ => amount_bar m c d, Finset.sum_const, Finset.card_univ, Fintype.card_fin, smul_eq_mul]
theorem expect_dma (hk : live k = true) : (sched m).expect (dmaC c k) 0 = amt k := by
  unfold Schedule.expect Schedule.amountOf; rw [duties_live m c k hk, Finset.sum_singleton, amount_dma]
theorem rest_dma (hk : live k = true) :
    bigSep ((sched m).duties (dmaC c k) 0 \ ∅) (fun d => (sched m).payload (dmaC c k) 0 d) = sepL (pay k) (MR m c) := by
  rw [Finset.sdiff_empty, duties_live m c k hk, bigSep_singleton, payload_dma]
theorem rest_bar :
    bigSep ((sched m).duties (barC c) 0 \ ∅) (fun d => (sched m).payload (barC c) 0 d)
      = sepL [0, 1, 2, 3, 4] fun i : Fin 5 => sepL (sigNeed i) (MR m (sigFrom i c)) := by
  rw [Finset.sdiff_empty, duties_bar]
  rw [sepL_set (by decide)]
  rfl

end Facts

/-! ### The resources of a device -/

/-- The device whose semaphore a device pays. -/
def tgt : Ck → Dev nD → Dev nD
  | .p1r d _ _, c => nb d c
  | .p2r _ b, c => cz (up b.rev) c
  | .p3r _ b, c => cz (up b.rev) c
  | .p4r d _ _, c => nb d c
  | _, c => c

def RI (c : Dev nD) : Res → sProp 𝕄
  | .pos k => atPos ER (dmaC c k) 0 ∅ 0
  | .done k => atPos ER (dmaC c k) 1 ∅ 0
  | .tok k => dutyTok ER (dmaC (tgt k c) k) 0 0
  | .crd k => cred (tallyAt (dmaC c k) () (amt k))
  | .posB => atPos ER (barC c) 0 ∅ 0
  | .doneB => atPos ER (barC c) 1 ∅ 0
  | .tokB i => dutyTok ER (barC (sigTo i c)) 0 i
  | .crdB _ => cred (tallyAt (barC c) () 1)
  | .mem r => MR m c r
  | .rem i r => MR m (sigFrom i c) r

/-! ### What is owed -/

def oweO (c : Dev nD) : Fin 5 ⊕ Ck → CellTallies nD τ sig Unit
  | .inl i => tallyAt (barC (sigTo i c)) () 1
  | .inr k => tallyAt (dmaC (tgt k c) k) () (amt k)
def owe (c : Dev nD) (x : Step) : CellTallies nD τ sig Unit := match owed x with
  | none => 0
  | some o => oweO c o
def oweL (c : Dev nD) (xs : List Step) : CellTallies nD τ sig Unit := (xs.map (owe c)).sum

theorem oweL_cons (c : Dev nD) (x : Step) (xs : List Step) : oweL c (x :: xs) = oweL c xs + owe c x := by
  unfold oweL; rw [List.map_cons, List.sum_cons, add_comm]

def L (g : GSem nD τ sig) : Finset Unit := if g.1.2 = .tc then {()} else ∅
def lv (g : GSem nD τ sig) (_ : Unit) : ℕ := match g.2 with
  | .reg _ => 1
  | .dma q => match dec q with
    | some k => rank k
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_dma (c : Dev nD) (k : Ck) : lv (dmaC c k) () = rank k := by unfold lv; dsimp only; rw [dec_semK]
theorem lv_bar (c : Dev nD) : lv (barC c) () = 1 := rfl

/-- A cell owed at a rank above `n`. -/
theorem oweO_pos (c : Dev nD) (o : Fin 5 ⊕ Ck) (g : GSem nD τ sig) (u : Unit) (h : 0 < oweO c o g u) : u ∈ L g ∧ lv g u = rankO o := by
  cases o with
  | inl i =>
    unfold oweO at h; rw [tallyAt_apply] at h
    by_cases hg : g = barC (sigTo i c) ∧ u = ()
    · obtain ⟨rfl, rfl⟩ := hg; exact ⟨by rw [L_tc]; exact Finset.mem_singleton_self _, rfl⟩
    · rw [if_neg hg] at h; exact absurd h (Nat.lt_irrefl 0)
  | inr k =>
    unfold oweO at h; rw [tallyAt_apply] at h
    by_cases hg : g = dmaC (tgt k c) k ∧ u = ()
    · obtain ⟨rfl, rfl⟩ := hg; exact ⟨by rw [L_tc]; exact Finset.mem_singleton_self _, lv_dma _ _⟩
    · rw [if_neg hg] at h; exact absurd h (Nat.lt_irrefl 0)

theorem oweL_pos (c : Dev nD) (n : ℕ) (xs : List Step) (ha : above n xs = true) (g : GSem nD τ sig) (u : Unit) (h : 0 < oweL c xs g u) :
    u ∈ L g ∧ n < lv g u := by
  induction xs with
  | nil => exact absurd h (Nat.lt_irrefl 0)
  | cons x xs ih =>
    unfold above at ha
    rw [List.all_cons, Bool.and_eq_true] at ha
    rw [oweL_cons, Pi.add_apply, Finsupp.add_apply] at h
    by_cases h' : 0 < oweL c xs g u
    · exact ih ha.2 h'
    · have h2 : 0 < owe c x g u := by omega
      unfold owe at h2
      have h1 := ha.1
      cases ho : owed x with
      | none => rw [ho] at h2; exact absurd h2 (Nat.lt_irrefl 0)
      | some o =>
        rw [ho] at h2 h1
        obtain ⟨hL, hl⟩ := oweO_pos c o g u h2
        exact ⟨hL, by rw [hl]; exact of_decide_eq_true h1⟩

theorem mayWait (c : Dev nD) (sm : SemLoc sig) (xs : List Step) (ha : above (lv ((c : Thread nD τ), sm) ()) xs = true) :
    (levAts L lv : sProp 𝕄) ⊢ MayWait (c : Thread nD τ) sm () (oweL c xs) :=
  MayOwe.of_cut (L := L) (lev := lv) (lv ((c : Thread nD τ), sm) ())
    (fun p hp => by rw [Finset.mem_singleton.mp hp, L_tc]; exact Finset.mem_singleton_self _)
    (fun g u hg => (oweL_pos c _ xs ha g u hg).1)
    (fun p hp => by rw [Finset.mem_singleton.mp hp])
    (fun g u hg => (oweL_pos c _ xs ha g u hg).2)

end Cert.Ring

end
-- ==== Proof.Cut.lean ====
/-
  How the buffers are cut into regions: which indices a region holds, and the cuts and shares that change hands.
-/
module

public import proofs.«01_k».proof.Proof.Sched

@[expose] public section

set_option synthInstance.maxSize 4096
set_option maxRecDepth 20000

noncomputable section

namespace Cert.Ring

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ### Which indices a region holds -/

theorem mem_slot (d : Fin 2) (s : Fin 7) (p : Fin 2) (i : S2x7x2x256x256.Idx) :
    i ∈ (slotR d s p).set ↔ (i 0 : Fin 2) = d ∧ (i 1 : Fin 7) = s ∧ (i 2 : Fin 2) = p := by
  rw [Rect.mem_set_unit]
  have h3 : (i 3 : Fin 256).val < 256 := (i 3).isLt
  have h4 : (i 4 : Fin 256).val < 256 := (i 4).isLt
  constructor
  · intro h
    have a0 := h 0; have a1 := h 1; have a2 := h 2
    change d.val ≤ (i 0 : Fin 2).val ∧ (i 0 : Fin 2).val < d.val + 1 at a0
    change s.val ≤ (i 1 : Fin 7).val ∧ (i 1 : Fin 7).val < s.val + 1 at a1
    change p.val ≤ (i 2 : Fin 2).val ∧ (i 2 : Fin 2).val < p.val + 1 at a2
    exact ⟨Fin.ext (by omega), Fin.ext (by omega), Fin.ext (by omega)⟩
  · rintro ⟨rfl, rfl, rfl⟩ a
    match a with
    | ⟨0, _⟩ => exact ⟨le_refl _, Nat.lt_succ_self _⟩
    | ⟨1, _⟩ => exact ⟨le_refl _, Nat.lt_succ_self _⟩
    | ⟨2, _⟩ => exact ⟨le_refl _, Nat.lt_succ_self _⟩
    | ⟨3, _⟩ => exact ⟨Nat.zero_le _, (Nat.zero_add 256).symm ▸ h3⟩
    | ⟨4, _⟩ => exact ⟨Nat.zero_le _, (Nat.zero_add 256).symm ▸ h4⟩

theorem mem_col (d : Fin 2) (j : Fin 4) (i : S2x4x64x512.Idx) :
    i ∈ (colR d j).set ↔ (i 0 : Fin 2) = d ∧ (i 1 : Fin 4) = j := by
  rw [Rect.mem_set_unit]
  have h2 : (i 2 : Fin 64).val < 64 := (i 2).isLt
  have h3 : (i 3 : Fin 512).val < 512 := (i 3).isLt
  constructor
  · intro h
    have a0 := h 0; have a1 := h 1
    change d.val ≤ (i 0 : Fin 2).val ∧ (i 0 : Fin 2).val < d.val + 1 at a0
    change j.val ≤ (i 1 : Fin 4).val ∧ (i 1 : Fin 4).val < j.val + 1 at a1
    exact ⟨Fin.ext (by omega), Fin.ext (by omega)⟩
  · rintro ⟨rfl, rfl⟩ a
    match a with
    | ⟨0, _⟩ => exact ⟨le_refl _, Nat.lt_succ_self _⟩
    | ⟨1, _⟩ => exact ⟨le_refl _, Nat.lt_succ_self _⟩
    | ⟨2, _⟩ => exact ⟨Nat.zero_le _, (Nat.zero_add 64).symm ▸ h2⟩
    | ⟨3, _⟩ => exact ⟨Nat.zero_le _, (Nat.zero_add 512).symm ▸ h3⟩

/-- A rectangle of a matrix, by its rows and columns. -/
theorem mem_rect2 {n k : ℕ} (o z : Fin 2 → ℕ) (hb : ∀ a, o a + z a ≤ (⟨2, ![n, k]⟩ : Shape).size a) (i : (⟨2, ![n, k]⟩ : Shape).Idx) :
    i ∈ (Rect.unit (s := (⟨2, ![n, k]⟩ : Shape)) o z hb).set
      ↔ (o 0 ≤ (i 0 : Fin n).val ∧ (i 0 : Fin n).val < o 0 + z 0) ∧ (o 1 ≤ (i 1 : Fin k).val ∧ (i 1 : Fin k).val < o 1 + z 1) := by
  rw [Rect.mem_set_unit]
  constructor
  · intro h; exact ⟨h 0, h 1⟩
  · rintro ⟨h0, h1⟩ a
    match a with
    | ⟨0, _⟩ => exact h0
    | ⟨1, _⟩ => exact h1

theorem mem_rq (d p : Fin 2) (i : S256x1024.Idx) :
    i ∈ (rqR d p).set ↔ 512 * d.val + 256 * p.val ≤ (i 1 : Fin 1024).val ∧ (i 1 : Fin 1024).val < 512 * d.val + 256 * p.val + 256 := by
  refine (mem_rect2 _ _ _ i).trans ?_
  have h0 : (i 0 : Fin 256).val < 256 := (i 0).isLt
  show (0 ≤ (i 0 : Fin 256).val ∧ (i 0 : Fin 256).val < 0 + 256) ∧ (512 * d.val + 256 * p.val ≤ (i 1 : Fin 1024).val ∧ (i 1 : Fin 1024).val < 512 * d.val + 256 * p.val + 256) ↔ _
  omega
theorem mem_rp (d : Fin 2) (g : Fin 4) (i : S256x1024.Idx) :
    i ∈ (rpieceR (redO d g)).set ↔ (64 * g.val ≤ (i 0 : Fin 256).val ∧ (i 0 : Fin 256).val < 64 * g.val + 64)
      ∧ (512 * d.val ≤ (i 1 : Fin 1024).val ∧ (i 1 : Fin 1024).val < 512 * d.val + 512) := mem_rect2 _ _ _ i
theorem mem_out (d : Fin 2) (r : Fin 8) (g : Fin 4) (i : S2048x1024.Idx) :
    i ∈ (pieceR (outO d r g)).set ↔ (256 * r.val + 64 * g.val ≤ (i 0 : Fin 2048).val ∧ (i 0 : Fin 2048).val < 256 * r.val + 64 * g.val + 64)
      ∧ (512 * d.val ≤ (i 1 : Fin 1024).val ∧ (i 1 : Fin 1024).val < 512 * d.val + 512) := mem_rect2 _ _ _ i
theorem mem_sum (d : Fin 2) (i : S64x1024.Idx) :
    i ∈ (sumR d).set ↔ 512 * d.val ≤ (i 1 : Fin 1024).val ∧ (i 1 : Fin 1024).val < 512 * d.val + 512 := by
  refine (mem_rect2 _ _ _ i).trans ?_
  have h0 : (i 0 : Fin 64).val < 64 := (i 0).isLt
  show (0 ≤ (i 0 : Fin 64).val ∧ (i 0 : Fin 64).val < 0 + 64) ∧ (512 * d.val ≤ (i 1 : Fin 1024).val ∧ (i 1 : Fin 1024).val < 512 * d.val + 512) ↔ _
  omega

theorem gamJ_inj (c : Dev nD) (j j' : Fin 4) (h : gamJ j c = gamJ j' c) : j = j' := by revert c j j'; decide +kernel
theorem gamJ_surj (c : Dev nD) (g : Fin 4) : ∃ j, gamJ j c = g := by revert c g; decide +kernel
theorem rhoH_inj (c : Dev nD) (d : Fin 2) (h h' : Fin 8) (e : rhoH d h c = rhoH d h' c) : h = h' := by revert c d h h'; decide +kernel
theorem rhoH_surj (c : Dev nD) (d : Fin 2) (r : Fin 8) : ∃ h, rhoH d h c = r := by revert c d r; decide +kernel

/-! ### The sets of the views -/

theorem set_snd (d : Fin 2) (s : Fin 7) (p : Fin 2) : (slotV sndM d s p).view.set = (slotR d s p).set :=
  (View.set_reshape _ _).trans (View.set_slice_whole cc0_scratch2 _)
theorem set_rcv (d : Fin 2) (s : Fin 7) (p : Fin 2) : (slotV rcvM d s p).view.set = (slotR d s p).set :=
  (View.set_reshape _ _).trans (View.set_slice_whole cc0_scratch3 _)
theorem set_col (d : Fin 2) (j : Fin 4) : (colV d j).view.set = (colR d j).set :=
  (View.set_reshape _ _).trans (View.set_slice_whole cc0_scratch4 _)
theorem set_rq (d p : Fin 2) : (rqV d p).view.set = (rqR d p).set := View.set_slice_whole cc0_scratch0 _
theorem set_rp (o) : (rpieceV o).view.set = (rpieceR o).set := View.set_slice_whole cc0_scratch0 _
theorem set_sum (d : Fin 2) : (sumV d).view.set = (sumR d).set := View.set_slice_whole cc0_scratch1 _
theorem set_out (o) : (pieceV o).view.set = (pieceR o).set := View.set_slice_whole cc0_stg0_0 _

/-! ### Cuts -/

/-- A region cut into a list of regions. -/
theorem pts_cut {T : Type} [DecidableEq T] {ℓ : Loc nD τ sig} (q : PosShare TreeShare) (f : Buf (Elt F) ℓ) (l : List T) (hl : l.Nodup) (K : T → Finset (Idx ℓ))
    (S : Finset (Idx ℓ)) (hS : ∀ i, i ∈ S ↔ ∃ t ∈ l, i ∈ K t) (hd : ∀ i, ∀ t ∈ l, ∀ t' ∈ l, i ∈ K t → i ∈ K t' → t = t') :
    (ℓ ↦[S]{q} f : sProp 𝕄) = sepL l fun t => ℓ ↦[K t]{q} f := by
  classical
  rw [sepL_set hl, ← pointsTo_biUnion]
  · congr 1
    ext i
    rw [hS, Finset.mem_biUnion]
    exact ⟨fun ⟨t, h, h'⟩ => ⟨t, List.mem_toFinset.mpr h, h'⟩, fun ⟨t, h, h'⟩ => ⟨t, List.mem_toFinset.mp h, h'⟩⟩
  · intro t ht t' ht' hne
    refine Finset.disjoint_left.mpr fun i hi hi' => hne (hd i t (List.mem_toFinset.mp ht) t' (List.mem_toFinset.mp ht') hi hi')

/-- The four quarters of a share are the share. -/
theorem own_quarters (c : Dev nD) {sp : Space} {s : Shape} (M : Memref sig .tc sp s .f32) (q : PosShare TreeShare) (f : Buf (Elt F) (M.view.loc (c : Thread nD τ))) :
    ownV c M q f = sepL four fun i => ownV c M (quarter q i) f := by
  rw [show four = [0, 1, 2, 3] from rfl, sepL_cons, sepL_cons, sepL_cons, sepL_single]
  have e : ∀ q' : PosShare TreeShare, ownV c M q' f = iprop(ownV c M q'.left f ∗ ownV c M q'.right f) := fun q' => by
    unfold ownV
    exact equiv_iff.mp ⟨(pointsTo_share (PosShare.mem_left_op_right q')).1, (pointsTo_share (PosShare.mem_left_op_right q')).2⟩
  rw [e q, e q.left, e q.right]
  exact equiv_iff.mp ⟨BI.sep_assoc, BI.sep_assoc'⟩

theorem half_out (k : ℕ) (hk : k < 1024) : ∃ d : Fin 2, 512 * d.val ≤ k ∧ k < 512 * d.val + 512 := by
  by_cases h : k < 512
  · exact ⟨0, by show 512 * 0 ≤ k; omega, by show k < 512 * 0 + 512; omega⟩
  · exact ⟨1, by show 512 * 1 ≤ k; omega, by show k < 512 * 1 + 512; omega⟩

/-- The two quarters of the row sum's columns in one direction are the four pieces. -/
theorem red_regroup (c : Dev nD) (d : Fin 2) (f : Buf (Elt F) ((c : Thread nD τ).loc cc0_scratch0)) :
    (sepL two fun p => ownV c (rqV d p) fullShare f : sProp 𝕄) = sepL four fun j => ownV c (rpieceV (redC c d j)) fullShare f := by
  have h1 : ((c : Thread nD τ).loc cc0_scratch0 ↦[(Finset.univ : Finset S256x1024.Idx).filter (fun i => 512 * d.val ≤ (i 1 : Fin 1024).val ∧ (i 1 : Fin 1024).val < 512 * d.val + 512)]{fullShare} f : sProp 𝕄)
      = sepL two fun p => ownV c (rqV d p) fullShare f :=
    pts_cut fullShare f two (by decide) (fun p => (rqV d p).view.set) _
      (fun i => by
        rw [Finset.mem_filter]
        constructor
        · rintro ⟨-, h0, h1⟩
          by_cases h : (i 1 : Fin 1024).val < 512 * d.val + 256
          · exact ⟨0, by decide, by rw [set_rq, mem_rq]; show 512 * d.val + 256 * 0 ≤ _ ∧ _ < 512 * d.val + 256 * 0 + 256; omega⟩
          · exact ⟨1, by decide, by rw [set_rq, mem_rq]; show 512 * d.val + 256 * 1 ≤ _ ∧ _ < 512 * d.val + 256 * 1 + 256; omega⟩
        · rintro ⟨p, -, h⟩
          rw [set_rq, mem_rq] at h
          exact ⟨Finset.mem_univ _, by omega⟩)
      (fun i p _ p' _ h h' => by
        rw [set_rq, mem_rq] at h h'
        exact Fin.ext (by omega))
  have h2 : ((c : Thread nD τ).loc cc0_scratch0 ↦[(Finset.univ : Finset S256x1024.Idx).filter (fun i => 512 * d.val ≤ (i 1 : Fin 1024).val ∧ (i 1 : Fin 1024).val < 512 * d.val + 512)]{fullShare} f : sProp 𝕄)
      = sepL four fun j => ownV c (rpieceV (redC c d j)) fullShare f :=
    pts_cut fullShare f four (by decide) (fun j => (rpieceV (redC c d j)).view.set) _
      (fun i => by
        rw [Finset.mem_filter]
        have hi : (i 0 : Fin 256).val < 256 := (i 0).isLt
        constructor
        · rintro ⟨-, h⟩
          obtain ⟨j, hj⟩ := gamJ_surj c ⟨(i 0 : Fin 256).val / 64, by omega⟩
          refine ⟨j, by fin_cases j <;> decide, ?_⟩
          rw [set_rp, mem_rp, hj]
          exact ⟨by dsimp only; omega, h⟩
        · rintro ⟨j, -, h⟩
          rw [set_rp, mem_rp] at h
          exact ⟨Finset.mem_univ _, h.2⟩)
      (fun i j _ j' _ h h' => by
        rw [set_rp, mem_rp] at h h'
        exact gamJ_inj c j j' (Fin.ext (by omega)))
  rw [← h1, h2]

/-- The two halves of the piece sum are the whole. -/
theorem sum_regroup (c : Dev nD) (f : Buf (Elt F) ((c : Thread nD τ).loc cc0_scratch1)) :
    (sepL two fun d => ownV c (sumV d) fullShare f : sProp 𝕄) = ownV c sumM fullShare f := by
  refine Eq.symm (pts_cut fullShare f two (by decide) (fun d => (sumV d).view.set) _ (fun i => ?_) (fun i d _ d' _ h h' => ?_))
  · constructor
    · intro _
      obtain ⟨d, hd⟩ := half_out (i 1 : Fin 1024).val (i 1).isLt
      exact ⟨d, by fin_cases d <;> decide, by rw [set_sum, mem_sum]; exact hd⟩
    · intro _; rw [View.set_whole]; exact Finset.mem_univ _
  · rw [set_sum, mem_sum] at h h'
    exact Fin.ext (by omega)

end Cert.Ring

end
-- ==== Proof.Mem.lean ====
/-
  The memory of a device before and after the kernel: its buffers whole, and the regions it starts with and ends with.
-/
module

public import proofs.«01_k».proof.Proof.Cut

@[expose] public section

set_option synthInstance.maxSize 4096
set_option maxRecDepth 20000

noncomputable section

namespace Cert.Ring

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ### Lists of held regions -/

theorem sepL_mono {I : Type} {l : List I} {Φ Ψ : I → sProp 𝕄} (h : ∀ i ∈ l, Φ i ⊢ Ψ i) : sepL l Φ ⊢ sepL l Ψ := by
  induction l with
  | nil => exact BI.Entails.refl _
  | cons x l ih =>
    rw [sepL_cons, sepL_cons]
    exact BI.sep_mono (h x List.mem_cons_self) (ih fun i hi => h i (List.mem_cons_of_mem _ hi))

/-- A buffer holding anything. -/
abbrev held (c : Dev nD) (b : Ref sig .tc) : sProp 𝕄 := iprop(∃ f : Buf (Elt F) ((c : Thread nD τ).loc b), ((c : Thread nD τ).loc b) ↦{fullShare} f)

/-- How a buffer is cut into the regions of a list: they cover it and no two of them meet. -/
structure Cuts {T : Type} (c : Dev nD) (b : Ref sig .tc) (l : List T) (K : T → Finset (Idx ((c : Thread nD τ).loc b))) : Prop where
  nodup : l.Nodup
  cover : ∀ i, ∃ t ∈ l, i ∈ K t
  apart : ∀ i, ∀ t ∈ l, ∀ t' ∈ l, i ∈ K t → i ∈ K t' → t = t'

theorem Cuts.eq {T : Type} [DecidableEq T] {c : Dev nD} {b : Ref sig .tc} {l : List T} {K : T → Finset (Idx ((c : Thread nD τ).loc b))} (h : Cuts c b l K)
    (q : PosShare TreeShare) (f : Buf (Elt F) ((c : Thread nD τ).loc b)) :
    (((c : Thread nD τ).loc b) ↦{q} f : sProp 𝕄) = sepL l fun t => ((c : Thread nD τ).loc b) ↦[K t]{q} f :=
  pts_cut q f l h.nodup K Finset.univ (fun i => ⟨fun _ => h.cover i, fun _ => Finset.mem_univ _⟩) h.apart

/-- A buffer holding anything is its regions, each holding anything. -/
theorem Cuts.start {T : Type} [DecidableEq T] {c : Dev nD} {b : Ref sig .tc} {l : List T} {K : T → Finset (Idx ((c : Thread nD τ).loc b))} (h : Cuts c b l K) :
    held (F := F) c b ⊢ sepL l fun t => iprop(∃ f : Buf (Elt F) ((c : Thread nD τ).loc b), ((c : Thread nD τ).loc b) ↦[K t]{fullShare} f) := by
  refine exists_elim fun f => ?_
  rw [h.eq]
  exact sepL_mono fun t _ => exists_intro (Φ := fun f : Buf (Elt F) ((c : Thread nD τ).loc b) => iprop(((c : Thread nD τ).loc b) ↦[K t]{fullShare} f)) f

/-- The regions, each holding anything, are the buffer. -/
theorem Cuts.stop {T : Type} [DecidableEq T] {c : Dev nD} {b : Ref sig .tc} {l : List T} {K : T → Finset (Idx ((c : Thread nD τ).loc b))} (h : Cuts c b l K)
    (f₀ : Buf (Elt F) ((c : Thread nD τ).loc b)) :
    (sepL l fun t => iprop(∃ f : Buf (Elt F) ((c : Thread nD τ).loc b), ((c : Thread nD τ).loc b) ↦[K t]{fullShare} f)) ⊢ held c b := by
  classical
  rw [sepL_set h.nodup]
  haveI : Nonempty (Buf (Elt F) ((c : Thread nD τ).loc b)) := ⟨f₀⟩
  refine (BI.bigSep_exists_pi _ fun t (f : Buf (Elt F) ((c : Thread nD τ).loc b)) => ((c : Thread nD τ).loc b) ↦[K t]{fullShare} f).trans ?_
  iintro ⟨%fs, H⟩
  have hu : l.toFinset.biUnion K = Finset.univ := Finset.eq_univ_iff_forall.mpr fun i => by
    obtain ⟨t, ht, hi⟩ := h.cover i
    exact Finset.mem_biUnion.mpr ⟨t, List.mem_toFinset.mpr ht, hi⟩
  ihave H := (pointsTo_biUnion_join l.toFinset K fs f₀ (fun t ht t' ht' hne => Finset.disjoint_left.mpr fun i hi hi' =>
    hne (h.apart i t (List.mem_toFinset.mp ht) t' (List.mem_toFinset.mp ht') hi hi'))) $$ H
  icases H with ⟨%g, -, H⟩
  rw [hu]
  iexists g; iexact H

/-! ### The cuts -/

abbrev l3 : List (Fin 2 × Fin 7 × Fin 2) := two.flatMap fun d => seven.flatMap fun s => two.map fun p => (d, s, p)
abbrev l24 : List (Fin 2 × Fin 4) := two.flatMap fun d => four.map fun j => (d, j)
abbrev l22 : List (Fin 2 × Fin 2) := two.flatMap fun d => two.map fun p => (d, p)
abbrev lout : List (Fin 2 × Fin 8 × Fin 4) := two.flatMap fun d => eight.flatMap fun h => four.map fun j => (d, h, j)

theorem mem_l3 (t) : t ∈ l3 := by revert t; decide
theorem mem_l24 (t) : t ∈ l24 := by revert t; decide
theorem mem_l22 (t) : t ∈ l22 := by revert t; decide
theorem mem_lout (t) : t ∈ lout := by revert t; decide

theorem cuts_snd (c : Dev nD) : Cuts c cc0_scratch2 l3 fun t => (slotV sndM t.1 t.2.1 t.2.2).view.set where
  nodup := by decide
  cover i := ⟨((i 0 : Fin 2), (i 1 : Fin 7), (i 2 : Fin 2)), mem_l3 _, by rw [set_snd, mem_slot]; exact ⟨rfl, rfl, rfl⟩⟩
  apart i t _ t' _ h h' := by
    rw [set_snd, mem_slot] at h h'
    exact Prod.ext (h.1.symm.trans h'.1) (Prod.ext (h.2.1.symm.trans h'.2.1) (h.2.2.symm.trans h'.2.2))

theorem cuts_rcv (c : Dev nD) : Cuts c cc0_scratch3 l3 fun t => (slotV rcvM t.1 t.2.1 t.2.2).view.set where
  nodup := by decide
  cover i := ⟨((i 0 : Fin 2), (i 1 : Fin 7), (i 2 : Fin 2)), mem_l3 _, by rw [set_rcv, mem_slot]; exact ⟨rfl, rfl, rfl⟩⟩
  apart i t _ t' _ h h' := by
    rw [set_rcv, mem_slot] at h h'
    exact Prod.ext (h.1.symm.trans h'.1) (Prod.ext (h.2.1.symm.trans h'.2.1) (h.2.2.symm.trans h'.2.2))

theorem cuts_col (c : Dev nD) : Cuts c cc0_scratch4 l24 fun t => (colV t.1 t.2).view.set where
  nodup := by decide
  cover i := ⟨((i 0 : Fin 2), (i 1 : Fin 4)), mem_l24 _, by rw [set_col, mem_col]; exact ⟨rfl, rfl⟩⟩
  apart i t _ t' _ h h' := by
    rw [set_col, mem_col] at h h'
    exact Prod.ext (h.1.symm.trans h'.1) (h.2.symm.trans h'.2)

theorem cuts_red (c : Dev nD) : Cuts c cc0_scratch0 l22 fun t => (rqV t.1 t.2).view.set where
  nodup := by decide
  cover i := by
    have hi : (i 1 : Fin 1024).val < 1024 := (i 1).isLt
    refine ⟨(⟨(i 1 : Fin 1024).val / 512, by omega⟩, ⟨(i 1 : Fin 1024).val / 256 % 2, by omega⟩), mem_l22 _, ?_⟩
    rw [set_rq, mem_rq]
    show 512 * ((i 1 : Fin 1024).val / 512) + 256 * ((i 1 : Fin 1024).val / 256 % 2) ≤ _ ∧ _ < 512 * ((i 1 : Fin 1024).val / 512) + 256 * ((i 1 : Fin 1024).val / 256 % 2) + 256
    omega
  apart i t _ t' _ h h' := by
    rw [set_rq, mem_rq] at h h'
    have h1 := t.2.isLt; have h2 := t'.2.isLt
    exact Prod.ext (Fin.ext (by omega)) (Fin.ext (by omega))

theorem cuts_sum (c : Dev nD) : Cuts c cc0_scratch1 two fun d => (sumV d).view.set where
  nodup := by decide
  cover i := by
    obtain ⟨d, hd⟩ := half_out (i 1 : Fin 1024).val (i 1).isLt
    exact ⟨d, by fin_cases d <;> decide, by rw [set_sum, mem_sum]; exact hd⟩
  apart i t _ t' _ h h' := by
    rw [set_sum, mem_sum] at h h'
    exact Fin.ext (by omega)

theorem cuts_out (c : Dev nD) : Cuts c cc0_stg0_0 lout fun t => (pieceV (outC c t.1 t.2.1 t.2.2)).view.set where
  nodup := by decide
  cover i := by
    have h0 : (i 0 : Fin 2048).val < 2048 := (i 0).isLt
    obtain ⟨d, hd⟩ := half_out (i 1 : Fin 1024).val (i 1).isLt
    obtain ⟨h, hh⟩ := rhoH_surj c d ⟨(i 0 : Fin 2048).val / 256, by omega⟩
    obtain ⟨j, hj⟩ := gamJ_surj c ⟨(i 0 : Fin 2048).val / 64 % 4, by omega⟩
    refine ⟨(d, h, j), mem_lout _, ?_⟩
    rw [set_out]; unfold outC; rw [mem_out]; dsimp only; rw [hh, hj]
    dsimp only
    exact ⟨by omega, hd⟩
  apart i t _ t' _ h h' := by
    obtain ⟨d, k, j⟩ := t
    obtain ⟨d', k', j'⟩ := t'
    rw [set_out] at h h'
    unfold outC at h h'
    rw [mem_out] at h h'
    dsimp only at h h'
    have e1 : d = d' := Fin.ext (by omega)
    subst e1
    have e2 : k = k' := rhoH_inj c d k k' (Fin.ext (by omega))
    have e3 : j = j' := gamJ_inj c j j' (Fin.ext (by omega))
    rw [e2, e3]

theorem cuts_rp (c : Dev nD) : Cuts c cc0_scratch0 l24 fun t => (rpieceV (redC c t.1 t.2)).view.set where
  nodup := by decide
  cover i := by
    have h0 : (i 0 : Fin 256).val < 256 := (i 0).isLt
    obtain ⟨d, hd⟩ := half_out (i 1 : Fin 1024).val (i 1).isLt
    obtain ⟨j, hj⟩ := gamJ_surj c ⟨(i 0 : Fin 256).val / 64, by omega⟩
    refine ⟨(d, j), mem_l24 _, ?_⟩
    rw [set_rp]; unfold redC; rw [mem_rp]; dsimp only; rw [hj]
    dsimp only
    exact ⟨by omega, hd⟩
  apart i t _ t' _ h h' := by
    obtain ⟨d, j⟩ := t
    obtain ⟨d', j'⟩ := t'
    rw [set_rp] at h h'
    unfold redC at h h'
    rw [mem_rp] at h h'
    dsimp only at h h'
    have e1 : d = d' := Fin.ext (by omega)
    have e3 : j = j' := gamJ_inj c j j' (Fin.ext (by omega))
    rw [e1, e3]

/-! ### Before the kernel -/

abbrev any (r : Reg) : Res := .mem (.any r)

theorem anys_snd (c : Dev nD) : sepL ((all3 .snd).map any) (RI m c) = sepL l3 fun t => anyV c (slotV sndM t.1 t.2.1 t.2.2) := by
  show sepL (l3.map fun t => any (.snd t.1 t.2.1 t.2.2)) (RI m c) = _
  rw [sepL_map]; rfl
theorem anys_rcv (c : Dev nD) : sepL ((all3 .rcv).map any) (RI m c) = sepL l3 fun t => anyV c (slotV rcvM t.1 t.2.1 t.2.2) := by
  show sepL (l3.map fun t => any (.rcv t.1 t.2.1 t.2.2)) (RI m c) = _
  rw [sepL_map]; rfl
theorem anys_rq (c : Dev nD) : sepL ((two.flatMap fun d => two.map fun p => Reg.rq d p).map any) (RI m c) = sepL l22 fun t => anyV c (rqV t.1 t.2) := by
  show sepL (l22.map fun t => any (.rq t.1 t.2)) (RI m c) = _
  rw [sepL_map]; rfl
theorem anys_rp (c : Dev nD) : sepL ((two.flatMap fun d => four.map fun j => Reg.rp d j).map any) (RI m c) = sepL l24 fun t => anyV c (rpieceV (redC c t.1 t.2)) := by
  show sepL (l24.map fun t => any (.rp t.1 t.2)) (RI m c) = _
  rw [sepL_map]; rfl
theorem anys_sumH (c : Dev nD) : sepL ((two.map Reg.sumH).map any) (RI m c) = sepL two fun d => anyV c (sumV d) := by
  rw [sepL_map, sepL_map]; rfl
theorem anys_out (c : Dev nD) : sepL ((two.flatMap fun d => eight.flatMap fun h => four.map fun j => Reg.out d h j).map any) (RI m c)
    = sepL lout fun t => anyV c (pieceV (outC c t.1 t.2.1 t.2.2)) := by
  show sepL (lout.map fun t => any (.out t.1 t.2.1 t.2.2)) (RI m c) = _
  rw [sepL_map]; rfl
/-- The landing buffer is the slots that change hands and the two that stay. -/
theorem anys_col (c : Dev nD) : (sepL l24 fun t => anyV (F := F) c (colV t.1 t.2))
    = iprop(sepL ((two.flatMap fun d => three.map fun b => Reg.col d b).map any) (RI m c) ∗ sepL two fun d => anyV c (colV d 0)) := by
  rw [sepL_perm (show l24.Perm ((two.flatMap fun d => three.map fun b => (d, up b)) ++ two.map fun d => (d, 0)) by decide), sepL_append, sepL_map, sepL_map, sepL_flatMap, sepL_flatMap]
  congr 1

theorem held_t (c : Dev nD) : held (F := F) c cc0_scratch5 = RI m c (any .t) := by
  show _ = anyV c tM
  unfold anyV; rw [View.set_whole]
theorem held_w (c : Dev nD) : held (F := F) c cc0_scratch6 = RI m c (any .w) := by
  show _ = anyV c wM
  unfold anyV; rw [View.set_whole]
theorem held_sum (c : Dev nD) : held (F := F) c cc0_scratch1 = RI m c (any .sumA) := by
  show _ = anyV c sumM
  unfold anyV; rw [View.set_whole]

/-- The buffers of the kernel, each holding anything. -/
def bufs (c : Dev nD) : sProp 𝕄 :=
  iprop(held c cc0_scratch0 ∗ held c cc0_scratch1 ∗ held c cc0_scratch2 ∗ held c cc0_scratch3 ∗ held c cc0_scratch4 ∗ held c cc0_scratch5 ∗ held c cc0_scratch6)

theorem mem_start (c : Dev nD) : iprop(bufs (F := F) c ∗ held c cc0_stg0_0) ⊢ iprop(sepL (regs0.map any) (RI m c) ∗ sepL two fun d => anyV c (colV d 0)) := by
  unfold regs0 bufs
  simp only [List.map_append, sepL_append]
  rw [show List.map any [Reg.t, Reg.w] = [any .t, any .w] from rfl, sepL_cons, sepL_single, ← held_t, ← held_w, anys_snd, anys_rcv, anys_rq, anys_sumH, anys_out]
  iintro ⟨⟨H0, H1, H2, H3, H4, H5, H6⟩, HO⟩
  ihave H0 := ((cuts_red c).start (F := F)) $$ H0
  ihave H1 := ((cuts_sum c).start (F := F)) $$ H1
  ihave H2 := ((cuts_snd c).start (F := F)) $$ H2
  ihave H3 := ((cuts_rcv c).start (F := F)) $$ H3
  ihave H4 := ((cuts_col c).start (F := F).trans (Entails.of_eq (anys_col m c))) $$ H4
  ihave HO := ((cuts_out c).start (F := F)) $$ HO
  icases H4 with ⟨H4, H4'⟩
  isplitr [H4']
  · isplitl [H2]; · iexact H2
    isplitl [H3]; · iexact H3
    isplitl [H4]; · iexact H4
    isplitl [H0]; · iexact H0
    isplitl [H1]; · iexact H1
    isplitl [HO]; · iexact HO
    isplitl [H5] <;> iassumption
  · iexact H4'

/-- The arguments, whole, are what the first copies read. -/
theorem args_start (c : Dev nD) : iprop(((c : Thread nD τ).loc main_arg0 ↦{fullShare} blkF m c) ∗ ((c : Thread nD τ).loc main_arg1 ↦{fullShare} wgtF m c))
    ⊢ sepL ((List.finRange 6).map fun i => .mem (.arg i)) (RI m c) := by
  have hq : ∀ i : Fin 4, ownV c tA (quarter fullShare.right i) (blkF m c) ⊢ RI m c (.mem (.arg ⟨i.val, by omega⟩)) := fun i => by
    show _ ⊢ argR m c _
    unfold argR
    rw [dif_pos i.isLt]
    unfold ownV
    rw [View.set_whole]
    refine (pointsTo_split_subset (Finset.subset_univ (chunkV (chC c (Fin.ofNat 2 (i.val / 2)) (Fin.ofNat 2 i.val) 0)).view.set)).1.trans ?_
    iintro ⟨H, -⟩
    iexact H
  rw [sepL_map, show List.finRange 6 = [0, 1, 2, 3, 4, 5] from rfl]
  simp only [sepL_cons, sepL_nil]
  iintro ⟨HA, HW⟩
  ihave HA := (pointsTo_share (PosShare.mem_left_op_right fullShare)).1 $$ HA
  icases HA with ⟨HL, HR⟩
  ihave HR := (Entails.of_eq ((show _ = ownV c tA fullShare.right (blkF m c) by unfold ownV; rw [View.set_whole]).trans (own_quarters c tA fullShare.right (blkF m c)))) $$ HR
  rw [show four = [0, 1, 2, 3] from rfl]
  simp only [sepL_cons, sepL_nil]
  icases HR with ⟨H0, H1, H2, H3, -⟩
  isplitl [H0]; · iapply (hq 0); iexact H0
  isplitl [H1]; · iapply (hq 1); iexact H1
  isplitl [H2]; · iapply (hq 2); iexact H2
  isplitl [H3]; · iapply (hq 3); iexact H3
  isplitl [HL]
  · iapply (Entails.of_eq (show _ = RI m c (.mem (.arg 4)) from ?_)) $$ HL
    show _ = ownV c tA fullShare.left (blkF m c)
    unfold ownV; rw [View.set_whole]
  isplitl [HW]
  · iapply (Entails.of_eq (show _ = RI m c (.mem (.arg 5)) from ?_)) $$ HW
    show _ = ownV c wA fullShare (wgtF m c)
    unfold ownV; rw [View.set_whole]
  iempintro

/-! ### After the kernel -/

theorem own_to_any (c : Dev nD) (r : Reg) : RI m c (.mem (.own r)) ⊢ RI m c (any r) := by
  show ownR m c r ⊢ anyR c r
  cases r <;> (unfold ownR anyR ownV anyV; iintro H; iexists _; iexact H)
theorem owns_any (c : Dev nD) (l : List Reg) : sepL (l.map fun r => Res.mem (.own r)) (RI m c) ⊢ sepL (l.map any) (RI m c) := by
  rw [sepL_map, sepL_map]; exact sepL_mono fun r _ => own_to_any m c r

/-- A device's own finished piece, of its shares. -/
theorem share_own (c : Dev nD) (d : Fin 2) : (sepL four fun i => RI m c (.mem (.share d i))) = RI m c (.mem (.own (.out d 0 0))) :=
  (own_quarters c (pieceV (outC c d 0 0)) fullShare (outF m)).symm

/-- The memory a device ends with. -/
def finMem : List Res :=
  (all3 .snd).map (fun r => .mem (.own r)) ++ ((all3 .rcv).map (fun r => .mem (.own r)) ++
    ((two.flatMap fun d => three.map fun b => Reg.col d b).map (fun r => .mem (.own r)) ++ ((two.flatMap fun d => four.map fun j => Reg.rp d j).map (fun r => .mem (.own r)) ++
    (.mem (.own .sumA) :: ((two.flatMap fun d => four.map fun i => .mem (.share d i)) ++
    ((two.flatMap fun d => eight.flatMap fun h => (four.filter fun j => ¬(h = 0 ∧ j = 0)).map fun j => .mem (.own (.out d h j))) ++ [.mem (.own .t), .mem (.own .w), .mem (.arg 4), .mem (.arg 5)]))))))
theorem final_eq : final = .doneB :: (allK.map (fun k => if live k then Res.done k else .pos k) ++ finMem) := rfl

/-- The pieces of the result, all of them, are the result. -/
theorem out_stop (c : Dev nD) : iprop(sepL (two.flatMap fun d => four.map fun i => Res.mem (.share d i)) (RI m c)
      ∗ sepL (two.flatMap fun d => eight.flatMap fun h => (four.filter fun j => ¬(h = 0 ∧ j = 0)).map fun j => Res.mem (.own (.out d h j))) (RI m c))
    = ((c : Thread nD τ).loc cc0_stg0_0 ↦{fullShare} outF m : sProp 𝕄) := by
  rw [sepL_flatMap, sepL_congr (fun d _ => (sepL_map _ four _).trans (share_own m c d)), ← sepL_map (fun d => Res.mem (.own (.out d 0 0))) two (RI m c), ← sepL_append,
    sepL_perm (show List.Perm _ (lout.map fun t => Res.mem (.own (.out t.1 t.2.1 t.2.2))) by decide +kernel), sepL_map, (cuts_out c).eq]
  rfl

theorem mem_stop (c : Dev nD) : iprop(sepL finMem (RI m c) ∗ sepL two fun d => anyV c (colV d 0))
    ⊢ iprop(bufs c ∗ ((c : Thread nD τ).loc cc0_stg0_0 ↦{fullShare} outF m) ∗ ((c : Thread nD τ).loc main_arg0 ↦{fullShare.left} blkF m c) ∗ ((c : Thread nD τ).loc main_arg1 ↦{fullShare} wgtF m c)) := by
  unfold finMem bufs
  rw [sepL_append, sepL_append, sepL_append, sepL_append, sepL_cons, sepL_append, sepL_append, sepL_cons (Res.mem (.own .t)), sepL_cons (Res.mem (.own .w)),
    sepL_cons (Res.mem (.arg 4)), sepL_single (Res.mem (.arg 5))]
  iintro ⟨⟨H2, H3, H4, H0, H1, Hs, Ho, H5, H6, HA, HW⟩, H4'⟩
  ihave H0 := ((owns_any m c (two.flatMap fun d => four.map fun j => Reg.rp d j)).trans ((Entails.of_eq (anys_rp m c)).trans ((cuts_rp c).stop (redF m c)))) $$ H0
  ihave H1 := ((own_to_any m c .sumA).trans (Entails.of_eq (held_sum m c).symm)) $$ H1
  ihave H2 := ((owns_any m c _).trans ((Entails.of_eq (anys_snd m c)).trans ((cuts_snd c).stop (sndF m c)))) $$ H2
  ihave H3 := ((owns_any m c _).trans ((Entails.of_eq (anys_rcv m c)).trans ((cuts_rcv c).stop (rcvF m c)))) $$ H3
  ihave H4 := (owns_any m c (two.flatMap fun d => three.map fun b => Reg.col d b)) $$ H4
  ihave H4 := ((Entails.of_eq (anys_col m c).symm).trans ((cuts_col c).stop (colF m c))) $$ [H4 H4']
  · isplitl [H4]; · iexact H4
    iexact H4'
  ihave H5 := ((own_to_any m c .t).trans (Entails.of_eq (held_t m c).symm)) $$ H5
  ihave H6 := ((own_to_any m c .w).trans (Entails.of_eq (held_w m c).symm)) $$ H6
  ihave Ho := (Entails.of_eq (out_stop m c)) $$ [Hs Ho]
  · isplitl [Hs] <;> iassumption
  isplitr [Ho HA HW]
  · isplitl [H0]; · iexact H0
    isplitl [H1]; · iexact H1
    isplitl [H2]; · iexact H2
    isplitl [H3]; · iexact H3
    isplitl [H4]; · iexact H4
    isplitl [H5] <;> iassumption
  isplitl [Ho]; · iexact Ho
  isplitl [HA]
  · iapply (Entails.of_eq (show RI m c (.mem (.arg 4)) = _ from ?_)) $$ HA
    show ownV c tA fullShare.left (blkF m c) = _
    unfold ownV; rw [View.set_whole]
  · iapply (Entails.of_eq (show RI m c (.mem (.arg 5)) = _ from ?_)) $$ HW
    show ownV c wA fullShare (wgtF m c) = _
    unfold ownV; rw [View.set_whole]

end Cert.Ring

end
-- ==== Proof.Mach.lean ====
/-
  The rules the steps are proved by (a copy within a device, a transfer to another device, a wait), and the run of a list
  of steps from the run of each.
-/
module

public import proofs.«01_k».proof.Proof.Sched

@[expose] public section

set_option synthInstance.maxSize 4096
set_option maxRecDepth 20000

noncomputable section

namespace Cert.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-! ### What every device knows -/

/-- The kernel's semaphores on a device: the barrier and the DMA semaphores. -/
abbrev CI : Type := Option (Fin 206)
def csem : CI → SemLoc sig
  | none => .reg barS
  | some n => .dma (semN n)
abbrev kcell (ci : Dev nD × CI) : GSem nD τ sig := ((ci.1 : Thread nD τ), csem ci.2)

/-- The ranks. -/
def ranks : sProp 𝕄 := levAts L lv
instance ranks_persistent : BI.Persistent (ranks (F := F)) := by unfold ranks; infer_instance
theorem ranks_wait (c : Dev nD) (sm : SemLoc sig) (xs : List Step) (ha : above (lv ((c : Thread nD τ), sm) ()) xs = true) :
    ranks (F := F) ⊢ MayWait (c : Thread nD τ) sm () (oweL c xs) := mayWait c sm xs ha

/-- Every semaphore's invariant, that its round has been reached, and the ranks. -/
def Ctx (K : Dev nD × CI → ℕ) : sProp 𝕄 :=
  iprop((bigSep Finset.univ fun ci : Dev nD × CI => cellInv ER (sched m) (K ci) (kcell ci))
    ∗ (bigSep Finset.univ fun ci : Dev nD × CI => reached ER (kcell ci) 0) ∗ ranks)

instance Ctx_persistent (K : Dev nD × CI → ℕ) : BI.Persistent (Ctx m K) := by unfold Ctx; infer_instance

theorem inv_at (K : Dev nD × CI → ℕ) (ci : Dev nD × CI) :
    (bigSep Finset.univ fun ci : Dev nD × CI => (cellInv ER (sched m) (K ci) (kcell ci) : sProp 𝕄)) ⊢ cellInv ER (sched m) (K ci) (kcell ci) :=
  bigSep_elim (Finset.mem_univ ci)
theorem reached_at (ci : Dev nD × CI) :
    (bigSep Finset.univ fun ci : Dev nD × CI => (reached ER (kcell ci) 0 : sProp 𝕄)) ⊢ reached ER (kcell ci) 0 :=
  bigSep_elim (Finset.mem_univ ci)
theorem ctx_inv (K : Dev nD × CI → ℕ) (c : Dev nD) (k : Ck) : Ctx m K ⊢ cellInv ER (sched m) (K (c, some (num k))) (dmaC c k) := by
  unfold Ctx; iintro ⟨H, -, -⟩; iapply (inv_at m K (c, some (num k))); iexact H
theorem ctx_invB (K : Dev nD × CI → ℕ) (c : Dev nD) : Ctx m K ⊢ cellInv ER (sched m) (K (c, none)) (barC c) := by
  unfold Ctx; iintro ⟨H, -, -⟩; iapply (inv_at m K (c, none)); iexact H
theorem ctx_reached (K : Dev nD × CI → ℕ) (c : Dev nD) (k : Ck) : Ctx m K ⊢ reached ER (dmaC c k) 0 := by
  unfold Ctx; iintro ⟨-, H, -⟩; iapply (reached_at (F := F) (c, some (num k))); iexact H
theorem ctx_reachedB (K : Dev nD × CI → ℕ) (c : Dev nD) : Ctx m K ⊢ reached ER (barC c) 0 := by
  unfold Ctx; iintro ⟨-, H, -⟩; iapply (reached_at (F := F) (c, none)); iexact H
theorem ctx_lev (K : Dev nD × CI → ℕ) : Ctx m K ⊢ ranks := by
  unfold Ctx; iintro ⟨-, -, H⟩; iexact H

/-- What a device owes, whatever it has waited for. -/
def ow (c : Dev nD) (O : CellTallies nD τ sig Unit) : sProp 𝕄 := iprop(∃ W, owes (c : Thread nD τ) O W)

theorem RI_tok (c : Dev nD) (k : Ck) : RI m c (.tok k) = dutyTok ER (dmaC (tgt k c) k) 0 0 := rfl
theorem RI_crd (c : Dev nD) (k : Ck) : RI m c (.crd k) = cred (tallyAt (dmaC c k) () (amt k)) := rfl
theorem RI_pos (c : Dev nD) (k : Ck) : RI m c (.pos k) = atPos ER (dmaC c k) 0 ∅ 0 := rfl
theorem RI_done (c : Dev nD) (k : Ck) : RI m c (.done k) = atPos ER (dmaC c k) 1 ∅ 0 := rfl

/-! ### Writing what a region is to hold -/

theorem write_final (c : Dev nD) {sp : Space} {s : Shape} (v : View sig .tc sp s .f32) (f g : Buf (Elt F) (v.loc (c : Thread nD τ))) (w : s.Idx → Elt F .f32)
    (h : v.read (Elt F) g = w) (i) (hi : i ∈ v.set) : v.write (Elt F) f w Finset.univ i = g i := by
  obtain ⟨x, -, rfl⟩ := Finset.mem_map.mp hi
  subst h
  rw [View.write_emb_of_mem _ _ (Finset.mem_univ x), View.read_apply, cast_cast, cast_eq]

theorem write_own (c : Dev nD) {sp : Space} {s : Shape} (M : Memref sig .tc sp s .f32) (q : PosShare TreeShare)
    (f g : Buf (Elt F) (M.view.loc (c : Thread nD τ))) (w : s.Idx → Elt F .f32) (h : M.view.read (Elt F) g = w) :
    (M.view.loc (c : Thread nD τ) ↦[M.view.set]{q} (M.view.write (Elt F) f w Finset.univ) : sProp 𝕄) = ownV c M q g :=
  pointsTo_congr fun i hi => write_final c M.view f g w h i hi

/-! ### The rules -/

section Rules

/-- The weakest precondition of a program on a device. -/
abbrev wpD {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable {α : Type} (K : Dev nD × CI → ℕ) (c : Dev nD)

/-- A copy within the device. -/
theorem copy_rule {sp sp' : Space} {s : Shape} (src : Memref sig .tc sp s .f32) (dst : Memref sig .tc sp' s .f32) (k : Ck) (q : DmaSem sig)
    {hsrc : src.view.WordExact} {hdst : dst.view.WordExact} {hsem : DmaTarget.Typed (nD := nD) (τ := τ) (p := .tc) sp (.dma q) (.here dst)}
    {kt : PUnit → Prog (TpuEff nD τ sig (Elt F) Λ₀ .tc) α} {Q : α → sProp 𝕄}
    (qs : PosShare TreeShare) (fs : Buf (Elt F) (src.view.loc (c : Thread nD τ))) (g : Buf (Elt F) (dst.view.loc (c : Thread nD τ)))
    (hq : q = semK k) (hN : dst.view.dmaCredit = amt k) (hk : live k = true) (ht : tgt k c = c)
    (hr : dst.view.read (Elt F) g = src.view.read (Elt F) fs)
    (hpay : iprop(ownV c dst fullShare g ∗ ownV c src qs fs) ⊢ sepL (pay k) (MR m c)) :
    iprop(Ctx m K ∗ RI m c (.tok k) ∗ ownV c src qs fs ∗ anyV c dst)
      ⊢ iprop((RI m c (.crd k) -∗ wpD c (kt ⟨⟩) Q) -∗ wpD c (.op (.enqueueDma src (.here dst) (.dma q) hsrc hdst hsem) kt) Q) := by
  subst hq
  unfold anyV
  rw [RI_tok, RI_crd, ht]
  iintro ⟨#HC, Ht, Hs, ⟨%fd, Hd⟩⟩
  iapply (Rounds.wp_copy_pointsTo 𝒱₀ ER (sched m) (c : Thread nD τ) none (sem := .dma (semK k)) (κ := K (c, some (num k))) (r := 0) (d := 0) (q := qs) (fs := fs) (fd := fd)
    (by rw [duties_live m c k hk]; exact Finset.mem_singleton_self _) () (amt k) hN (amount_dma m c k 0)
    (by rw [payload_dma]; exact (sep_mono_left (Entails.of_eq (write_own c dst fullShare fd g _ hr))).trans hpay))
  isplitr; · iapply (ctx_inv m K c k); iexact HC
  isplitl [Hs]; · unfold ownV; iexact Hs
  isplitl [Hd]; · iexact Hd
  isplitl [Ht]; · iexact Ht
  iapply (ctx_reached m K c k); iexact HC

/-- A transfer to another device. -/
theorem send_rule {sp sp' : Space} {s : Shape} (src : Memref sig .tc sp s .f32) (c' c'' : Dev nD) (hc : c' = c'')
    (dst : Memref sig .tc sp' s .f32) (k₁ k₂ : Ck) (q₁ q₂ : DmaSem sig)
    {hsc : (dst : Memref sig (Dev.tc c' : Thread nD τ).2.kind sp' s .f32).view.ref.isScScratch = false}
    {hsrc : src.view.WordExact} {hdst : dst.view.WordExact}
    {hsem : DmaTarget.Typed sp (.dma q₂) (.remote (Dev.tc c' : Thread nD τ) dst (.dma q₁) hsc)}
    {kt : PUnit → Prog (TpuEff nD τ sig (Elt F) Λ₀ .tc) α} {Q : α → sProp 𝕄}
    (qs : PosShare TreeShare) (fs : Buf (Elt F) (src.view.loc (c : Thread nD τ))) (g : Buf (Elt F) (dst.view.loc (c'' : Thread nD τ)))
    (hq₁ : q₁ = semK k₁) (hq₂ : q₂ = semK k₂) (hN : dst.view.dmaCredit = amt k₂) (hN' : amt k₁ = amt k₂) (hk₁ : live k₁ = true) (hk₂ : live k₂ = true)
    (ht₁ : tgt k₁ c = c) (ht₂ : tgt k₂ c = c'')
    (hr : dst.view.read (Elt F) g = src.view.read (Elt F) fs)
    (hpay₁ : ownV c src qs fs ⊢ sepL (pay k₁) (MR m c)) (hpay₂ : ownV c'' dst fullShare g ⊢ sepL (pay k₂) (MR m c''))
    (x : Step) (xs : List Step) (hx : owed x = some (.inr k₂)) :
    iprop(Ctx m K ∗ RI m c (.tok k₁) ∗ RI m c (.tok k₂) ∗ ownV c src qs fs ∗ anyV c'' dst ∗ ow c (oweL c (x :: xs)))
      ⊢ iprop(((RI m c (.crd k₁) ∗ ow c (oweL c xs)) -∗ wpD c (kt ⟨⟩) Q)
          -∗ wpD c (.op (.enqueueDma src (.remote (Dev.tc c' : Thread nD τ) dst (.dma q₁) hsc) (.dma q₂) hsrc hdst hsem) kt) Q) := by
  subst hq₁ hq₂ hc
  have hO : oweL c (x :: xs) = oweL c xs + tallyAt (dmaC c' k₂) () (amt k₂) := by
    rw [oweL_cons]; unfold owe; rw [hx]; unfold oweO; dsimp only; rw [ht₂]
  unfold anyV ow
  rw [RI_tok, RI_tok, RI_crd, ht₁, ht₂]
  iintro ⟨#HC, Ht₁, Ht₂, Hs, ⟨%fd, Hd⟩, ⟨%W, HO⟩⟩ Hk
  iapply (Rounds.wp_send_pointsTo 𝒱₀ ER (sched m) (c : Thread nD τ) none (sS := .dma (semK k₁)) (sem := .dma (semK k₂)) (κ₁ := K (c, some (num k₁))) (κ₂ := K (c', some (num k₂)))
    (r₁ := 0) (r₂ := 0) (d₁ := 0) (d₂ := 0) (q := qs) (fs := fs) (fd := fd)
    (by rw [duties_live m c k₁ hk₁]; exact Finset.mem_singleton_self _) (by rw [duties_live m c' k₂ hk₂]; exact Finset.mem_singleton_self _)
    () () (amt k₂) hN ((amount_dma m c k₁ 0).trans hN') (amount_dma m c' k₂ 0) (O₀ := oweL c (x :: xs)) (oweL c xs) hO (W := W)
    (by rw [payload_dma]; exact hpay₁)
    (by rw [payload_dma]; exact (Entails.of_eq (write_own c' dst fullShare fd g _ hr)).trans hpay₂)) $$ [Ht₁ Ht₂ Hs Hd HO]
  · isplitr; · iapply (ctx_inv m K c k₁); iexact HC
    isplitr; · iapply (ctx_inv m K c' k₂); iexact HC
    isplitl [Hs]; · unfold ownV; iexact Hs
    isplitl [Hd]; · iexact Hd
    isplitl [HO]; · iexact HO
    isplitl [Ht₁]; · iexact Ht₁
    isplitr; · iapply (ctx_reached m K c k₁); iexact HC
    isplitl [Ht₂]; · iexact Ht₂
    iapply (ctx_reached m K c' k₂); iexact HC
  iintro ⟨Hc, HO⟩
  iapply Hk
  isplitl [Hc]; · rw [hN']; iexact Hc
  iexists W; iexact HO

/-- A wait on a DMA semaphore. -/
theorem wait_rule {w : TpuEff nD τ sig (Elt F) Λ₀ .tc PUnit} (k : Ck) (q : DmaSem sig) (N : ℕ)
    (hw : ∀ K' : PUnit → sProp 𝕄, wpE (defs₀ (F := F)) 𝒱₀ (c : Thread nD τ) none Set.univ w K' = waitSpec (c : Thread nD τ) Set.univ (.dma q) N K')
    {kt : PUnit → Prog (TpuEff nD τ sig (Elt F) Λ₀ .tc) α} {Q : α → sProp 𝕄}
    (hq : q = semK k) (hN : N = amt k) (hk : live k = true) (xs : List Step) (ha : above (rank k) xs = true) :
    iprop(Ctx m K ∗ RI m c (.pos k) ∗ RI m c (.crd k) ∗ ow c (oweL c xs))
      ⊢ iprop(((RI m c (.done k) ∗ sepL (pay k) (MR m c) ∗ ow c (oweL c xs)) -∗ wpD c (kt ⟨⟩) Q) -∗ wpD c (.op w kt) Q) := by
  subst hq hN
  have hmw : Ctx m K ⊢ MayWait (c : Thread nD τ) (.dma (semK k)) () (oweL c xs) :=
    (ctx_lev m K).trans <| ranks_wait c (.dma (semK k)) xs ((congrArg (fun n => above n xs) (lv_dma c k)).trans ha)
  unfold ow
  rw [RI_pos, RI_crd, RI_done]
  iintro ⟨#HC, Hp, Hc, ⟨%W, HO⟩⟩ Hk
  iapply (Rounds.wp_wait_rest_token 𝒱₀ ER (sched m) (c : Thread nD τ) none (κ := K (c, some (num k)))
    hw (Set.mem_univ _) () (O := oweL c xs) (W := W) (R := 0) (m := 0) (T := ∅) ((Nat.zero_add _).trans (expect_dma m c k hk).symm)) $$ [Hp Hc HO]
  · isplitr; · iapply (ctx_inv m K c k); iexact HC
    isplitl [Hc]; · iexact Hc
    isplitl [HO]; · iexact HO
    isplitr
    · iapply hmw; iexact HC
    iexact Hp
  iintro ⟨HO, Hp, -, Hpay⟩
  iapply Hk
  isplitl [Hp]; · iexact Hp
  isplitl [Hpay]; · iapply (Entails.of_eq (rest_dma m c k hk)); iexact Hpay
  iexists _; iexact HO

end Rules

/-! ### The run of a list of steps -/

/-- The run of one step, whatever follows it. -/
def StepOK (x : Step) : Prop :=
  ∀ (K : Dev nD × CI → ℕ) (c : Dev nD) (xs : List Step) (_ : rankOK x xs = true) (kt : PUnit → Pg F) (Q : PUnit → sProp 𝕄),
    iprop(Ctx m K ∗ sepL (need x) (RI m c) ∗ ow c (oweL c (x :: xs)))
      ⊢ iprop(((sepL (give x) (RI m c) ∗ ow c (oweL c xs)) -∗ wpD c (kt ⟨⟩) Q)
          -∗ wpD c (frag c x >>= kt) Q)

theorem takeAll_sep (Φ : Res → sProp 𝕄) : ∀ (rs σ υ : List Res), takeAll rs σ = some υ → sepL σ Φ = iprop(sepL rs Φ ∗ sepL υ Φ)
  | [], σ, υ, h => by
    have : σ = υ := Option.some.inj h
    subst this; rw [sepL_nil]; exact (equiv_iff.mp BI.emp_sep).symm
  | r :: rs, σ, υ, h => by
    unfold takeAll at h
    by_cases hr : r ∈ σ
    · rw [if_pos hr] at h
      rw [sepL_perm (List.perm_cons_erase hr), sepL_cons, takeAll_sep Φ rs _ υ h, sepL_cons]
      exact (equiv_iff.mp ⟨BI.sep_assoc, BI.sep_assoc'⟩).symm
    · rw [if_neg hr] at h; cases h

theorem run_steps (hok : ∀ x : Step, StepOK m x) (K : Dev nD × CI → ℕ) (c : Dev nD) :
    ∀ (xs : List Step) (σ ω : List Res), run xs σ = some ω → ∀ Q : PUnit → sProp 𝕄,
      iprop(Ctx m K ∗ sepL σ (RI m c) ∗ ow c (oweL c xs) ∗ ((sepL ω (RI m c) ∗ ow c (oweL c [])) -∗ Q ⟨⟩))
        ⊢ wpD c (runSteps c xs) Q
  | [], σ, ω, h, Q => by
    have : σ = ω := Option.some.inj h
    subst this
    show _ ⊢ wp _ _ _ (Prog.ret ⟨⟩) Q
    rw [wp_ret]
    iintro ⟨-, Hs, HO, Hk⟩
    imodintro
    iapply Hk
    isplitl [Hs] <;> iassumption
  | x :: xs, σ, ω, h, Q => by
    unfold run at h
    by_cases hrk : rankOK x xs = true
    · rw [if_pos hrk] at h
      cases ht : takeAll (need x) σ with
      | none => rw [ht] at h; cases h
      | some υ =>
        rw [ht] at h
        rw [takeAll_sep (RI m c) _ _ _ ht]
        show _ ⊢ wp _ _ _ (frag c x >>= fun _ => runSteps c xs) Q
        iintro ⟨#HC, ⟨Hn, Hr⟩, HO, Hk⟩
        iapply (hok x K c xs hrk (fun _ => runSteps c xs) Q) $$ [Hn HO]
        · isplitr; · iexact HC
          isplitl [Hn] <;> iassumption
        iintro ⟨Hg, HO⟩
        iapply (run_steps hok K c xs (give x ++ υ) ω h Q)
        isplitr; · iexact HC
        isplitl [Hg Hr]
        · rw [sepL_append]; isplitl [Hg] <;> iassumption
        isplitl [HO]; · iexact HO
        iexact Hk
    · rw [if_neg hrk] at h; cases h

end Cert.Ring

end
-- ==== Proof.Ghost.lean ====
/-
  What the launch deals out: the semaphores' invariants, the tokens of the duties, the credits; and the semaphores at
  zero when the kernel is done.
-/
module

public import proofs.«01_k».proof.Proof.Mach

@[expose] public section

set_option synthInstance.maxSize 4096
set_option maxRecDepth 20000

noncomputable section

namespace Cert.Ring

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ### The semaphores of the launch -/

theorem csem_inj : Function.Injective csem := by
  rintro (_ | n) (_ | n') h
  · rfl
  · cases h
  · cases h
  · exact congrArg some (semN_inj (SemLoc.dma.inj h))
theorem kcell_inj : Function.Injective (kcell : Dev nD × CI → GSem nD τ sig) := by
  rintro ⟨c, i⟩ ⟨c', i'⟩ h
  have h1 : c = c' := congrArg (fun g : GSem nD τ sig => g.1.1) h
  have h2 : i = i' := csem_inj (congrArg Prod.snd h)
  rw [h1, h2]
def kCells : Finset (GSem nD τ sig) := Finset.univ.map ⟨kcell, kcell_inj⟩

/-- The duties: the five signals of a barrier, the one of a DMA semaphore. -/
abbrev TI : Type := Fin 5 ⊕ Fin 206
def tokOf (ci : Dev nD × TI) : GSem nD τ sig × ℕ × Fin 5 := match ci.2 with
  | .inl i => (barC ci.1, 0, i)
  | .inr n => (kcell (ci.1, some n), 0, 0)
theorem tokOf_inj : Function.Injective tokOf := by
  rintro ⟨c, i⟩ ⟨c', i'⟩ h
  have h1 : c = c' := by
    have := congrArg (fun x : GSem nD τ sig × ℕ × Fin 5 => x.1.1.1) h
    rcases i with i | i <;> rcases i' with i' | i' <;> exact this
  subst h1
  have h2 := congrArg (fun x : GSem nD τ sig × ℕ × Fin 5 => (x.1.2, x.2.2)) h
  rcases i with i | i <;> rcases i' with i' | i'
  · rw [show i = i' from congrArg Prod.snd h2]
  · cases congrArg Prod.fst h2
  · cases congrArg Prod.fst h2
  · rw [show i = i' from semN_inj (SemLoc.dma.inj (congrArg Prod.fst h2))]
def kToks : Finset (GSem nD τ sig × ℕ × Fin 5) := Finset.univ.map ⟨tokOf, tokOf_inj⟩

def u₀ : UU := (initOf (Pipeline.cells cfgs cellOf_inj) (Pipeline.launchToks cfgs cellOf_inj), initOf kCells kToks)

def tokAt (c : Dev nD) (i : TI) : sProp 𝕄 := dutyTok ER (tokOf (c, i)).1 (tokOf (c, i)).2.1 (tokOf (c, i)).2.2

/-- What a device is dealt for its own semaphores. -/
def dealt (c : Dev nD) : sProp 𝕄 :=
  iprop((bigSep Finset.univ fun k : CI => roundState ER (sched m) (kcell (c, k)) 0)
    ∗ (bigSep Finset.univ fun k : CI => atPos ER (kcell (c, k)) 0 ∅ 0) ∗ (bigSep Finset.univ fun k : CI => reached ER (kcell (c, k)) 0) ∗ bigSep Finset.univ (tokAt c))

theorem deal : BI.own (ER (initOf kCells kToks)) ⊢ (|==> bigSep Finset.univ (dealt m) : sProp 𝕄) := by
  have hX (Φ : GSem nD τ sig → sProp 𝕄) : bigSep kCells Φ = bigSep Finset.univ fun c : Dev nD => bigSep Finset.univ fun k : CI => Φ (kcell (c, k)) := by
    unfold kCells; rw [bigSep_map, bigSep_univ_prod]; rfl
  have hT : bigSep kToks (fun x => (dutyTok ER x.1 x.2.1 x.2.2 : sProp 𝕄)) = bigSep Finset.univ fun c : Dev nD => bigSep Finset.univ (tokAt c) := by
    unfold kToks; rw [bigSep_map, bigSep_univ_prod]; rfl
  iintro HX
  imod (Rounds.fund ER (sched m) kCells kToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat]; · iexact Hat
  isplitl [Hr]; · iexact Hr
  iexact Htok

/-! ### The semaphores' counters -/

abbrev osem : Fin 206 → SemLoc sig := fun n => .dma (semN n)
theorem ownSemFacts : Pipeline.OwnSemFacts cfg0.spec osem := by decide +kernel

abbrev osems (c : Dev nD) : sProp 𝕄 := Pipeline.ownSems0 (Ix := Unit) (Name := ℕ) (U := UU) (Lvl := ℕ) (Val := Elt F) (τ := τ) osem c

/-- The barrier is the launch's only other semaphore. -/
theorem usems_eq (c : Dev nD) : (unscopedSems0 c : sProp 𝕄) = semVal (barC c) 0 := by
  unfold unscopedSems0; rw [bigSep_eq_bigSepL_of_eq [SemLoc.reg barS] (by decide +kernel) (by decide)]; rfl

theorem bigSep_CI (Φ : CI → sProp 𝕄) : bigSep Finset.univ Φ = iprop(Φ none ∗ bigSep Finset.univ fun n : Fin 206 => Φ (some n)) := by
  rw [bigSep_univ_equiv (Equiv.optionEquivSumPUnit.{0, 0} (Fin 206)).symm, bigSep_univ_sum, show (Finset.univ : Finset PUnit) = {PUnit.unit} from rfl, bigSep_singleton]
  exact equiv_iff.mp ⟨BI.sep_comm, BI.sep_comm⟩

theorem alloc_at (c : Dev nD) : iprop(osems c ∗ unscopedSems0 c ∗ dealt m c)
    ⊢ |={Set.univ}=> iprop((bigSep Finset.univ fun k : CI => iprop(∃ κ : ℕ, cellInv ER (sched m) κ (kcell (c, k))))
          ∗ (bigSep Finset.univ fun k : CI => atPos ER (kcell (c, k)) 0 ∅ 0) ∗ (bigSep Finset.univ fun k : CI => reached ER (kcell (c, k)) 0) ∗ bigSep Finset.univ (tokAt c)) := by
  unfold dealt
  iintro ⟨Hos, Hus, Hst, Hat⟩
  ihave Hv := (show iprop(unscopedSems0 c ∗ osems c) ⊢ (bigSep Finset.univ fun k : CI => semVal (kcell (c, k)) 0 : sProp 𝕄) from
    Entails.of_eq (by rw [usems_eq, bigSep_CI]; rfl)) $$ [Hus Hos]
  · isplitl [Hus] <;> iassumption
  imod (show iprop((bigSep Finset.univ fun k : CI => semVal (kcell (c, k)) 0) ∗ bigSep Finset.univ fun k : CI => roundState ER (sched m) (kcell (c, k)) 0)
      ⊢ (|={Set.univ}=> bigSep Finset.univ fun k : CI => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv] <;> iassumption

/-! ### The tokens, dealt to the devices that pay -/

/-- The device that pays. -/
def payer : Ck → Dev nD → Dev nD
  | .p1r d _ _, c => prv d c
  | .p2r _ b, c => cz (up b) c
  | .p3r _ b, c => cz (up b) c
  | .p4r d _ _, c => prv d c
  | _, c => c
theorem payer_tgt (k : Ck) (c : Dev nD) : payer k (tgt k c) = c := by
  cases k with
  | p1r d s p => exact prv_nb d c
  | p4r d h j => exact prv_nb d c
  | p2r d b => exact cz_up_dn b c
  | p3r d b => exact cz_up_dn b c
  | _ => rfl
theorem tgt_payer (k : Ck) (c : Dev nD) : tgt k (payer k c) = c := by
  cases k with
  | p1r d s p => exact nb_prv d c
  | p4r d h j => exact nb_prv d c
  | p2r d b => exact cz_dn_up b c
  | p3r d b => exact cz_dn_up b c
  | _ => rfl

/-- The device whose semaphore a duty is on. -/
def paid : TI → Dev nD ≃ Dev nD
  | .inl i => ⟨sigTo i, sigFrom i, sigFrom_to i, sigTo_from i⟩
  | .inr n => ⟨tgt (ck n), payer (ck n), payer_tgt (ck n), tgt_payer (ck n)⟩

theorem toks_dealt : (bigSep Finset.univ fun c : Dev nD => bigSep Finset.univ (tokAt (F := F) c))
    = bigSep Finset.univ fun c : Dev nD => bigSep Finset.univ fun i : TI => tokAt (paid i c) i := by
  rw [bigSep_univ_comm, bigSep_univ_comm (fun (c : Dev nD) (i : TI) => tokAt (paid i c) i)]
  exact bigSep_congr fun i _ => bigSep_univ_equiv (paid i) fun c => tokAt c i

theorem sepL_fin (n : ℕ) (Φ : Fin n → sProp 𝕄) : sepL (List.finRange n) Φ = bigSep Finset.univ Φ := by
  rw [sepL_set (List.nodup_finRange n), List.toFinset_finRange]
theorem sepL_allK (f : Ck → Res) (Φ : Res → sProp 𝕄) : sepL (allK.map f) Φ = bigSep Finset.univ fun n : Fin 206 => Φ (f (ck n)) := by
  unfold allK; rw [sepL_map, sepL_map, sepL_fin]

/-- The positions and the tokens a device starts with. -/
def ghosts : List Res := .posB :: ((List.finRange 5).map .tokB ++ (allK.map .tok ++ allK.map .pos))

theorem cell_ck (c : Dev nD) (n : Fin 206) : dmaC c (ck n) = kcell (c, some n) := by
  show ((c : Thread nD τ), SemLoc.dma (semN (num (ck n)))) = ((c : Thread nD τ), SemLoc.dma (semN n))
  rw [num_ck]

theorem shuffle (P Q R S : sProp 𝕄) : iprop(P ∗ Q ∗ R ∗ S) = iprop((P ∗ S) ∗ Q ∗ R) := by
  have h1 : iprop(P ∗ Q ∗ R ∗ S) ⊢ iprop((P ∗ S) ∗ Q ∗ R) := by
    iintro ⟨H1, H2, H3, H4⟩
    isplitl [H1 H4] <;> [(isplitl [H1] <;> iassumption); (isplitl [H2] <;> iassumption)]
  have h2 : iprop((P ∗ S) ∗ Q ∗ R) ⊢ iprop(P ∗ Q ∗ R ∗ S) := by
    iintro ⟨⟨H1, H4⟩, H2, H3⟩
    isplitl [H1]; · iexact H1
    isplitl [H2]; · iexact H2
    isplitl [H3] <;> iassumption
  exact equiv_iff.mp ⟨h1, h2⟩

theorem ghosts_eq (c : Dev nD) : sepL ghosts (RI m c)
    = iprop((bigSep Finset.univ fun k : CI => atPos ER (kcell (c, k)) 0 ∅ 0) ∗ bigSep Finset.univ fun i : TI => tokAt (paid i c) i) := by
  unfold ghosts
  rw [sepL_cons, sepL_append, sepL_append, sepL_allK, sepL_allK, sepL_map, sepL_fin, bigSep_CI, bigSep_univ_sum,
    bigSep_congr (s := Finset.univ) (Φ := fun n : Fin 206 => RI m c (.pos (ck n))) (Ψ := fun n => atPos ER (kcell (c, some n)) 0 ∅ 0) fun n _ => by rw [RI_pos, cell_ck],
    bigSep_congr (s := Finset.univ) (Φ := fun n : Fin 206 => RI m c (.tok (ck n))) (Ψ := fun n => tokAt (paid (.inr n) c) (.inr n)) fun n _ => by rw [RI_tok, cell_ck]; rfl]
  exact shuffle _ _ _ _

/-- What every device knows, but for the ranks. -/
def Recs (K : Dev nD × CI → ℕ) : sProp 𝕄 :=
  iprop((bigSep Finset.univ fun ci : Dev nD × CI => cellInv ER (sched m) (K ci) (kcell ci)) ∗ (bigSep Finset.univ fun ci : Dev nD × CI => reached ER (kcell ci) 0))
instance Recs_persistent (K : Dev nD × CI → ℕ) : BI.Persistent (Recs m K) := by unfold Recs; infer_instance
theorem Ctx_intro (K : Dev nD × CI → ℕ) : iprop(Recs m K ∗ ranks) ⊢ Ctx m K := by
  unfold Recs Ctx
  iintro ⟨⟨H1, H2⟩, H3⟩
  isplitl [H1]; · iexact H1
  isplitl [H2] <;> iassumption

def given (c : Dev nD) : sProp 𝕄 := iprop(∃ K, Recs m K ∗ sepL ghosts (RI m c))

theorem regroup : (bigSep Finset.univ fun c : Dev nD => iprop((bigSep Finset.univ fun k : CI => iprop(∃ κ : ℕ, cellInv ER (sched m) κ (kcell (c, k))))
          ∗ (bigSep Finset.univ fun k : CI => atPos ER (kcell (c, k)) 0 ∅ 0) ∗ (bigSep Finset.univ fun k : CI => reached ER (kcell (c, k)) 0) ∗ bigSep Finset.univ (tokAt c)) : sProp 𝕄)
      ⊢ bigSep Finset.univ (given m) := by
  rw [bigSep_sep', bigSep_sep', bigSep_sep', ← bigSep_univ_prod (fun ci : Dev nD × CI => iprop(∃ κ : ℕ, cellInv ER (sched m) κ (kcell ci))),
    ← bigSep_univ_prod (fun ci : Dev nD × CI => (reached ER (kcell ci) 0 : sProp 𝕄)), toks_dealt]
  iintro ⟨HI, Hat, #HR, Htok⟩
  ihave HK := (BI.bigSep_exists_pi Finset.univ (fun (ci : Dev nD × CI) (κ : ℕ) => (cellInv ER (sched m) κ (kcell ci) : sProp 𝕄))) $$ HI
  icases HK with ⟨%K, #HI⟩
  iapply (bigSep_with_persistent (R := Recs m K) (Φ := fun c => sepL ghosts (RI m c)) (Ψ := given m) fun c _ => exists_intro (Φ := fun K => iprop(Recs m K ∗ sepL ghosts (RI m c))) K)
  isplitr
  · unfold Recs
    isplitl; · iexact HI
    iexact HR
  · rw [bigSep_congr fun c _ => ghosts_eq m c, bigSep_sep']
    isplitl [Hat] <;> iassumption

theorem glob : (bigSep Finset.univ fun c => iprop(osems c ∗ unscopedSems0 c ∗ dealt m c) : sProp 𝕄) ⊢ |={Set.univ}=> bigSep Finset.univ (given m) :=
  ((bigSep_mono fun c _ => alloc_at m c).trans (bigSep_fupd _ _)).trans (BI.fupd_mono (regroup m))

/-! ### The credits -/

theorem creds (c : Dev nD) : ∀ xs : List Step, (Pipeline.launchCred (fun c' => oweL c' xs) c : sProp 𝕄) ⊢ sepL (xs.flatMap credits) (RI m c)
  | [] => by
    rw [show (fun c' : Dev nD => oweL c' []) = fun _ => 0 from rfl, Pipeline.launchCred_zero]
    exact Entails.refl _
  | x :: xs => by
    rw [show (fun c' : Dev nD => oweL c' (x :: xs)) = fun c' => oweL c' xs + owe c' x from funext fun c' => oweL_cons c' x xs, Pipeline.launchCred_add,
      List.flatMap_cons, sepL_append]
    have hx : (Pipeline.launchCred (fun c' => owe c' x) c : sProp 𝕄) ⊢ sepL (credits x) (RI m c) := by
      unfold owe credits
      cases owed x with
      | none =>
        dsimp only
        rw [Pipeline.launchCred_zero]
        exact Entails.refl _
      | some o =>
        cases o with
        | inl i =>
          dsimp only
          rw [sepL_single]
          exact Pipeline.launchCred_tallyAt (.reg barS) (sigTo i) (sigFrom i) (sigTo_from i) (sigFrom_to i) () 1 c
        | inr k =>
          dsimp only
          rw [sepL_single]
          exact Pipeline.launchCred_tallyAt (.dma (semK k)) (tgt k) (payer k) (tgt_payer k) (payer_tgt k) () (amt k) c
    iintro ⟨H1, H2⟩
    isplitl [H2]
    · iapply hx; iexact H2
    · iapply (creds c xs); iexact H1

/-! ### The semaphores at the end -/

theorem close_at (K : Dev nD × CI → ℕ) (c : Dev nD) (n : Fin 206) :
    iprop(Ctx m K ∗ RI m c (if live (ck n) then .done (ck n) else .pos (ck n))) ⊢ |={Set.univ}=> semVal ((c : Thread nD τ), osem n) 0 := by
  have e : (semVal ((c : Thread nD τ), osem n) 0 : sProp 𝕄) = semVal (dmaC c (ck n)) 0 := by rw [cell_ck]; rfl
  rw [e]
  by_cases h : live (ck n) = true
  · rw [if_pos h, RI_done]
    iintro ⟨#HC, Hp⟩
    iapply (Rounds.cell_close ER (sched m) (Set.mem_univ (K (c, some (num (ck n))))) (fun h => h) (R := 1) (duties_later m (dmaC c (ck n))))
    isplitr; · iapply (ctx_inv m K c (ck n)); iexact HC
    iexact Hp
  · rw [if_neg h, RI_pos]
    iintro ⟨#HC, Hp⟩
    iapply (Rounds.cell_close ER (sched m) (Set.mem_univ (K (c, some (num (ck n))))) (fun h => h) (R := 0) (duties_idle m c (ck n) (by simpa using h)))
    isplitr; · iapply (ctx_inv m K c (ck n)); iexact HC
    iexact Hp

theorem sems_stop (K : Dev nD × CI → ℕ) (c : Dev nD) :
    iprop(Ctx m K ∗ RI m c .doneB ∗ sepL (allK.map fun k => if live k then Res.done k else .pos k) (RI m c))
      ⊢ |={Set.univ}=> iprop(unscopedSems0 c ∗ osems c) := by
  rw [sepL_allK, usems_eq, show RI m c .doneB = atPos ER (barC c) 1 ∅ 0 from rfl]
  iintro ⟨#HC, HB, HK⟩
  imod (Rounds.cell_close ER (sched m) (Set.mem_univ (K (c, none))) (fun h => h) (R := 1) (duties_later m (barC c))) $$ [HB] with HB
  · isplitr; · iapply (ctx_invB m K c); iexact HC
    iexact HB
  imod (show iprop(Ctx m K ∗ bigSep Finset.univ fun n : Fin 206 => RI m c (if live (ck n) then .done (ck n) else .pos (ck n))) ⊢ |={Set.univ}=> osems c from
    (bigSep_with_persistent fun n _ => close_at m K c n).trans (bigSep_fupd _ _)) $$ [HK] with HK
  · isplitr; · iexact HC
    iexact HK
  imodintro
  isplitl [HB] <;> iassumption

end Cert.Ring

end
-- ==== Proof.StepsA.lean ====
/-
  The steps that move no value through the core: waits, copies, transfers, and the barrier.
-/
module

public import proofs.«01_k».proof.Proof.Mach

@[expose] public section

set_option synthInstance.maxSize 4096
set_option maxRecDepth 20000

noncomputable section

namespace Cert.Ring

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem lift_bind {X α : Type} (w : TpuEff nD τ sig (Elt F) Λ₀ .tc X) (kt : X → Prog (TpuEff nD τ sig (Elt F) Λ₀ .tc) α) :
    (Prog.lift w >>= kt) = .op w kt := rfl

theorem oweL_none (c : Dev nD) (x : Step) (xs : List Step) (h : owed x = none) : oweL c (x :: xs) = oweL c xs := by
  rw [oweL_cons]; unfold owe; rw [h]; exact add_zero _

theorem RI_mem (c : Dev nD) (l : List MRes) : sepL (l.map Res.mem) (RI m c) = sepL l (MR m c) := sepL_map _ _ _
theorem RI_rem (c : Dev nD) (i : Fin 5) (l : List MRes) : sepL (l.map (Res.rem i)) (RI m c) = sepL l (MR m (sigFrom i c)) := sepL_map _ _ _

/-! ### Waits -/

theorem wait_step (x : Step) (k : Ck) (hn : need x = [.pos k, .crd k]) (hg : give x = .done k :: (pay k).map .mem) (ho : owed x = none)
    (hx : x ≠ .bar) (hk' : waitK x = some k) (hk : live k = true) (w : Dev nD → TpuEff nD τ sig (Elt F) Λ₀ .tc PUnit) (q : DmaSem sig) (N : ℕ)
    (hf : ∀ c, (frag c x : Pg F) = Prog.lift (w c))
    (hw : ∀ (c : Dev nD) (K' : PUnit → sProp 𝕄), wpE (defs₀ (F := F)) 𝒱₀ (c : Thread nD τ) none Set.univ (w c) K' = waitSpec (c : Thread nD τ) Set.univ (.dma q) N K')
    (hq : q = semK k) (hN : N = amt k) : StepOK m x := by
  intro K c xs hr kt Q
  have ha : above (rank k) xs = true := by
    unfold rankOK at hr; rw [if_neg hx, hk'] at hr; exact hr
  rw [hn, hg, hf, lift_bind, oweL_none c x xs ho, sepL_cons, sepL_cons, sepL_nil, sepL_cons, RI_mem]
  iintro ⟨#HC, ⟨Hp, Hc, -⟩, HO⟩ Hk
  iapply (wait_rule m K c k q N (hw c) hq hN hk xs ha) $$ [Hp Hc HO]
  · isplitr; · iexact HC
    isplitl [Hp]; · iexact Hp
    isplitl [Hc] <;> iassumption
  iintro ⟨Hd, Hpay, HO⟩
  iapply Hk
  isplitl [Hd Hpay]
  · isplitl [Hd] <;> iassumption
  iexact HO

theorem ok_stageW (d p : Fin 2) : StepOK m (.stageW d p) :=
  wait_step m _ (.io ⟨2 * d.val + p.val, by omega⟩) rfl rfl rfl (by decide +revert) rfl rfl _ _ _ (fun c => rfl) (fun c => wpE_waitDma2_eq 𝒱₀ _ none _) (semK_io _)
    (by fin_cases d <;> fin_cases p <;> rfl)
theorem ok_tCopyW : StepOK m .tCopyW :=
  wait_step m _ (.io 4) rfl rfl rfl (by decide) rfl rfl _ _ _ (fun c => rfl) (fun c => wpE_waitDma2_eq 𝒱₀ _ none _) (semK_io _) rfl
theorem ok_wCopyW : StepOK m .wCopyW :=
  wait_step m _ (.io 5) rfl rfl rfl (by decide) rfl rfl _ _ _ (fun c => rfl) (fun c => wpE_waitDma2_eq 𝒱₀ _ none _) (semK_io _) rfl
theorem ok_p1wait (d : Fin 2) (s : Fin 7) (p : Fin 2) : StepOK m (.p1wait d s p) :=
  wait_step m _ (.p1r d s p) rfl rfl rfl (fun h => Step.noConfusion h) rfl rfl _ _ _ (fun c => rfl) (fun c => wpE_waitDma2_eq 𝒱₀ _ none _) (semK_p1r _ _ _) rfl
theorem ok_p1sent (d : Fin 2) (s : Fin 7) (p : Fin 2) : StepOK m (.p1sent d s p) :=
  wait_step m _ (.p1s d s p) rfl rfl rfl (fun h => Step.noConfusion h) rfl rfl _ _ _ (fun c => rfl) (fun c => wpE_waitDma2_eq 𝒱₀ _ none _) (semK_p1s _ _ _) rfl
theorem ok_p2wait (d : Fin 2) (j : Fin 3) : StepOK m (.p2wait d j) :=
  wait_step m _ (.p2r d j) rfl rfl rfl (fun h => Step.noConfusion h) rfl rfl _ _ _ (fun c => rfl) (fun c => wpE_waitDma2_eq 𝒱₀ _ none _) (semK_p2r _ _) rfl
theorem ok_p2sent (d : Fin 2) (a : Fin 3) : StepOK m (.p2sent d a) :=
  wait_step m _ (.p2s d a) rfl rfl rfl (fun h => Step.noConfusion h) rfl rfl _ _ _ (fun c => rfl) (fun c => wpE_waitDma2_eq 𝒱₀ _ none _) (semK_p2s _ _) rfl
theorem ok_p3wait (d : Fin 2) (j : Fin 3) : StepOK m (.p3wait d j) :=
  wait_step m _ (.p3r d j) rfl rfl rfl (fun h => Step.noConfusion h) rfl rfl _ _ _ (fun c => rfl) (fun c => wpE_waitDma2_eq 𝒱₀ _ none _) (semK_p3r _ _) rfl
theorem ok_p3sent (d : Fin 2) (a : Fin 3) : StepOK m (.p3sent d a) :=
  wait_step m _ (.p3s d a) rfl rfl rfl (fun h => Step.noConfusion h) rfl rfl _ _ _ (fun c => rfl) (fun c => wpE_waitDma2_eq 𝒱₀ _ none _) (semK_p3s _ _) rfl
theorem ok_p4wait (d : Fin 2) (h : Fin 7) (j : Fin 4) : StepOK m (.p4wait d h j) :=
  wait_step m _ (.p4r d h j) rfl rfl rfl (fun h => Step.noConfusion h) rfl rfl _ _ _ (fun c => rfl) (fun c => wpE_waitDma2_eq 𝒱₀ _ none _) (semK_p4r _ _ _) rfl
theorem ok_p4sent (d : Fin 2) (h : Fin 7) (j : Fin 4) : StepOK m (.p4sent d h j) :=
  wait_step m _ (.p4s d h j) rfl rfl rfl (fun h => Step.noConfusion h) rfl rfl _ _ _ (fun c => rfl) (fun c => wpE_waitDma2_eq 𝒱₀ _ none _) (semK_p4s _ _ _) rfl

/-! ### Copies -/

theorem copy_at (c : Dev nD) (x : Step) (k : Ck) (S D : MRes) (hn : need x = [.tok k, .mem S, .mem D]) (hg : give x = [.crd k]) (ho : owed x = none)
    {sp sp' : Space} {s : Shape} (src : Memref sig .tc sp s .f32) (dst : Memref sig .tc sp' s .f32) (q : DmaSem sig)
    {hsrc : src.view.WordExact} {hdst : dst.view.WordExact} {hsem : DmaTarget.Typed (nD := nD) (τ := τ) (p := .tc) sp (.dma q) (.here dst)}
    (hf : (frag c x : Pg F) = Prog.lift (.enqueueDma src (.here dst) (.dma q) hsrc hdst hsem))
    (qs : PosShare TreeShare) (fs : Buf (Elt F) (src.view.loc (c : Thread nD τ))) (g : Buf (Elt F) (dst.view.loc (c : Thread nD τ)))
    (hq : q = semK k) (hN : dst.view.dmaCredit = amt k) (hk : live k = true) (ht : tgt k c = c)
    (hr : dst.view.read (Elt F) g = src.view.read (Elt F) fs)
    (hS : MR m c S = ownV c src qs fs) (hD : MR m c D = anyV c dst)
    (hpay : sepL (pay k) (MR m c) = iprop(ownV c dst fullShare g ∗ ownV c src qs fs))
    (K : Dev nD × CI → ℕ) (xs : List Step) (kt : PUnit → Pg F) (Q : PUnit → sProp 𝕄) :
    iprop(Ctx m K ∗ sepL (need x) (RI m c) ∗ ow c (oweL c (x :: xs)))
      ⊢ iprop(((sepL (give x) (RI m c) ∗ ow c (oweL c xs)) -∗ wpD c (kt ⟨⟩) Q) -∗ wpD c (frag c x >>= kt) Q) := by
  rw [hn, hg, hf, lift_bind, oweL_none c x xs ho, sepL_cons, sepL_cons, sepL_single, sepL_single]
  rw [show RI m c (.mem S) = ownV c src qs fs from hS, show RI m c (.mem D) = anyV c dst from hD]
  iintro ⟨#HC, ⟨Ht, Hs, Hd⟩, HO⟩ Hk
  iapply (copy_rule m K c src dst k q qs fs g hq hN hk ht hr (Entails.of_eq hpay.symm)) $$ [Ht Hs Hd]
  · isplitr; · iexact HC
    isplitl [Ht]; · iexact Ht
    isplitl [Hs] <;> iassumption
  iintro Hc
  iapply Hk
  isplitl [Hc] <;> iassumption

theorem argR_stage (c : Dev nD) (d p : Fin 2) (h : 2 * d.val + p.val < 6) (h' : 2 * d.val + p.val < 4) :
    argR m c ⟨2 * d.val + p.val, h⟩ = ownV c (chunkV (chC c d p 0)) (quarter fullShare.right ⟨2 * d.val + p.val, h'⟩) (blkF m c) := by
  have e1 : Fin.ofNat 2 ((2 * d.val + p.val) / 2) = d := Fin.ext (by show (2 * d.val + p.val) / 2 % 2 = d.val; omega)
  have e2 : Fin.ofNat 2 (2 * d.val + p.val) = p := Fin.ext (by show (2 * d.val + p.val) % 2 = p.val; omega)
  unfold argR
  rw [dif_pos h']
  dsimp only
  rw [e1, e2]
theorem pay_stage (d p : Fin 2) (h : 2 * d.val + p.val < 6) :
    pay (.io ⟨2 * d.val + p.val, h⟩) = [.own (.snd d 0 p), .arg ⟨2 * d.val + p.val, h⟩] := by
  have e1 : Fin.ofNat 2 ((2 * d.val + p.val) / 2) = d := Fin.ext (by show (2 * d.val + p.val) / 2 % 2 = d.val; omega)
  have e2 : Fin.ofNat 2 (2 * d.val + p.val) = p := Fin.ext (by show (2 * d.val + p.val) % 2 = p.val; omega)
  unfold pay
  dsimp only
  rw [dif_pos (by omega), e1, e2]

theorem ok_stage (d p : Fin 2) : StepOK m (.stage d p) := fun K c xs _ kt Q =>
  have h4 : 2 * d.val + p.val < 4 := by omega
  copy_at m c (.stage d p) (.io ⟨2 * d.val + p.val, by omega⟩) (.arg ⟨2 * d.val + p.val, by omega⟩) (.any (.snd d 0 p)) rfl rfl rfl
    (chunkV (chC c d p 0)) (slotV sndM d 0 p) (sem6 ⟨2 * d.val + p.val, by omega⟩)
    (hsrc := View.wordExact_bits rfl) (hdst := (View.wordExact_bits rfl).reshape _ _) (hsem := ⟨Or.inl rfl, trivial⟩)
    (congrArg (fun o => (Prog.lift (.enqueueDma (chunkV o) (.here (slotV sndM d 0 p)) (.dma (sem6 ⟨2 * d.val + p.val, by omega⟩))
      (View.wordExact_bits rfl) ((View.wordExact_bits rfl).reshape _ _) ⟨Or.inl rfl, trivial⟩) : Pg F)) (stOff_eq c d p))
    (quarter fullShare.right ⟨2 * d.val + p.val, h4⟩) (blkF m c) (sndF m c) (semK_io _) (by fin_cases d <;> fin_cases p <;> rfl) rfl rfl
    (funext fun x => (congrArg (sndF m c) (snd_emb d 0 p x)).trans (stage_snd m c d p x))
    (argR_stage m c d p _ h4) rfl
    (by rw [pay_stage, sepL_cons, sepL_single]; rw [← argR_stage m c d p _ h4]; rfl)
    K xs kt Q

theorem ok_tCopy : StepOK m .tCopy := fun K c xs _ kt Q =>
  copy_at m c .tCopy (.io 4) (.arg 4) (.any .t) rfl rfl rfl tA tM (sem6 4)
    (hsrc := (Memref.isWhole_whole _).wordExact) (hdst := (Memref.isWhole_whole _).wordExact) (hsem := ⟨Or.inl rfl, trivial⟩)
    rfl fullShare.left (blkF m c) (blkF m c) (semK_io _) rfl rfl rfl rfl rfl rfl
    (by rw [show pay (.io 4) = [.own .t, .arg 4] from rfl, sepL_cons, sepL_single]; rfl) K xs kt Q
theorem ok_wCopy : StepOK m .wCopy := fun K c xs _ kt Q =>
  copy_at m c .wCopy (.io 5) (.arg 5) (.any .w) rfl rfl rfl wA wM (sem6 5)
    (hsrc := (Memref.isWhole_whole _).wordExact) (hdst := (Memref.isWhole_whole _).wordExact) (hsem := ⟨Or.inl rfl, trivial⟩)
    rfl fullShare (wgtF m c) (wgtF m c) (semK_io _) rfl rfl rfl rfl rfl rfl
    (by rw [show pay (.io 5) = [.own .w, .arg 5] from rfl, sepL_cons, sepL_single]; rfl) K xs kt Q

/-! ### Transfers -/

theorem send_at (c c'' : Dev nD) (x : Step) (k₁ k₂ : Ck) (S D : MRes) (i : Fin 5) (hn : need x = [.tok k₁, .tok k₂, .mem S, .rem i D]) (hg : give x = [.crd k₁])
    (hx : owed x = some (.inr k₂)) {sp sp' : Space} {s : Shape} (src : Memref sig .tc sp s .f32) (c' : Dev nD) (dst : Memref sig .tc sp' s .f32) (q₁ q₂ : DmaSem sig)
    {hsc : (dst : Memref sig (Dev.tc c' : Thread nD τ).2.kind sp' s .f32).view.ref.isScScratch = false}
    {hsrc : src.view.WordExact} {hdst : dst.view.WordExact}
    {hsem : DmaTarget.Typed sp (.dma q₂) (.remote (Dev.tc c' : Thread nD τ) dst (.dma q₁) hsc)}
    (hf : (frag c x : Pg F) = Prog.lift (.enqueueDma src (.remote (Dev.tc c' : Thread nD τ) dst (.dma q₁) hsc) (.dma q₂) hsrc hdst hsem))
    (hc : c' = c'') (hi : sigFrom i c = c'')
    (qs : PosShare TreeShare) (fs : Buf (Elt F) (src.view.loc (c : Thread nD τ))) (g : Buf (Elt F) (dst.view.loc (c'' : Thread nD τ)))
    (hq₁ : q₁ = semK k₁) (hq₂ : q₂ = semK k₂) (hN : dst.view.dmaCredit = amt k₂) (hN' : amt k₁ = amt k₂) (hk₁ : live k₁ = true) (hk₂ : live k₂ = true)
    (ht₁ : tgt k₁ c = c) (ht₂ : tgt k₂ c = c'')
    (hr : dst.view.read (Elt F) g = src.view.read (Elt F) fs)
    (hS : MR m c S = ownV c src qs fs) (hD : MR m c'' D = anyV c'' dst)
    (hpay₁ : pay k₁ = [S]) (hpay₂ : sepL (pay k₂) (MR m c'') = ownV c'' dst fullShare g)
    (K : Dev nD × CI → ℕ) (xs : List Step) (kt : PUnit → Pg F) (Q : PUnit → sProp 𝕄) :
    iprop(Ctx m K ∗ sepL (need x) (RI m c) ∗ ow c (oweL c (x :: xs)))
      ⊢ iprop(((sepL (give x) (RI m c) ∗ ow c (oweL c xs)) -∗ wpD c (kt ⟨⟩) Q) -∗ wpD c (frag c x >>= kt) Q) := by
  rw [hn, hg, hf, lift_bind, sepL_cons, sepL_cons, sepL_cons, sepL_single, sepL_single]
  rw [show RI m c (.mem S) = ownV c src qs fs from hS,
    show RI m c (.rem i D) = anyV c'' dst from (congrArg (fun e => MR m e D) hi).trans hD]
  iintro ⟨#HC, ⟨Ht₁, Ht₂, Hs, Hd⟩, HO⟩ Hk
  iapply (send_rule m K c src c' c'' hc dst k₁ k₂ q₁ q₂ qs fs g hq₁ hq₂ hN hN' hk₁ hk₂ ht₁ ht₂ hr
    (Entails.of_eq (by rw [hpay₁, sepL_single, hS])) (Entails.of_eq hpay₂.symm) x xs hx) $$ [Ht₁ Ht₂ Hs Hd HO]
  · isplitr; · iexact HC
    isplitl [Ht₁]; · iexact Ht₁
    isplitl [Ht₂]; · iexact Ht₂
    isplitl [Hs]; · iexact Hs
    isplitl [Hd] <;> iassumption
  iintro ⟨Hc, HO⟩
  iapply Hk
  isplitl [Hc] <;> iassumption

theorem sigFrom_ring (d : Fin 2) (h : d.val < 5) (c : Dev nD) : sigFrom ⟨d.val, h⟩ c = nb d c := by fin_cases d <;> rfl
theorem sigFrom_col (a : Fin 3) (h : 2 + a.rev.val < 5) (c : Dev nD) : sigFrom ⟨2 + a.rev.val, h⟩ c = cz (up a) c := by fin_cases a <;> rfl

theorem ok_p1send (d : Fin 2) (s : Fin 7) (p : Fin 2) : StepOK m (.p1send d s p) := fun K c xs _ kt Q =>
  send_at m c (nb d c) (.p1send d s p) (.p1s d s p) (.p1r d s p) (.own (.snd d s p)) (.any (.rcv d s p)) ⟨d.val, by omega⟩ rfl rfl rfl
    (slotV sndM d s p) (p1Dev c d s p) (slotV rcvM d s p) (sem14 cc0_scratch8 d s p) (sem14 cc0_scratch9 d s p)
    (hsc := rfl) (hsrc := (View.wordExact_bits rfl).reshape _ _) (hdst := (View.wordExact_bits rfl).reshape _ _) (hsem := ⟨⟨rfl, Or.inl rfl⟩, trivial⟩)
    rfl (p1Dev_eq c d s p) (sigFrom_ring d _ c) fullShare (sndF m c) (rcvF m (nb d c)) (semK_p1s _ _ _) (semK_p1r _ _ _) rfl rfl rfl rfl rfl rfl
    (funext fun x => (congrArg (rcvF m (nb d c)) (rcv_emb d s p x)).trans ((sum_snd m c d s p x).trans (congrArg (sndF m c) (snd_emb d s p x)).symm))
    rfl rfl rfl (by rw [show pay (.p1r d s p) = [.own (.rcv d s p)] from rfl, sepL_single]; rfl) K xs kt Q

theorem ok_p2send (d : Fin 2) (a : Fin 3) : StepOK m (.p2send d a) := fun K c xs _ kt Q =>
  send_at m c (cz (up a) c) (.p2send d a) (.p2s d a) (.p2r d a.rev) (.own (.rp d (up a))) (.any (.col d a.rev)) ⟨2 + a.rev.val, by omega⟩ rfl rfl rfl
    (rpieceV (redC c d (up a))) (p2Dev c d a) (colV d (dn a)) (sem4 cc0_scratch10 d (up a)) (sem4 cc0_scratch11 d (dn a))
    (hsc := rfl) (hsrc := View.wordExact_bits rfl) (hdst := (View.wordExact_bits rfl).reshape _ _) (hsem := ⟨⟨rfl, Or.inl rfl⟩, trivial⟩)
    (congrArg (fun o => (Prog.lift (.enqueueDma (rpieceV o) (.remote (Dev.tc (p2Dev c d a)) (colV d (dn a)) (.dma (sem4 cc0_scratch10 d (up a))))
      (.dma (sem4 cc0_scratch11 d (dn a))) (View.wordExact_bits rfl) ((View.wordExact_bits rfl).reshape _ _) ⟨⟨rfl, Or.inl rfl⟩, trivial⟩) : Pg F)) (rsOff_eq c d a)) (p2Dev_eq c d a) (sigFrom_col a _ c) fullShare (redF m c) (colF m (cz (up a) c)) (semK_p2s _ _) (semK_p2r _ _) rfl rfl rfl rfl rfl
    (by show cz (up a.rev.rev) c = _; rw [Fin.rev_rev])
    (funext fun x => (congrArg (colF m (cz (up a) c)) (col_emb d (dn a) x)).trans (send_col m c d a x))
    rfl rfl rfl (by rw [show pay (.p2r d a.rev) = [.own (.col d a.rev)] from rfl, sepL_single]; rfl) K xs kt Q

theorem outC_cz (c : Dev nD) (d : Fin 2) (a : Fin 3) : outC (cz (up a) c) d 0 (dn a) = outC c d 0 0 := by
  unfold outC; rw [rhoH_cz, gamJ_cz]
theorem outC_nb (c : Dev nD) (d : Fin 2) (h : Fin 7) (j : Fin 4) : outC (nb d c) d h.succ j = outC c d h.castSucc j := by
  unfold outC; rw [rhoH_nb, gamJ_nb]

theorem ok_p3send (d : Fin 2) (a : Fin 3) : StepOK m (.p3send d a) := fun K c xs _ kt Q =>
  send_at m c (cz (up a) c) (.p3send d a) (.p3s d a) (.p3r d a.rev) (.share d a.castSucc) (.any (.out d 0 (up a.rev))) ⟨2 + a.rev.val, by omega⟩ rfl rfl rfl
    (pieceV (outC c d 0 0)) (p3Dev c d a) (pieceV (outC c d 0 0)) (sem4 cc0_scratch12 d (up a)) (sem4 cc0_scratch13 d (dn a))
    (hsc := rfl) (hsrc := View.wordExact_bits rfl) (hdst := View.wordExact_bits rfl) (hsem := ⟨⟨rfl, Or.inl rfl⟩, trivial⟩)
    (congrArg (fun o => (Prog.lift (.enqueueDma (pieceV o) (.remote (Dev.tc (p3Dev c d a)) (pieceV o) (.dma (sem4 cc0_scratch12 d (up a))))
      (.dma (sem4 cc0_scratch13 d (dn a))) (View.wordExact_bits rfl) (View.wordExact_bits rfl) ⟨⟨rfl, Or.inl rfl⟩, trivial⟩) : Pg F)) (osOff_eq c d)) (p3Dev_eq c d a) (sigFrom_col a _ c) (quarter fullShare a.castSucc) (outF m) (outF m) (semK_p3s _ _) (semK_p3r _ _) rfl rfl rfl rfl rfl
    (by show cz (up a.rev.rev) c = _; rw [Fin.rev_rev])
    rfl rfl
    (by show anyV (cz (up a) c) (pieceV (outC (cz (up a) c) d 0 (dn a))) = _; rw [outC_cz])
    rfl
    (by rw [show pay (.p3r d a.rev) = [.own (.out d 0 (up a.rev))] from rfl, sepL_single]
        show ownV (cz (up a) c) (pieceV (outC (cz (up a) c) d 0 (dn a))) fullShare (outF m) = _
        rw [outC_cz]) K xs kt Q

/-- The share a row transfer of a finished piece reads. -/
def p4q (h : Fin 7) (j : Fin 4) : PosShare TreeShare := if h = 0 ∧ j = 0 then quarter fullShare 3 else fullShare
theorem MR_p4src (c : Dev nD) (d : Fin 2) (h : Fin 7) (j : Fin 4) :
    MR m c (p4src d h j) = ownV c (pieceV (outC c d h.castSucc j)) (p4q h j) (outF m) := by
  unfold p4src p4q
  by_cases hh : h = 0 ∧ j = 0
  · rw [if_pos hh, if_pos hh]; obtain ⟨rfl, rfl⟩ := hh; rfl
  · rw [if_neg hh, if_neg hh]; rfl

theorem ok_p4send (d : Fin 2) (h : Fin 7) (j : Fin 4) : StepOK m (.p4send d h j) := fun K c xs _ kt Q =>
  send_at m c (nb d c) (.p4send d h j) (.p4s d h j) (.p4r d h j) (p4src d h j) (.any (.out d h.succ j)) ⟨d.val, by omega⟩ rfl rfl rfl
    (pieceV (outC c d h.castSucc j)) (p4Dev c d h j) (pieceV (outC c d h.castSucc j)) (sem28 cc0_scratch14 d h j) (sem28 cc0_scratch15 d h j)
    (hsc := rfl) (hsrc := View.wordExact_bits rfl) (hdst := View.wordExact_bits rfl) (hsem := ⟨⟨rfl, Or.inl rfl⟩, trivial⟩)
    (congrArg (fun o => (Prog.lift (.enqueueDma (pieceV o) (.remote (Dev.tc (p4Dev c d h j)) (pieceV o) (.dma (sem28 cc0_scratch14 d h j)))
      (.dma (sem28 cc0_scratch15 d h j)) (View.wordExact_bits rfl) (View.wordExact_bits rfl) ⟨⟨rfl, Or.inl rfl⟩, trivial⟩) : Pg F)) (ogOff_eq c d h j)) (p4Dev_eq c d h j) (sigFrom_ring d _ c) (p4q h j) (outF m) (outF m) (semK_p4s _ _ _) (semK_p4r _ _ _) rfl rfl rfl rfl rfl rfl
    rfl (MR_p4src m c d h j)
    (by show anyV (nb d c) (pieceV (outC (nb d c) d h.succ j)) = _; rw [outC_nb])
    rfl
    (by rw [show pay (.p4r d h j) = [.own (.out d h.succ j)] from rfl, sepL_single]
        show ownV (nb d c) (pieceV (outC (nb d c) d h.succ j)) fullShare (outF m) = _
        rw [outC_nb]) K xs kt Q

/-! ### The barrier -/

theorem ok_sig (i : Fin 5) : StepOK m (.sig i) := fun K c xs _ kt Q => by
  have hO : oweL c (.sig i :: xs) = oweL c xs + tallyAt (barC (sigTo i c)) () 1 := oweL_cons c _ _
  rw [show need (.sig i) = .tokB i :: (sigNeed i).map .mem from rfl, show give (.sig i) = [] from rfl, sepL_cons, RI_mem, sepL_nil,
    show RI m c (.tokB i) = dutyTok ER (barC (sigTo i c)) 0 i from rfl]
  rw [show (frag (F := F) c (.sig i) >>= kt) = .op (.semSignal (sigDev c i : Thread nD τ) barS 1) kt from rfl, sigDev_eq]
  unfold ow
  iintro ⟨#HC, ⟨Ht, Hm⟩, ⟨%W, HO⟩⟩ Hk
  iapply (Rounds.wp_signal 𝒱₀ ER (sched m) (c : Thread nD τ) none (dst := (sigTo i c : Thread nD τ)) (κ := K (sigTo i c, none)) (r := 0) (d := i)
      (by rw [duties_bar]; exact Finset.mem_univ _) (amount_bar m (sigTo i c) i) () (oweL c xs) hO) $$ [HO Ht Hm]
  · isplitr; · iapply (ctx_invB m K (sigTo i c)); iexact HC
    isplitl [HO]; · iexact HO
    isplitl [Ht]; · iexact Ht
    isplitl [Hm]
    · rw [payload_bar, sigFrom_to]; iexact Hm
    iapply (ctx_reachedB m K (sigTo i c)); iexact HC
  iintro HO
  iapply Hk
  isplitr; · iempintro
  iexists W; iexact HO

theorem cred_five (c : Dev nD) : (sepL [Res.crdB 0, Res.crdB 1, Res.crdB 2, Res.crdB 3, Res.crdB 4] (RI m c) : sProp 𝕄) ⊢ cred (tallyAt (barC c) () 5) := by
  have e : ∀ a b : ℕ, iprop(cred (tallyAt (barC c) () a) ∗ cred (tallyAt (barC c) () b)) = (cred (tallyAt (barC c) () (a + b)) : sProp 𝕄) := fun a b => by
    rw [← tallyAt_add]; exact (equiv_iff.mp ⟨(cred_add _ _).1, (cred_add _ _).2⟩).symm
  rw [sepL_cons, sepL_cons, sepL_cons, sepL_cons, sepL_single]
  show iprop(cred (tallyAt (barC c) () 1) ∗ cred (tallyAt (barC c) () 1) ∗ cred (tallyAt (barC c) () 1) ∗ cred (tallyAt (barC c) () 1) ∗ cred (tallyAt (barC c) () 1)) ⊢ _
  rw [e, e, e, e]

theorem ok_bar : StepOK m .bar := fun K c xs hr kt Q => by
  have ha : above (lv (barC c) ()) xs = true := by
    unfold rankOK at hr; rw [if_pos rfl] at hr; exact hr
  have hmw : Ctx m K ⊢ MayWait (c : Thread nD τ) (.reg barS) () (oweL c xs) := (ctx_lev m K).trans (ranks_wait c (.reg barS) xs ha)
  have hg : sepL (give .bar) (RI m c) = iprop(RI m c .doneB ∗ sepL [0, 1, 2, 3, 4] fun i : Fin 5 => sepL (sigNeed i) (MR m (sigFrom i c))) := by
    rw [show give .bar = .doneB :: [0, 1, 2, 3, 4].flatMap fun i => (sigNeed i).map (.rem i) from rfl, sepL_cons, sepL_flatMap]
    exact congrArg (fun X => iprop(RI m c .doneB ∗ X)) (sepL_congr fun i _ => RI_rem m c i _)
  rw [hg, oweL_none c .bar xs rfl, show need .bar = .posB :: [.crdB 0, .crdB 1, .crdB 2, .crdB 3, .crdB 4] from rfl, sepL_cons]
  rw [show (frag (F := F) c .bar >>= kt) = .op (.semWait barS 5) kt from rfl]
  rw [show RI m c .posB = atPos ER (barC c) 0 ∅ 0 from rfl, show RI m c .doneB = atPos ER (barC c) 1 ∅ 0 from rfl]
  unfold ow
  iintro ⟨#HC, ⟨Hp, Hc⟩, ⟨%W, HO⟩⟩ Hk
  ihave Hc := (cred_five m c) $$ Hc
  iapply (Rounds.wp_wait_rest_token 𝒱₀ ER (sched m) (c : Thread nD τ) none (κ := K (c, none))
      (wpE_semWait_eq 𝒱₀ (c : Thread nD τ) none Set.univ) (Set.mem_univ _) () (O := oweL c xs) (W := W) (R := 0) (m := 0) (T := ∅)
      ((Nat.zero_add _).trans (expect_bar m c).symm)) $$ [Hp Hc HO]
  · isplitr; · iapply (ctx_invB m K c); iexact HC
    isplitl [Hc]; · iexact Hc
    isplitl [HO]; · iexact HO
    isplitr
    · iapply hmw; iexact HC
    iexact Hp
  iintro ⟨HO, Hp, -, Hpay⟩
  iapply Hk
  isplitl [Hp Hpay]
  · isplitl [Hp]; · iexact Hp
    iapply (Entails.of_eq (rest_bar m c)); iexact Hpay
  iexists _; iexact HO

end Cert.Ring

end
-- ==== Proof.StepsB.lean ====
/-
  The steps that compute: the additions of the two reductions and the product.
-/
module

public import proofs.«01_k».proof.Proof.StepsA
public import proofs.«01_k».proof.Proof.Cut

@[expose] public section

set_option synthInstance.maxSize 4096
set_option maxRecDepth 20000

noncomputable section

namespace Cert.Ring

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ### Regions as the loads and stores address them -/

theorem own_rcv (c : Dev nD) (d : Fin 2) (s : Fin 7) (p : Fin 2) :
    RI m c (.mem (.own (.rcv d s p)))
      = ((rcvM.access (slotR d s p)).loc (c : Thread nD τ) ↦[(rcvM.access (slotR d s p)).set]{fullShare} (rcvF m c : Buf (Elt F) ((rcvM.access (slotR d s p)).loc (c : Thread nD τ)))) := by
  show ((rcvM.access (slotR d s p)).loc (c : Thread nD τ) ↦[(slotV rcvM d s p).view.set]{fullShare} _) = _
  exact congrArg (fun S => ((rcvM.access (slotR d s p)).loc (c : Thread nD τ) ↦[S]{fullShare} (rcvF m c : Buf (Elt F) ((rcvM.access (slotR d s p)).loc (c : Thread nD τ))) : sProp 𝕄)) (View.set_reshape _ _)
theorem own_snd (c : Dev nD) (d : Fin 2) (s : Fin 7) (p : Fin 2) :
    RI m c (.mem (.own (.snd d s p)))
      = ((sndM.access (slotR d s p)).loc (c : Thread nD τ) ↦[(sndM.access (slotR d s p)).set]{fullShare} (sndF m c : Buf (Elt F) ((sndM.access (slotR d s p)).loc (c : Thread nD τ)))) := by
  show ((sndM.access (slotR d s p)).loc (c : Thread nD τ) ↦[(slotV sndM d s p).view.set]{fullShare} _) = _
  exact congrArg (fun S => ((sndM.access (slotR d s p)).loc (c : Thread nD τ) ↦[S]{fullShare} (sndF m c : Buf (Elt F) ((sndM.access (slotR d s p)).loc (c : Thread nD τ))) : sProp 𝕄)) (View.set_reshape _ _)
theorem any_snd (c : Dev nD) (d : Fin 2) (s : Fin 7) (p : Fin 2) :
    RI m c (.mem (.any (.snd d s p)))
      = iprop(∃ f : Buf (Elt F) ((sndM.access (slotR d s p)).loc (c : Thread nD τ)), (sndM.access (slotR d s p)).loc (c : Thread nD τ) ↦[(sndM.access (slotR d s p)).set]{fullShare} f) := by
  show iprop(∃ f : Buf (Elt F) ((sndM.access (slotR d s p)).loc (c : Thread nD τ)), (sndM.access (slotR d s p)).loc (c : Thread nD τ) ↦[(slotV sndM d s p).view.set]{fullShare} f) = _
  exact congrArg (fun S => (iprop(∃ f : Buf (Elt F) ((sndM.access (slotR d s p)).loc (c : Thread nD τ)), (sndM.access (slotR d s p)).loc (c : Thread nD τ) ↦[S]{fullShare} f) : sProp 𝕄)) (View.set_reshape _ _)
theorem own_col (c : Dev nD) (d : Fin 2) (b : Fin 3) :
    RI m c (.mem (.own (.col d b)))
      = ((colM.access (colR d (up b))).loc (c : Thread nD τ) ↦[(colM.access (colR d (up b))).set]{fullShare} (colF m c : Buf (Elt F) ((colM.access (colR d (up b))).loc (c : Thread nD τ)))) := by
  show ((colM.access (colR d (up b))).loc (c : Thread nD τ) ↦[(colV d (up b)).view.set]{fullShare} _) = _
  exact congrArg (fun S => ((colM.access (colR d (up b))).loc (c : Thread nD τ) ↦[S]{fullShare} (colF m c : Buf (Elt F) ((colM.access (colR d (up b))).loc (c : Thread nD τ))) : sProp 𝕄)) (View.set_reshape _ _)

/-- The whole block and the whole weight, at any rectangle of them. -/
theorem own_t (c : Dev nD) (r : Rect S2048x1024) :
    RI m c (.mem (.own .t)) = ((tM.access r).loc (c : Thread nD τ) ↦[tM.view.set]{fullShare} (blkF m c : Buf (Elt F) ((tM.access r).loc (c : Thread nD τ)))) := rfl
theorem own_w (c : Dev nD) (r : Rect S1024x1024) :
    RI m c (.mem (.own .w)) = ((wM.access r).loc (c : Thread nD τ) ↦[wM.view.set]{fullShare} (wgtF m c : Buf (Elt F) ((wM.access r).loc (c : Thread nD τ)))) := rfl
theorem own_sumA (c : Dev nD) (r : Rect S64x1024) :
    RI m c (.mem (.own .sumA)) = ((sumM.access r).loc (c : Thread nD τ) ↦[sumM.view.set]{fullShare} (sumF m c : Buf (Elt F) ((sumM.access r).loc (c : Thread nD τ)))) := rfl
theorem own_rq (c : Dev nD) (d p : Fin 2) :
    RI m c (.mem (.own (.rq d p))) = ((redM.access (rqR d p)).loc (c : Thread nD τ) ↦[(redM.access (rqR d p)).set]{fullShare} (redF m c : Buf (Elt F) ((redM.access (rqR d p)).loc (c : Thread nD τ)))) := rfl
theorem any_rq (c : Dev nD) (d p : Fin 2) :
    RI m c (.mem (.any (.rq d p))) = iprop(∃ f : Buf (Elt F) ((redM.access (rqR d p)).loc (c : Thread nD τ)), (redM.access (rqR d p)).loc (c : Thread nD τ) ↦[(redM.access (rqR d p)).set]{fullShare} f) := rfl
theorem own_rp (c : Dev nD) (d : Fin 2) (j : Fin 4) :
    RI m c (.mem (.own (.rp d j))) = ((redM.access (rpieceR (redC c d j))).loc (c : Thread nD τ) ↦[(redM.access (rpieceR (redC c d j))).set]{fullShare} (redF m c : Buf (Elt F) ((redM.access (rpieceR (redC c d j))).loc (c : Thread nD τ)))) := rfl
theorem own_sumH (c : Dev nD) (d : Fin 2) :
    RI m c (.mem (.own (.sumH d))) = ((sumM.access (sumR d)).loc (c : Thread nD τ) ↦[(sumM.access (sumR d)).set]{fullShare} (sumF m c : Buf (Elt F) ((sumM.access (sumR d)).loc (c : Thread nD τ)))) := rfl
theorem any_sumH (c : Dev nD) (d : Fin 2) :
    RI m c (.mem (.any (.sumH d))) = iprop(∃ f : Buf (Elt F) ((sumM.access (sumR d)).loc (c : Thread nD τ)), (sumM.access (sumR d)).loc (c : Thread nD τ) ↦[(sumM.access (sumR d)).set]{fullShare} f) := rfl
theorem any_own (c : Dev nD) (d : Fin 2) :
    RI m c (.mem (.any (.out d 0 0))) = iprop(∃ f : Buf (Elt F) ((outM.access (pieceR (outC c d 0 0))).loc (c : Thread nD τ)),
      (outM.access (pieceR (outC c d 0 0))).loc (c : Thread nD τ) ↦[(outM.access (pieceR (outC c d 0 0))).set]{fullShare} f) := rfl

/-- What a store leaves is what its region is to hold. -/
theorem stored (c : Dev nD) {sp : Space} {s : Shape} (v : View sig .tc sp s .f32) (f g : Buf (Elt F) (v.loc (c : Thread nD τ))) (w : s.Idx → Elt F .f32)
    (h : v.read (Elt F) g = w) :
    (v.loc (c : Thread nD τ) ↦[v.set]{fullShare} (v.write (Elt F) f w Finset.univ) : sProp 𝕄) = (v.loc (c : Thread nD τ) ↦[v.set]{fullShare} g) :=
  pointsTo_congr fun i hi => write_final c v f g w h i hi

/-! ### The additions round the row -/

/-- An index of a slot, reshaped to a matrix. -/
theorem slot_at (h) (d : Fin 2) (s : Fin 7) (p : Fin 2) (x : S256x256.Idx) :
    ((slotR d s p).emb (Shape.reshapeEquiv (s' := S256x256) (s := S1x1x1x256x256) h x) : S2x7x2x256x256.Idx) = slotI d s p x :=
  (congrArg (slotR d s p).emb (unsq5 h x)).trans (slotR_emb d s p _)
theorem col_at (h) (d : Fin 2) (j : Fin 4) (x : S64x512.Idx) :
    ((colR d j).emb (Shape.reshapeEquiv (s' := S64x512) (s := S1x1x64x512) h x) : S2x4x64x512.Idx) = colI d j x :=
  (congrArg (colR d j).emb (unsq4 h x)).trans (colR_emb d j _)

theorem acc_val (c : Dev nD) (d : Fin 2) (s : Fin 6) (p : Fin 2) :
    (sndM.access (slotR d s.succ p)).read (Elt F) (sndF m c)
      = shapeCast S1x1x1x256x256 (addf (shapeCast S256x256 ((rcvM.access (slotR d s.castSucc p)).read (Elt F) (rcvF m c) : Vec F S1x1x1x256x256 .f32) shapeCasts_S1x1x1x256x256_S256x256)
          ((tM.access (chunkR (chC c d p s.castSucc.succ))).read (Elt F) (blkF m c) : Vec F S256x256 .f32)) shapeCasts_S256x256_S1x1x1x256x256 := by
  funext y
  show sndF m c ((slotR d s.succ p).emb y) = FloatOps.addf (rcvF m c ((slotR d s.castSucc p).emb (Shape.reshapeEquiv _ (Shape.reshapeEquiv _ y))))
    (blkF m c ((chunkR (chC c d p s.castSucc.succ)).emb (Shape.reshapeEquiv _ y)))
  obtain ⟨x, hx⟩ : ∃ x : S256x256.Idx, x = ix2 (y 3) (y 4) := ⟨_, rfl⟩
  rw [show (Shape.reshapeEquiv shapeCasts_S256x256_S1x1x1x256x256 y : S256x256.Idx) = x from (sq5 _ y).trans hx.symm, slot_at]
  exact (congrArg (sndF m c) ((slotR_emb d s.succ p y).trans (by rw [hx]; rfl))).trans (acc_snd m c d s p x)

theorem ok_acc (d : Fin 2) (s : Fin 6) (p : Fin 2) : StepOK m (.acc d s p) := fun K c xs _ kt Q => by
  rw [oweL_none c _ xs rfl,
    show need (.acc d s p) = [.mem (.own (.rcv d s.castSucc p)), .mem (.own .t), .mem (.any (.snd d s.succ p))] from rfl,
    show give (.acc d s p) = [.mem (.own (.rcv d s.castSucc p)), .mem (.own .t), .mem (.own (.snd d s.succ p))] from rfl,
    sepL_cons, sepL_cons, sepL_single, sepL_cons, sepL_cons, sepL_single,
    own_rcv, own_t m c (chunkR (acOff c d s.castSucc p)), any_snd, own_snd]
  unfold frag
  simp only [Prog.lift, Prog.bind_op, Prog.bind_ret, Prog.pure_eq_ret]
  iintro ⟨#HC, ⟨Hr, Ht, ⟨%f, Hs⟩⟩, HO⟩ Hk
  iapply (wp_load_rect 𝒱₀ (c : Thread nD τ) none Set.univ (m := rcvM) (r := slotR d s.castSucc p) (Finset.Subset.refl _)) $$ Hr; iintro Hr
  iapply (wp_load_rect 𝒱₀ (c : Thread nD τ) none Set.univ (m := tM) (r := chunkR (acOff c d s.castSucc p)) (by rw [View.set_whole]; exact Finset.subset_univ _)) $$ Ht; iintro Ht
  iapply (wp_load_rect 𝒱₀ (c : Thread nD τ) none Set.univ (m := sndM) (r := slotR d s.succ p) (Finset.Subset.refl _)) $$ Hs; iintro Hs
  iapply (wp_store 𝒱₀ (c : Thread nD τ) none Set.univ (m := sndM) (r := slotR d s.succ p) (Mk := Finset.univ)
    (S := (sndM.access (slotR d s.succ p)).set) (Finset.Subset.refl _)) $$ Hs; iintro Hs
  ihave Hs := (Entails.of_eq (stored c (sndM.access (slotR d s.succ p)) f (sndF m c) _ (by rw [acOff_eq]; exact acc_val m c d s p))) $$ Hs
  iapply Hk
  isplitl [Hr Ht Hs]
  · isplitl [Hr]; · iexact Hr
    isplitl [Ht] <;> iassumption
  iexact HO

theorem red_val (c : Dev nD) (d p : Fin 2) :
    (redM.access (rqR d p)).read (Elt F) (redF m c)
      = shapeCast S256x256 (addf (shapeCast S256x256 ((rcvM.access (slotR d 6 p)).read (Elt F) (rcvF m c) : Vec F S1x1x1x256x256 .f32) shapeCasts_S1x1x1x256x256_S256x256)
          ((tM.access (chunkR (chC c d p 7))).read (Elt F) (blkF m c) : Vec F S256x256 .f32)) shapeCasts_S256x256_S256x256 := by
  funext x
  show redF m c ((rqR d p).emb x) = FloatOps.addf (rcvF m c ((slotR d 6 p).emb (Shape.reshapeEquiv _ (Shape.reshapeEquiv _ x))))
    (blkF m c ((chunkR (chC c d p 7)).emb (Shape.reshapeEquiv _ x)))
  rw [show (Shape.reshapeEquiv shapeCasts_S256x256_S256x256 x : S256x256.Idx) = x from Shape.reshapeEquiv_eq_of_rowMajor _ rfl, slot_at]
  exact acc_red m c d p x

/-- The last addition of a direction makes its two quarters the four pieces. -/
theorem last_give (c : Dev nD) (d p : Fin 2) :
    iprop(RI m c (.mem (.own (.rq d p))) ∗ sepL (if p = 1 then [.mem (.own (.rq d 0))] else []) (RI m c))
      ⊢ sepL (if p = 1 then four.map fun j => .mem (.own (.rp d j)) else [.mem (.own (.rq d p))]) (RI m c) := by
  by_cases hp : p = 1
  · subst hp
    rw [if_pos rfl, if_pos rfl, sepL_single, sepL_map]
    have h := red_regroup c d (redF m c)
    rw [sepL_cons, sepL_single] at h
    exact BI.sep_comm.trans (Entails.of_eq h)
  · rw [if_neg hp, if_neg hp, sepL_single, sepL_nil]
    exact Entails.of_eq (equiv_iff.mp BI.sep_emp)

theorem ok_accLast (d p : Fin 2) : StepOK m (.accLast d p) := fun K c xs _ kt Q => by
  rw [oweL_none c _ xs rfl,
    show need (.accLast d p) = [.mem (.own (.rcv d 6 p)), .mem (.own .t), .mem (.any (.rq d p))] ++ (if p = 1 then [.mem (.own (.rq d 0))] else []) from rfl,
    show give (.accLast d p) = [.mem (.own (.rcv d 6 p)), .mem (.own .t)] ++ (if p = 1 then four.map fun j => .mem (.own (.rp d j)) else [.mem (.own (.rq d p))]) from rfl,
    sepL_append, sepL_append, sepL_cons, sepL_cons, sepL_single, sepL_cons, sepL_single,
    own_rcv, own_t m c (chunkR (acOff c d 6 p)), any_rq]
  unfold frag
  simp only [Prog.lift, Prog.bind_op, Prog.bind_ret, Prog.pure_eq_ret]
  iintro ⟨#HC, ⟨⟨Hr, Ht, ⟨%f, Hs⟩⟩, Hx⟩, HO⟩ Hk
  iapply (wp_load_rect 𝒱₀ (c : Thread nD τ) none Set.univ (m := rcvM) (r := slotR d 6 p) (Finset.Subset.refl _)) $$ Hr; iintro Hr
  iapply (wp_load_rect 𝒱₀ (c : Thread nD τ) none Set.univ (m := tM) (r := chunkR (acOff c d 6 p)) (by rw [View.set_whole]; exact Finset.subset_univ _)) $$ Ht; iintro Ht
  iapply (wp_load_rect 𝒱₀ (c : Thread nD τ) none Set.univ (m := redM) (r := rqR d p) (Finset.Subset.refl _)) $$ Hs; iintro Hs
  iapply (wp_store 𝒱₀ (c : Thread nD τ) none Set.univ (m := redM) (r := rqR d p) (Mk := Finset.univ)
    (S := (redM.access (rqR d p)).set) (Finset.Subset.refl _)) $$ Hs; iintro Hs
  ihave Hs := (Entails.of_eq (stored c (redM.access (rqR d p)) f (redF m c) _ (by rw [acOff_eq]; exact red_val m c d p))) $$ Hs
  iapply Hk
  isplitr [HO]
  · isplitl [Hr Ht]
    · isplitl [Hr] <;> iassumption
    iapply (last_give m c d p)
    rw [own_rq]
    isplitl [Hs] <;> iassumption
  iexact HO

/-! ### The additions down the column -/

theorem sum_val (c : Dev nD) (d : Fin 2) :
    (sumM.access (sumR d)).read (Elt F) (sumF m c)
      = shapeCast S64x512
          (addf (addf ((redM.access (rpieceR (redC c d 0))).read (Elt F) (redF m c) : Vec F S64x512 .f32)
              (shapeCast S64x512 ((colM.access (colR d (up 0))).read (Elt F) (colF m c) : Vec F S1x1x64x512 .f32) shapeCasts_S1x1x64x512_S64x512))
            (addf (shapeCast S64x512 ((colM.access (colR d (up 1))).read (Elt F) (colF m c) : Vec F S1x1x64x512 .f32) shapeCasts_S1x1x64x512_S64x512)
              (shapeCast S64x512 ((colM.access (colR d (up 2))).read (Elt F) (colF m c) : Vec F S1x1x64x512 .f32) shapeCasts_S1x1x64x512_S64x512)))
          shapeCasts_S64x512_S64x512 := by
  funext x
  have hx : (Shape.reshapeEquiv shapeCasts_S64x512_S64x512 x : S64x512.Idx) = x := Shape.reshapeEquiv_eq_of_rowMajor _ rfl
  show sumF m c ((sumR d).emb x) = FloatOps.addf (FloatOps.addf (redF m c ((rpieceR (redC c d 0)).emb (Shape.reshapeEquiv shapeCasts_S64x512_S64x512 x)))
      (colF m c ((colR d (up 0)).emb (Shape.reshapeEquiv _ (Shape.reshapeEquiv shapeCasts_S64x512_S64x512 x)))))
    (FloatOps.addf (colF m c ((colR d (up 1)).emb (Shape.reshapeEquiv _ (Shape.reshapeEquiv shapeCasts_S64x512_S64x512 x))))
      (colF m c ((colR d (up 2)).emb (Shape.reshapeEquiv _ (Shape.reshapeEquiv shapeCasts_S64x512_S64x512 x)))))
  rw [hx, col_at, col_at, col_at]
  exact red_sum m c d x

/-- The second half makes the piece sum whole. -/
theorem sum_give (c : Dev nD) (d : Fin 2) :
    iprop(RI m c (.mem (.own (.sumH d))) ∗ sepL (if d = 1 then [.mem (.own (.sumH 0))] else []) (RI m c))
      ⊢ sepL (if d = 1 then [.mem (.own .sumA)] else [.mem (.own (.sumH d))]) (RI m c) := by
  by_cases hd : d = 1
  · subst hd
    rw [if_pos rfl, if_pos rfl, sepL_single, sepL_single]
    have h := sum_regroup c (sumF m c)
    rw [sepL_cons, sepL_single] at h
    exact BI.sep_comm.trans (Entails.of_eq h)
  · rw [if_neg hd, if_neg hd, sepL_single, sepL_nil]
    exact Entails.of_eq (equiv_iff.mp BI.sep_emp)

/-- The addition down the column, of the piece of the row sum at `o`. -/
def redAt (d : Fin 2) (o : Off S256x1024.size S64x512.size) : Pg F := do
  let x ← Prog.lift (.load redM (rpieceR o).toLoadRect (View.loadsAt_vmem h_S64x512))
  let y1 ← Prog.lift (.load colM (colR d (up 0)).toLoadRect (View.loadsAt_vmem h_S1x1x64x512))
  let y2 ← Prog.lift (.load colM (colR d (up 1)).toLoadRect (View.loadsAt_vmem h_S1x1x64x512))
  let y3 ← Prog.lift (.load colM (colR d (up 2)).toLoadRect (View.loadsAt_vmem h_S1x1x64x512))
  let _ ← Prog.lift (.load sumM (sumR d).toLoadRect (View.loadsAt_vmem h_S64x512))
  Prog.lift (.store sumM (sumR d)
    (shapeCast S64x512
      (addf (addf (x : Vec F S64x512 .f32) (shapeCast S64x512 (y1 : Vec F S1x1x64x512 .f32) shapeCasts_S1x1x64x512_S64x512))
        (addf (shapeCast S64x512 (y2 : Vec F S1x1x64x512 .f32) shapeCasts_S1x1x64x512_S64x512) (shapeCast S64x512 (y3 : Vec F S1x1x64x512 .f32) shapeCasts_S1x1x64x512_S64x512)))
      shapeCasts_S64x512_S64x512)
    Finset.univ (View.stores_vmem_bits_univ h_S64x512 rfl) (.inl rfl))

theorem ok_red (d : Fin 2) : StepOK m (.red d) := fun K c xs _ kt Q => by
  rw [oweL_none c _ xs rfl,
    show need (.red d) = [.mem (.own (.rp d 0)), .mem (.own (.col d 0)), .mem (.own (.col d 1)), .mem (.own (.col d 2)), .mem (.any (.sumH d))] ++
      (if d = 1 then [.mem (.own (.sumH 0))] else []) from rfl,
    show give (.red d) = [.mem (.own (.rp d 0)), .mem (.own (.col d 0)), .mem (.own (.col d 1)), .mem (.own (.col d 2))] ++
      (if d = 1 then [.mem (.own .sumA)] else [.mem (.own (.sumH d))]) from rfl,
    sepL_append, sepL_append, sepL_cons, sepL_cons, sepL_cons, sepL_cons, sepL_single, sepL_cons, sepL_cons, sepL_cons, sepL_single,
    own_rp, own_col, own_col, own_col, any_sumH]
  rw [show (frag (F := F) c (.red d)) = redAt d _ from congrArg (redAt (F := F) d) (rgOff_eq c d)]
  unfold redAt
  simp only [Prog.lift, Prog.bind_op, Prog.bind_ret, Prog.pure_eq_ret]
  iintro ⟨#HC, ⟨⟨Hr, H1, H2, H3, ⟨%f, Hs⟩⟩, Hx⟩, HO⟩ Hk
  iapply (wp_load_rect 𝒱₀ (c : Thread nD τ) none Set.univ (m := redM) (r := rpieceR (redC c d 0)) (Finset.Subset.refl _)) $$ Hr; iintro Hr
  iapply (wp_load_rect 𝒱₀ (c : Thread nD τ) none Set.univ (m := colM) (r := colR d (up 0)) (Finset.Subset.refl _)) $$ H1; iintro H1
  iapply (wp_load_rect 𝒱₀ (c : Thread nD τ) none Set.univ (m := colM) (r := colR d (up 1)) (Finset.Subset.refl _)) $$ H2; iintro H2
  iapply (wp_load_rect 𝒱₀ (c : Thread nD τ) none Set.univ (m := colM) (r := colR d (up 2)) (Finset.Subset.refl _)) $$ H3; iintro H3
  iapply (wp_load_rect 𝒱₀ (c : Thread nD τ) none Set.univ (m := sumM) (r := sumR d) (Finset.Subset.refl _)) $$ Hs; iintro Hs
  iapply (wp_store 𝒱₀ (c : Thread nD τ) none Set.univ (m := sumM) (r := sumR d) (Mk := Finset.univ)
    (S := (sumM.access (sumR d)).set) (Finset.Subset.refl _)) $$ Hs; iintro Hs
  ihave Hs := (Entails.of_eq (stored c (sumM.access (sumR d)) f (sumF m c) _ (sum_val m c d))) $$ Hs
  iapply Hk
  isplitr [HO]
  · isplitr [Hs Hx]
    · isplitl [Hr]; · iexact Hr
      isplitl [H1]; · iexact H1
      isplitl [H2] <;> iassumption
    iapply (sum_give m c d)
    rw [own_sumH]
    isplitl [Hs] <;> iassumption
  iexact HO

/-! ### The product -/

theorem mm_val (c : Dev nD) (d : Fin 2) :
    (outM.access (pieceR (outC c d 0 0))).read (Elt F) (outF m)
      = matmul dot_S64x1024_S1024x512_S64x512_1_0_0_1_n_n none ((sumM.access sumAllR).read (Elt F) (sumF m c) : Vec F S64x1024 .f32)
          ((wM.access (whR d)).read (Elt F) (wgtF m c) : Vec F S1024x512 .f32) (constant S64x512 .f32 0x00000000#32) := by
  funext x
  have h1 : ((sumM.access sumAllR).read (Elt F) (sumF m c) : Vec F S64x1024 .f32) = sumF m c := by
    funext z
    refine congrArg (sumF m c) (idx2_ext (d := ![64, 1024]) ?_ ?_)
    · show 0 + 1 * (z 0).val = (z 0).val; omega
    · show 0 + 1 * (z 1).val = (z 1).val; omega
  have h2 : ((wM.access (whR d)).read (Elt F) (wgtF m c) : Vec F S1024x512 .f32) = halfW m c d := by
    funext z
    refine congrArg (wgtF m c) (idx2_ext (d := ![1024, 1024]) ?_ ?_)
    · show 0 + 1 * (z 0).val = (z 0).val; omega
    · show 512 * d.val + 1 * (z 1).val = 512 * d.val + (z 1).val; omega
  rw [h1, h2]
  exact mm_out m c d x

theorem mm_give (c : Dev nD) (d : Fin 2) :
    ((outM.access (pieceR (outC c d 0 0))).loc (c : Thread nD τ) ↦[(outM.access (pieceR (outC c d 0 0))).set]{fullShare}
        (outF m : Buf (Elt F) ((outM.access (pieceR (outC c d 0 0))).loc (c : Thread nD τ))))
      ⊢ sepL (four.map fun i => Res.mem (.share d i)) (RI m c) := by
  rw [sepL_map]
  exact Entails.of_eq (own_quarters c (pieceV (outC c d 0 0)) fullShare (outF m))

/-- The product, stored at `o`. -/
def mmAt (d : Fin 2) (o : Off S2048x1024.size S64x512.size) : Pg F := do
  let x ← Prog.lift (.load sumM sumAllR.toLoadRect (View.loadsAt_vmem h_S64x1024))
  let y ← Prog.lift (.load wM (whR d).toLoadRect (View.loadsAt_vmem h_S1024x512))
  let _ ← Prog.lift (.load outM (pieceR o).toLoadRect (View.loadsAt_vmem h_S64x512))
  Prog.lift (.store outM (pieceR o)
    (matmul dot_S64x1024_S1024x512_S64x512_1_0_0_1_n_n none (x : Vec F S64x1024 .f32) (y : Vec F S1024x512 .f32) (constant S64x512 .f32 0x00000000#32))
    Finset.univ (View.stores_vmem_bits_univ h_S64x512 rfl) (.inl rfl))

theorem ok_mm (d : Fin 2) : StepOK m (.mm d) := fun K c xs _ kt Q => by
  rw [oweL_none c _ xs rfl,
    show need (.mm d) = [.mem (.own .sumA), .mem (.own .w), .mem (.any (.out d 0 0))] from rfl,
    show give (.mm d) = [.mem (.own .sumA), .mem (.own .w)] ++ (four.map fun i => .mem (.share d i)) from rfl,
    sepL_append, sepL_cons, sepL_cons, sepL_single, sepL_cons, sepL_single,
    own_sumA m c sumAllR, own_w m c (whR d), any_own]
  rw [show (frag (F := F) c (.mm d)) = mmAt d _ from congrArg (mmAt (F := F) d) (owOff_eq c d)]
  unfold mmAt
  simp only [Prog.lift, Prog.bind_op, Prog.bind_ret, Prog.pure_eq_ret]
  iintro ⟨#HC, ⟨Hr, Hw, ⟨%f, Hs⟩⟩, HO⟩ Hk
  iapply (wp_load_rect 𝒱₀ (c : Thread nD τ) none Set.univ (m := sumM) (r := sumAllR) (by rw [View.set_whole]; exact Finset.subset_univ _)) $$ Hr; iintro Hr
  iapply (wp_load_rect 𝒱₀ (c : Thread nD τ) none Set.univ (m := wM) (r := whR d) (by rw [View.set_whole]; exact Finset.subset_univ _)) $$ Hw; iintro Hw
  iapply (wp_load_rect 𝒱₀ (c : Thread nD τ) none Set.univ (m := outM) (r := pieceR (outC c d 0 0)) (Finset.Subset.refl _)) $$ Hs; iintro Hs
  iapply (wp_store 𝒱₀ (c : Thread nD τ) none Set.univ (m := outM) (r := pieceR (outC c d 0 0)) (Mk := Finset.univ)
    (S := (outM.access (pieceR (outC c d 0 0))).set) (Finset.Subset.refl _)) $$ Hs; iintro Hs
  ihave Hs := (Entails.of_eq (stored c (outM.access (pieceR (outC c d 0 0))) f (outF m) _ (mm_val m c d))) $$ Hs
  ihave Hs := (mm_give m c d) $$ Hs
  iapply Hk
  isplitr [HO]
  · isplitr [Hs]
    · isplitl [Hr] <;> iassumption
    iexact Hs
  iexact HO

/-! ### Every step -/

theorem steps_ok (x : Step) : StepOK m x := by
  cases x with
  | stage d p => exact ok_stage m d p
  | stageW d p => exact ok_stageW m d p
  | tCopy => exact ok_tCopy m
  | tCopyW => exact ok_tCopyW m
  | wCopy => exact ok_wCopy m
  | wCopyW => exact ok_wCopyW m
  | sig i => exact ok_sig m i
  | bar => exact ok_bar m
  | p1send d s p => exact ok_p1send m d s p
  | p1wait d s p => exact ok_p1wait m d s p
  | acc d s p => exact ok_acc m d s p
  | accLast d p => exact ok_accLast m d p
  | p1sent d s p => exact ok_p1sent m d s p
  | p2send d a => exact ok_p2send m d a
  | p2wait d j => exact ok_p2wait m d j
  | red d => exact ok_red m d
  | p2sent d a => exact ok_p2sent m d a
  | mm d => exact ok_mm m d
  | p3send d a => exact ok_p3send m d a
  | p3wait d j => exact ok_p3wait m d j
  | p3sent d a => exact ok_p3sent m d a
  | p4send d h j => exact ok_p4send m d h j
  | p4wait d h j => exact ok_p4wait m d h j
  | p4sent d h j => exact ok_p4sent m d h j

end Cert.Ring

end
-- ==== Proof.Check.lean ====
/-
  The plan of Plan.lean, checked: from what a device starts with, every step of the body finds what it needs, and at the
  end the device holds what it is to end with.
-/
module

public import proofs.«01_k».proof.Proof.Plan

@[expose] public section

namespace Cert.Ring

theorem check_steps : ((run steps start).bind (takeAll final)).isSome = true := by decide +kernel

end Cert.Ring
-- ==== Proof.Run.lean ====
/-
  The run of the whole program: what the kernel's body does on a device, the launch, and what every device's memory holds
  at the end.
-/
module

public import proofs.«01_k».proof.Proof.Mem
public import proofs.«01_k».proof.Proof.Ghost
public import proofs.«01_k».proof.Proof.StepsB
public import proofs.«01_k».proof.Proof.Check
public import Idealize.ShloMosaic.Lib.Pipeline.CollectiveSegs
public import Idealize.ShloMosaic.Lib.Pipeline.ValueKit

@[expose] public section

set_option synthInstance.maxSize 4096
set_option maxRecDepth 20000

noncomputable section

namespace Cert.Ring

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

variable (ρ : Dev nD → PrngReg)

/-- The memory, the counters and the generator at the start. -/
abbrev s₀ : MemSt nD τ sig (Elt F) := ⟨m, fun _ => 0, ρ⟩

/-! ### The body -/

theorem start_eq : start = steps.flatMap credits ++ (ghosts ++ (((List.finRange 6).map fun i => .mem (.arg i)) ++ regs0.map any)) := by
  unfold start ghosts
  rw [List.cons_append, List.append_assoc, List.append_assoc]

/-- What a device has from the launch. -/
def entry (c : Dev nD) : sProp 𝕄 :=
  iprop((∃ K, Ctx m K ∗ sepL ghosts (RI m c)) ∗ sepL (steps.flatMap credits) (RI m c)
    ∗ ((c : Thread nD τ).loc main_arg0 ↦{fullShare} blkF m c) ∗ ((c : Thread nD τ).loc main_arg1 ↦{fullShare} wgtF m c))

/-- What it ends with. -/
def exit (c : Dev nD) : sProp 𝕄 :=
  iprop(unscopedSems0 c ∗ ((c : Thread nD τ).loc main_arg0 ↦{fullShare.left} blkF m c) ∗ ((c : Thread nD τ).loc main_arg1 ↦{fullShare} wgtF m c))

def Φ₀ (c : Dev nD) : sProp 𝕄 := iprop(entry m c ∗ bufs c)
def Φ₁ (c : Dev nD) : sProp 𝕄 := iprop(exit m c ∗ osems c ∗ bufs c)

theorem body_run (c : Dev nD) (t : Fin cfg0.N) :
    iprop(Φ₀ m c ∗ ow c (oweL c steps) ∗ held c cc0_stg0_0)
      ⊢ wpD c (bodyAt0 (F := F) t) fun _ => iprop(Φ₁ m c ∗ ow c 0 ∗ ((c : Thread nD τ).loc cc0_stg0_0 ↦{fullShare} outF m)) := by
  rw [body_eq]
  show _ ⊢ wpD c (Prog.op .deviceId fun c : Dev nD => runSteps c steps) _
  unfold wpD
  rw [wp_deviceId]
  obtain ⟨υ, hυ⟩ := Option.isSome_iff_exists.mp check_steps
  obtain ⟨ω, hω, hυ⟩ := Option.bind_eq_some_iff.mp hυ
  refine BIBase.Entails.trans ?_ (wp_fupd frame _ _ _ _)
  unfold Φ₀ entry
  iintro ⟨⟨⟨⟨%K, #HC, Hg⟩, Hc, HA, HW⟩, Hb⟩, HO, Hout⟩
  ihave HM := (mem_start m c) $$ [Hb Hout]
  · isplitl [Hb] <;> iassumption
  icases HM with ⟨Hr, Hz⟩
  ihave Ha := (args_start m c) $$ [HA HW]
  · isplitl [HA] <;> iassumption
  iapply (run_steps m (steps_ok m) K c steps start ω hω)
  isplitr; · iexact HC
  isplitl [Hg Hc Hr Ha]
  · rw [start_eq, sepL_append, sepL_append, sepL_append]
    isplitl [Hc]; · iexact Hc
    isplitl [Hg]; · iexact Hg
    isplitl [Ha] <;> iassumption
  isplitl [HO]; · iexact HO
  rw [takeAll_sep (RI m c) _ _ _ hυ, final_eq, sepL_cons (Res.doneB), sepL_append]
  iintro ⟨⟨⟨HB, HK, HM⟩, -⟩, HO⟩
  ihave HM := (mem_stop m c) $$ [HM Hz]
  · isplitl [HM] <;> iassumption
  icases HM with ⟨Hb, Hout, HA, HW⟩
  imod (sems_stop m K c) $$ [HB HK] with ⟨HB, HK⟩
  · isplitr; · iexact HC
    isplitl [HB] <;> iassumption
  imodintro
  unfold Φ₁ exit
  isplitl [HB HK Hb HA HW]
  · isplitl [HB HA HW]
    · isplitl [HB]; · iexact HB
      isplitl [HA] <;> iassumption
    isplitl [HK] <;> iassumption
  isplitl [HO]; · iexact HO
  iexact Hout

/-! ### The data of the launch -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outF m
  Φ t := match t with
    | ⟨0, _⟩ => Φ₀ m c
    | ⟨_ + 1, _⟩ => Φ₁ m c
  q _ := fullShare
  owed t := match t with
    | ⟨0, _⟩ => oweL c steps
    | ⟨_ + 1, _⟩ => 0

/-- A staging buffer held at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem body_ok (c : Dev nD) : BodyObligation (dats (F := F) m ρ 0 c) (defs₀ (F := F)) 𝒱₀ () Set.univ := fun t => by
  rw [fin_N0 t]
  rw [bigSep_W0, bigSep_W0]
  simp only [owns_stg]
  have hb : defs₀ (F := F) .tc 0 (t0_0, cfg0.slots t0_0) = bodyAt0 (F := F) t0_0 := rfl
  rw [hb]
  rw [show (dats m ρ 0 c).Φ t0_0.castSucc = Φ₀ m c from rfl]
  rw [show (dats m ρ 0 c).Φ t0_0.succ = Φ₁ m c from rfl]
  rw [show (dats m ρ 0 c).after 0 t0_0 = outF m from rfl]
  have h0 := body_run m c t0_0
  unfold wpD at h0
  clear hb
  generalize bodyAt0 (F := F) t0_0 = P at h0 ⊢
  refine BIBase.Entails.trans ?_ (BIBase.Entails.trans h0 (wp_mono _ _ _ fun _ => ?_))
  · unfold Dat.owesAt Pipeline.owesWithin ow
    iintro ⟨H, ⟨%W, %hW, HO⟩, ⟨%d, %f, %hf, Hf⟩⟩
    isplitl [H]; · iexact H
    isplitl [HO]
    · iexists W; iexact HO
    iexists f; iexact Hf
  · unfold Dat.owesAt Pipeline.owesWithin ow
    rw [show (dats m ρ 0 c).owed t0_0.succ = 0 from rfl]
    iintro ⟨H, ⟨%W, HO⟩, Hf⟩
    isplitl [H]; · iexact H
    isplitl [HO]
    · iexists W
      isplitr; · ipureintro; exact fun _ _ => Or.inl trivial
      iexact HO
    iexists (outF m)
    isplitr; · (ipureintro; rfl)
    iexact Hf

theorem share_full (c : Dev nD) (w : Fin cfg0.W) : (dats m ρ 0 c).share w = fullShare := by unfold Dat.share; split <;> rfl

theorem above_stage (c : Dev nD) : above (lv ((c : Thread nD τ), .dma cc0_sem0_0) ()) steps = true := by
  show above 0 steps = true
  decide +kernel
theorem waits (c : Dev nD) : (levAts L lv : sProp 𝕄) ⊢ Pipeline.cellsWaits cfgs (dats m ρ) () 0 c :=
  Pipeline.cellsWaits_intro cfgs (dats m ρ) () 0 c fun w s t => by
    obtain rfl : w = (0 : Fin 1) := Subsingleton.elim _ _
    rcases t with ⟨_ | _, ht⟩
    · refine mayWait c _ steps ?_
      exact above_stage c
    · show _ ⊢ MayWait _ _ _ 0
      rw [MayWait_zero]; iintro -; iempintro

theorem entry_intro (c : Dev nD) :
    iprop(Pipeline.unscopedRestP Pipeline.Prefetch.none cfg0.spec c (fun b => m ((c : Thread nD τ).loc b)) ∗ levAts L lv
        ∗ Pipeline.launchCred (fun c => oweL c steps) c ∗ prngReg c (ρ c) ∗ given m c)
      ⊢ |={Set.univ}=> iprop(entry m c ∗ emp) := by
  rw [Pipeline.unscopedRestP_none, unscopedRest0_eq]
  unfold entry given
  iintro ⟨⟨HA, HW⟩, #Hl, Hc, -, ⟨%K, #HR, Hg⟩⟩
  imodintro
  isplitl
  · isplitl [Hg]
    · iexists K
      isplitr
      · iapply (Ctx_intro m K)
        isplitr; · iexact HR
        unfold ranks; iexact Hl
      iexact Hg
    isplitl [Hc]; · iapply (creds m c steps); iexact Hc
    isplitl [HA]; · iexact HA
    iexact HW
  · iempintro

theorem rest_eq (c : Dev nD) : (Pipeline.scopedRest cfg0.spec c : sProp 𝕄) = bufs c := scopedRest0_eq c

theorem phi_intro (c : Dev nD) :
    iprop(entry m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, rest_eq]
  unfold Φ₀
  iintro ⟨Hs, -, Hr⟩
  isplitl [Hs] <;> iassumption

theorem phi_exit (c : Dev nD) : (dats m ρ 0 c).Φ (Fin.last cfg0.N) ⊢ iprop(exit m c ∗ osems c ∗ Pipeline.scopedRest cfg0.spec c) := by
  rw [show (dats m ρ 0 c).Φ (Fin.last cfg0.N) = Φ₁ m c from rfl, rest_eq]
  exact Entails.refl _

/-- What a device's memory shows at the end. -/
def shows (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0) ∧ s.mem ((c : Thread nD τ).loc main_arg1) = m ((c : Thread nD τ).loc main_arg1)

theorem read_exit (c : Dev nD) (s : Phys nD τ sig (Elt F)) : iprop(exit m c ∗ emp ∗ SI s) ⊢ |={Set.univ}=> iprop(⌜shows m c s.mem⌝ ∗ SI s) := by
  unfold exit
  iintro ⟨⟨Hu, HA, HW⟩, -, HS⟩
  icombine HS HA gives %hA
  icombine HS HW gives %hW
  imod (Pipeline.unscopedSems0_read (X := unscopedSems0 c) (c := c) fupd_intro s) $$ [Hu HS] with ⟨%hu, HS⟩
  · isplitl [Hu] <;> iassumption
  imodintro
  isplitr
  · ipureintro; exact ⟨hu, Buf.eq_of_forall_mem_univ hA, Buf.eq_of_forall_mem_univ hW⟩
  iexact HS

/-- The result array at the end holds the result. -/
theorem result_eq (c : Dev nD) : (dats m ρ 0 c).arrAt (0 : Fin 1) cfg0.N = outF m := by
  refine (dats m ρ 0 c).arrAt_eq_of_after_last (0 : Fin 1) t0_0 (by decide +kernel) _ fun j => ?_
  rfl

/-- Every run of the program, for any float values, from any memory with the semaphores at zero, ends; then every device
    holds the result and its arguments as they were, and every semaphore is at zero. -/
theorem run_main : θ_run defs (onTc (τ := τ) (main (F := F))) (s₀ m ρ) (fun r => (∀ c : Dev nD,
      r.2.mem ((c : Thread nD τ).loc main_v1) = outF m
      ∧ r.2.mem ((c : Thread nD τ).loc main_arg0) = m ((c : Thread nD τ).loc main_arg0) ∧ r.2.mem ((c : Thread nD τ).loc main_arg1) = m ((c : Thread nD τ).loc main_arg1))
    ∧ r.2.sem = fun _ => 0) :=
  by
  refine Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := ?_) (hne := ?_) (harr := ?_) (hstage := ?_) (hshare := ?_)
    (hdistinct := ?_)
    (O₀ := fun c => oweL c steps) (howed₀ := ?_) (howedN := ?_)
    (L := L) (lv := lv) (hL := ?_) (hwaits := ?_)
    (G := dealt m) (G' := given m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := ?_)
    (hA := ?_) (hpf := fun _ k => k.elim0)
    (X := entry m) (Y := exit m) (Z := fun _ => iprop(emp))
    (hX := ?_) (hin := ?_) (hout := ?_)
    (QY := fun c s => shows m c s)
    (hY := fun c s' => read_exit m c s')
    (hQ := fun _ h hs => ⟨fun c => ⟨((h c).1 (0 : Fin 1)).trans (result_eq m ρ c), (h c).2.2.2⟩, sem_eq_zero hs fun c => (h c).2.2.1⟩)
  · exact fun c => (body_ok m ρ c).loose
  · exact block_pos0
  · exact arr_whole0
  · exact stage_whole0
  · exact (share_full m ρ)
  · exact winFacts0.arr_inj
  · exact (fun _ => rfl)
  · exact (fun _ => rfl)
  · exact L_of_ne
  · exact (waits m ρ)
  · exact (glob m)
  · exact (fun _ _ => rfl)
  · exact (entry_intro m ρ)
  · exact (phi_intro m ρ)
  · exact (phi_exit m ρ)

end Cert.Ring

end
-- ==== Proof.Frames.lean ====
/-
  The three frames: each program runs to its end, leaves its arguments as they were, and every semaphore at zero. The
  kernel's own text and its idealization are the same text, so one run, for any float values, gives both.
-/
module

public import proofs.«01_k».proof.Defs
public import proofs.«01_k».proof.Proof.Run
public import proofs.«01_k».proof.Proof.Gen.Kernel
public import proofs.«01_k».proof.Proof.Gen.ReferenceIdeal.Run

@[expose] public section

set_option maxRecDepth 20000

noncomputable section

namespace Cert.Ring

open Idealize.ShloMosaic Idealize.SL.Sem

open Cert.KernelIdeal in
/-- The run with the result dropped, for any table that is the kernel's. -/
theorem run_kept {F : FTy → Type} [FloatOps F] (m : (ℓ : Loc nD τ sig) → Buf (Elt F) ℓ) (ρ : Dev nD → PrngReg)
    (D : Defs nD τ sig (Elt F) (Pipeline.Sig Λ₀ (Fin 1) fun p => (pcfgs (F := F) p).Adm)) (hD : D = defs) :
    θ_run D (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  subst hD
  exact (θ_run defs _ _).mono (fun _ h => ⟨fun c => (h.1 c).2, h.2⟩) (run_main m ρ)

theorem frame_ideal : Cert.quiescent_KernelIdeal := fun m ρ _ => run_kept m ρ _ rfl

/-- The two texts are one: the same body, hence the same table. -/
theorem body_same : Cert.Kernel.defs₀ (F := Bits) = Cert.KernelIdeal.defs₀ (F := Bits) := by
  unfold Cert.Kernel.defs₀ Cert.KernelIdeal.defs₀
  refine congrArg Defs.onTc (funext fun l => ?_)
  match l with
  | 0 =>
    funext ⟨t, s⟩
    rfl
theorem defs_same : Cert.Kernel.defs (F := Bits) = Cert.KernelIdeal.defs (F := Bits) :=
  congrArg (Pipeline.defs Cert.KernelIdeal.pcfgs) body_same

theorem frame_kernel : Cert.quiescent_Kernel := fun m ρ _ => run_kept (F := Bits) m ρ _ defs_same

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Ring

end
-- ==== Proof.Value.lean ====
/-
  The value: what every device's result holds is, over the extended reals, the product of the sum of the blocks with the
  weight.
-/
module

public import proofs.«01_k».proof.Defs
public import proofs.«01_k».proof.Proof.Run
public import proofs.«01_k».proof.Proof.Gen.ReferenceIdeal.Run
public import Idealize.ShloMosaic.Lib.Pipeline.ValueKit

@[expose] public section

set_option maxRecDepth 20000

noncomputable section

namespace Cert.Ring

open Cert.KernelIdeal Cert.KernelIdeal.Gen
open Idealize.ShloMosaic Idealize.SL.Sem
open Idealize.ShloMosaic.TcCoe
open scoped BigOperators

/-! ### The sum over the devices -/

/-- The device `i` places back on the ring, in direction `d`. -/
def back (d : Fin 2) : ℕ → Dev nD → Dev nD
  | 0, c => c
  | i + 1, c => back d i (prv d c)

theorem back_eq (d : Fin 2) (i : Fin 8) (c : Dev nD) : back d i.val c = mkD (gOf c) ((![qOf c - i, qOf c + i] : Fin 2 → Fin 8) d) := by
  revert d i c; decide +kernel

/-- Every device is a number of places back from a device of one's own column, in one way. -/
def place (d : Fin 2) (c : Dev nD) (x : Fin 4 × Fin 8) : Dev nD := back d x.2.val (cz x.1 c)
theorem place_surj (d : Fin 2) (c : Dev nD) : Function.Surjective (place d c) := fun e => by
  refine ⟨(gOf e - gOf c, (![qOf c - qOf e, qOf e - qOf c] : Fin 2 → Fin 8) d), ?_⟩
  revert d c e; decide +kernel
theorem place_bij (d : Fin 2) (c : Dev nD) : Function.Bijective (place d c) :=
  (Fintype.bijective_iff_surjective_and_card _).2 ⟨place_surj d c, by simp [nD]⟩

variable (m : (ℓ : Loc nD τ sig) → Buf (Elt Ideal) ℓ)

theorem psum_eq (d : Fin 2) (s : ℕ) (c : Dev nD) (r k : ℕ) :
    (psum m d s c r k : EReal) = ∑ i : Fin (s + 1), (blkN m (back d i.val c) r k : EReal) := by
  induction s generalizing c with
  | zero => simp [psum, back]
  | succ s ih =>
    rw [Fin.sum_univ_succ, add_comm (blkN m (back d (0 : Fin (s + 1 + 1)).val c) r k : EReal)]
    show (psum m d s (prv d c) r k : EReal) + blkN m c r k = _
    rw [ih]
    rfl

theorem allN_eq (c : Dev nD) (r k : ℕ) : (allN m c r k : EReal) = ∑ e : Dev nD, (blkN m e r k : EReal) := by
  rw [← (place_bij (dirN k) c).sum_comp (fun e => (blkN m e r k : EReal)), Fintype.sum_prod_type, Fin.sum_univ_four]
  have h (a : Fin 4) : (rowN m (cz a c) r k : EReal) = ∑ i : Fin 8, (blkN m (place (dirN k) c (a, i)) r k : EReal) :=
    psum_eq m (dirN k) 7 (cz a c) r k
  show ((rowN m c r k : EReal) + rowN m (cz 1 c) r k) + (rowN m (cz 2 c) r k + rowN m (cz 3 c) r k) = _
  rw [← h 0, ← h 1, ← h 2, ← h 3, cz_zero, add_assoc (_ + _ : EReal)]

/-! ### The product -/

theorem mm_at (c : Dev nD) (d : Fin 2) (x : S64x512.Idx) :
    (mmF m c d x : EReal) = ∑ k : Fin 1024, (sumF m c (ix2 (x 0) k) : EReal) * halfW m c d (ix2 k (x 1)) := by
  unfold mmF
  pointwise

/-- What the reference computes from the whole arrays. -/
abbrev refT (X : FVec Ideal Cert.ReferenceIdeal.S65536x1024 .f32) (W : FVec Ideal Cert.ReferenceIdeal.S1024x1024 .f32) :
    FVec Ideal Cert.ReferenceIdeal.S2048x1024 .f32 :=
  Host.dotGeneral Cert.ReferenceIdeal.dot_S2048x1024_S1024x1024_S2048x1024_1_0_0_1_n_n none
    (Host.reduceAdd (shapeCast _ X Cert.ReferenceIdeal.Gen.shapeCasts_S65536x1024_S32x2048x1024) (constant Cert.ReferenceIdeal.S_ .f32 0x00000000#32)
      Cert.ReferenceIdeal.Gen.reducesTo_S32x2048x1024_S2048x1024_d0 Cert.ReferenceIdeal.Gen.h_S_) W

theorem ref_at (X : FVec Ideal Cert.ReferenceIdeal.S65536x1024 .f32) (W : FVec Ideal Cert.ReferenceIdeal.S1024x1024 .f32)
    (y : Cert.ReferenceIdeal.S2048x1024.Idx) :
    (refT X W y : EReal) = ∑ k : Fin 1024, (∑ e : Fin 32, (X (ix2 (⟨e.val * 2048 + (y 0).val, by have : (y 0).val < 2048 := (y 0).isLt; omega⟩ : Fin 65536) k) : EReal)) * W (ix2 k (y 1)) := by
  pointwise [refT]

/-- An index of a device's block, in the whole array. -/
theorem blk_at (X : FVec Ideal Cert.ReferenceIdeal.S65536x1024 .f32) (e : Fin 32) (r : Fin 2048) (k : Fin 1024) :
    (Layout.block ⟨2, ![2048, 1024]⟩ ⟨2, ![65536, 1024]⟩ 0 32 e X) (ix2 r k) = X (ix2 (⟨e.val * 2048 + r.val, by omega⟩ : Fin 65536) k) := by
  rw [Layout.block_apply]
  exact congrArg X (idx2_ext rfl rfl)

/-- The result is the reference's. -/
theorem out_eq (X : FVec Ideal Cert.ReferenceIdeal.S65536x1024 .f32) (W : FVec Ideal Cert.ReferenceIdeal.S1024x1024 .f32)
    (hX : ∀ c : Dev nD, m ((c.tc : Thread nD τ).loc main_arg0) = Layout.block ⟨2, ![2048, 1024]⟩ ⟨2, ![65536, 1024]⟩ 0 32 c X)
    (hW : ∀ c : Dev nD, m ((c.tc : Thread nD τ).loc main_arg1) = W) : outF m = refT X W := by
  funext y
  have hr : (y 0).val < 2048 := (y 0).isLt
  have hk : (y 1).val < 1024 := (y 1).isLt
  refine Eq.trans ?_ (ref_at X W y).symm
  refine (mm_at m _ _ _).trans (Finset.sum_congr rfl fun k _ => congrArg₂ (· * · : EReal → EReal → EReal) ?_ ?_)
  · refine (allN_eq m _ _ _).trans (Finset.sum_congr rfl fun e _ => ?_)
    refine (blkN_at m e (ix2 (⟨(y 0).val, hr⟩ : Fin 2048) k) _ _ ?_ rfl).trans ?_
    · show 256 * (qOf (ownN (y 0).val) + 1).val + 64 * (gOf (ownN (y 0).val) + 1).val + (y 0).val % 64 = (y 0).val
      unfold ownN
      rw [qOf_mkD, gOf_mkD, sub_add_cancel, sub_add_cancel]
      show 256 * ((y 0).val / 256 % 8) + 64 * ((y 0).val / 64 % 4) + (y 0).val % 64 = (y 0).val
      omega
    · exact (congrFun (hX e) _).trans (blk_at X e ⟨(y 0).val, hr⟩ k)
  · refine (congrFun (hW _) _).trans (congrArg W (idx2_ext rfl ?_))
    show 512 * (dirN (y 1).val).val + (y 1).val % 512 = (y 1).val
    unfold dirN
    split
    · show 512 * 0 + (y 1).val % 512 = (y 1).val; omega
    · show 512 * 1 + (y 1).val % 512 = (y 1).val; omega

theorem algebraic : Cert.algebraic_KernelIdeal_ReferenceIdeal := fun m g m' g' _ hag =>
  ⟨refT (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans (out_eq m _ _ (fun c => (hag c).1) fun c => (hag c).2), (h.1 c).2⟩)
      (run_main (F := Ideal) m g),
    (θ_run Cert.ReferenceIdeal.defs _ _).mono (fun _ h => h 0) (Cert.ReferenceIdeal.Value.run (F := Ideal) m' g')⟩

end Cert.Ring

end
-- ==== Proof.lean ====
/-
  The proof of `Cert.Claim`: the three frames (Proof/Frames.lean), the idealization, which rewrites nothing, and the value
  (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Ring.frame_kernel, Cert.Ring.frame_ideal, Cert.Ring.frame_reference, trivial, Cert.Ring.algebraic⟩

end Cert.Proof

end
